-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_bounds [hPre_finite_bounds : Cert.Pre_finite_bounds.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_bounds.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_bounds [hPre_finite_bounds : Cert.Pre_finite_bounds.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_bounds.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_head_means [hPre_head_means : Cert.Pre_head_means.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_head_means.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_head_means [hPre_head_means : Cert.Pre_head_means.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_head_means.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_bounds [hKernel4Ideal : Cert.Kernel4Ideal.Facts] [hPre_finite_bounds : Cert.Pre_finite_bounds.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_bounds m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_bounds [hReference4Ideal : Cert.Reference4Ideal.Facts] [hPre_finite_bounds : Cert.Pre_finite_bounds.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_bounds m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Kernel5Ideal_pre_head_means [hKernel5Ideal : Cert.Kernel5Ideal.Facts] [hPre_head_means : Cert.Pre_head_means.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_head_means m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Reference5Ideal_pre_head_means [hReference5Ideal : Cert.Reference5Ideal.Facts] [hPre_head_means : Cert.Pre_head_means.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_head_means m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def preserves_Kernel_KernelIdeal : Prop :=
  IdealRules.named_const.Statement Cert.KernelIdeal.κ "scale" .f32 0x3E38AA3B#32 (((8 * (Real.log 2))⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v30)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  IdealRules.named_const.Statement Cert.Kernel4Ideal.κ "per_log2" .f32 0x3FB8AA3B#32 (((Real.log 2)⁻¹ : ℝ) : EReal)

def algebraic_Kernel4Ideal_Reference4Ideal_pre_finite_bounds [hKernel4Ideal : Cert.Kernel4Ideal.Facts] [hReference4Ideal : Cert.Reference4Ideal.Facts] [hPre_finite_bounds : Cert.Pre_finite_bounds.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_bounds m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)) (v3 : (c : Dev Cert.Kernel4Ideal.nD) → Buf (Elt Ideal) ((c.tc : Thread Cert.Kernel4Ideal.nD Cert.Kernel4Ideal.τ).loc Cert.Kernel4Ideal.main_v6_3)) (v4 : (c : Dev Cert.Kernel4Ideal.nD) → Buf (Elt Ideal) ((c.tc : Thread Cert.Kernel4Ideal.nD Cert.Kernel4Ideal.τ).loc Cert.Kernel4Ideal.main_v6_4)) (v5 : (c : Dev Cert.Kernel4Ideal.nD) → Buf (Elt Ideal) ((c.tc : Thread Cert.Kernel4Ideal.nD Cert.Kernel4Ideal.τ).loc Cert.Kernel4Ideal.main_v6_5)) (v6 : (c : Dev Cert.Kernel4Ideal.nD) → Buf (Elt Ideal) ((c.tc : Thread Cert.Kernel4Ideal.nD Cert.Kernel4Ideal.τ).loc Cert.Kernel4Ideal.main_v6_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_v6_3) = v3 c
          ∧ r.2.mem ((c.tc : Thread Cert.Kernel4Ideal.nD Cert.Kernel4Ideal.τ).loc Cert.Kernel4Ideal.main_v6_4) = v4 c
          ∧ r.2.mem ((c.tc : Thread Cert.Kernel4Ideal.nD Cert.Kernel4Ideal.τ).loc Cert.Kernel4Ideal.main_v6_5) = v5 c
          ∧ r.2.mem ((c.tc : Thread Cert.Kernel4Ideal.nD Cert.Kernel4Ideal.τ).loc Cert.Kernel4Ideal.main_v6_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v117) = v0 c
          ∧ r.2.mem ((c.tc : Thread Cert.Reference4Ideal.nD Cert.Reference4Ideal.τ).loc Cert.Reference4Ideal.main_v118) = v1 c
          ∧ r.2.mem ((c.tc : Thread Cert.Reference4Ideal.nD Cert.Reference4Ideal.τ).loc Cert.Reference4Ideal.main_v119) = v2 c
          ∧ r.2.mem ((c.tc : Thread Cert.Reference4Ideal.nD Cert.Reference4Ideal.τ).loc Cert.Reference4Ideal.main_v85) = v3 c
          ∧ r.2.mem ((c.tc : Thread Cert.Reference4Ideal.nD Cert.Reference4Ideal.τ).loc Cert.Reference4Ideal.main_v116) = v4 c
          ∧ r.2.mem ((c.tc : Thread Cert.Reference4Ideal.nD Cert.Reference4Ideal.τ).loc Cert.Reference4Ideal.main_v120) = v5 c
          ∧ r.2.mem ((c.tc : Thread Cert.Reference4Ideal.nD Cert.Reference4Ideal.τ).loc Cert.Reference4Ideal.main_v121) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "scale" .f32 0x3E38AA3B#32 (((8 * (Real.log 2))⁻¹ : ℝ) : EReal)
  ∧ IdealRules.named_const.Statement Cert.Kernel5Ideal.κ "per_tau" .f32 0x3DB8AA3B#32 (((16 * (Real.log 2))⁻¹ : ℝ) : EReal)

def algebraic_Kernel5Ideal_Reference5Ideal_pre_head_means [hKernel5Ideal : Cert.Kernel5Ideal.Facts] [hReference5Ideal : Cert.Reference5Ideal.Facts] [hPre_head_means : Cert.Pre_head_means.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_head_means m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v56_0)) (v1 : (c : Dev Cert.Kernel5Ideal.nD) → Buf (Elt Ideal) ((c.tc : Thread Cert.Kernel5Ideal.nD Cert.Kernel5Ideal.τ).loc Cert.Kernel5Ideal.main_v56_1)) (v2 : (c : Dev Cert.Kernel5Ideal.nD) → Buf (Elt Ideal) ((c.tc : Thread Cert.Kernel5Ideal.nD Cert.Kernel5Ideal.τ).loc Cert.Kernel5Ideal.main_v56_2)) (v3 : (c : Dev Cert.Kernel5Ideal.nD) → Buf (Elt Ideal) ((c.tc : Thread Cert.Kernel5Ideal.nD Cert.Kernel5Ideal.τ).loc Cert.Kernel5Ideal.main_v56_3)) (v4 : (c : Dev Cert.Kernel5Ideal.nD) → Buf (Elt Ideal) ((c.tc : Thread Cert.Kernel5Ideal.nD Cert.Kernel5Ideal.τ).loc Cert.Kernel5Ideal.main_v56_4)) (v5 : (c : Dev Cert.Kernel5Ideal.nD) → Buf (Elt Ideal) ((c.tc : Thread Cert.Kernel5Ideal.nD Cert.Kernel5Ideal.τ).loc Cert.Kernel5Ideal.main_v56_5)) (v6 : (c : Dev Cert.Kernel5Ideal.nD) → Buf (Elt Ideal) ((c.tc : Thread Cert.Kernel5Ideal.nD Cert.Kernel5Ideal.τ).loc Cert.Kernel5Ideal.main_v56_6)) (v7 : (c : Dev Cert.Kernel5Ideal.nD) → Buf (Elt Ideal) ((c.tc : Thread Cert.Kernel5Ideal.nD Cert.Kernel5Ideal.τ).loc Cert.Kernel5Ideal.main_v56_7)) (v8 : (c : Dev Cert.Kernel5Ideal.nD) → Buf (Elt Ideal) ((c.tc : Thread Cert.Kernel5Ideal.nD Cert.Kernel5Ideal.τ).loc Cert.Kernel5Ideal.main_v56_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v56_0) = v0 c
          ∧ r.2.mem ((c.tc : Thread Cert.Kernel5Ideal.nD Cert.Kernel5Ideal.τ).loc Cert.Kernel5Ideal.main_v56_1) = v1 c
          ∧ r.2.mem ((c.tc : Thread Cert.Kernel5Ideal.nD Cert.Kernel5Ideal.τ).loc Cert.Kernel5Ideal.main_v56_2) = v2 c
          ∧ r.2.mem ((c.tc : Thread Cert.Kernel5Ideal.nD Cert.Kernel5Ideal.τ).loc Cert.Kernel5Ideal.main_v56_3) = v3 c
          ∧ r.2.mem ((c.tc : Thread Cert.Kernel5Ideal.nD Cert.Kernel5Ideal.τ).loc Cert.Kernel5Ideal.main_v56_4) = v4 c
          ∧ r.2.mem ((c.tc : Thread Cert.Kernel5Ideal.nD Cert.Kernel5Ideal.τ).loc Cert.Kernel5Ideal.main_v56_5) = v5 c
          ∧ r.2.mem ((c.tc : Thread Cert.Kernel5Ideal.nD Cert.Kernel5Ideal.τ).loc Cert.Kernel5Ideal.main_v56_6) = v6 c
          ∧ r.2.mem ((c.tc : Thread Cert.Kernel5Ideal.nD Cert.Kernel5Ideal.τ).loc Cert.Kernel5Ideal.main_v56_7) = v7 c
          ∧ r.2.mem ((c.tc : Thread Cert.Kernel5Ideal.nD Cert.Kernel5Ideal.τ).loc Cert.Kernel5Ideal.main_v56_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v178) = v0 c
          ∧ r.2.mem ((c.tc : Thread Cert.Reference5Ideal.nD Cert.Reference5Ideal.τ).loc Cert.Reference5Ideal.main_v179) = v1 c
          ∧ r.2.mem ((c.tc : Thread Cert.Reference5Ideal.nD Cert.Reference5Ideal.τ).loc Cert.Reference5Ideal.main_v180) = v2 c
          ∧ r.2.mem ((c.tc : Thread Cert.Reference5Ideal.nD Cert.Reference5Ideal.τ).loc Cert.Reference5Ideal.main_v181) = v3 c
          ∧ r.2.mem ((c.tc : Thread Cert.Reference5Ideal.nD Cert.Reference5Ideal.τ).loc Cert.Reference5Ideal.main_v60) = v4 c
          ∧ r.2.mem ((c.tc : Thread Cert.Reference5Ideal.nD Cert.Reference5Ideal.τ).loc Cert.Reference5Ideal.main_v77) = v5 c
          ∧ r.2.mem ((c.tc : Thread Cert.Reference5Ideal.nD Cert.Reference5Ideal.τ).loc Cert.Reference5Ideal.main_v182) = v6 c
          ∧ r.2.mem ((c.tc : Thread Cert.Reference5Ideal.nD Cert.Reference5Ideal.τ).loc Cert.Reference5Ideal.main_v183) = v7 c
          ∧ r.2.mem ((c.tc : Thread Cert.Reference5Ideal.nD Cert.Reference5Ideal.τ).loc Cert.Reference5Ideal.main_v184) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_finite_bounds : Cert.Pre_finite_bounds.Facts) (hPre_head_means : Cert.Pre_head_means.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_bounds (hKernel4Ideal := hKernel4Ideal) (hPre_finite_bounds := hPre_finite_bounds)
    ∧ quiescent_Reference4Ideal (hReference4Ideal := hReference4Ideal)
    ∧ quiescent_Reference4Ideal_pre_finite_bounds (hReference4Ideal := hReference4Ideal) (hPre_finite_bounds := hPre_finite_bounds)
    ∧ quiescent_Kernel5 (hKernel5 := hKernel5)
    ∧ quiescent_Kernel5Ideal (hKernel5Ideal := hKernel5Ideal)
    ∧ quiescent_Kernel5Ideal_pre_head_means (hKernel5Ideal := hKernel5Ideal) (hPre_head_means := hPre_head_means)
    ∧ quiescent_Reference5Ideal (hReference5Ideal := hReference5Ideal)
    ∧ quiescent_Reference5Ideal_pre_head_means (hReference5Ideal := hReference5Ideal) (hPre_head_means := hPre_head_means)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_bounds (hKernel4Ideal := hKernel4Ideal) (hReference4Ideal := hReference4Ideal) (hPre_finite_bounds := hPre_finite_bounds)
    ∧ preserves_Kernel5_Kernel5Ideal
    ∧ algebraic_Kernel5Ideal_Reference5Ideal_pre_head_means (hKernel5Ideal := hKernel5Ideal) (hReference5Ideal := hReference5Ideal) (hPre_head_means := hPre_head_means)
-- ==== Pre_finite_bounds.lean ====
abbrev S8x4096x1024 : Shape := ⟨3, ![8, 4096, 1024]⟩
abbrev S2x16x6144 : Shape := ⟨3, ![2, 16, 6144]⟩
abbrev S2x1024 : Shape := ⟨2, ![2, 1024]⟩
abbrev S1x1024x5120 : Shape := ⟨3, ![1, 1024, 5120]⟩
abbrev S2x2x1024 : Shape := ⟨3, ![2, 2, 1024]⟩
abbrev S_ : Shape := ⟨0, ![]⟩

class Facts : Prop where
  bcast_S_S2x2x1024 : S_.BroadcastsInDim S2x2x1024 (![] : Fin 0 → Fin S2x2x1024.rank)
  reducesTo_S2x2x1024_S_d0_1_2 : S2x2x1024.ReducesTo [0, 1, 2] S_
  h_S_ : 0 < S_.numel

variable [Facts]

def fn {F : FTy → Type} [FloatOps F] (main_arg0 : FVec F S8x4096x1024 .f32) (main_arg1 : FVec F S2x16x6144 .f32) (main_arg2 : FVec F S2x1024 .f32) (main_arg3 : FVec F S1x1024x5120 .f32) (main_arg4 : FVec F S2x2x1024 .f32) : IVec S_ 1 :=
  let main_v0 : FVec F S2x2x1024 .f32 := Host.absf main_arg4
  let main_cst : FVec F S_ .f32 := constant S_ .f32 0x7F800000#32
  let main_v1 : FVec F S2x2x1024 .f32 := broadcastInDim S2x2x1024 ![] bcast_S_S2x2x1024 main_cst
  let main_v2 : IVec S2x2x1024 1 := cmpf .olt main_v0 main_v1
  let main_c : IVec S_ 1 := constantI S_ 1 1#1
  let main_v3 : IVec S_ 1 := (fun x v => Host.reduce IntOp.andi x v reducesTo_S2x2x1024_S_d0_1_2 h_S_) main_v2 main_c
  main_v3
-- ==== Pre_finite_scores.lean ====
abbrev S8x2x4x4096x64 : Shape := ⟨5, ![8, 2, 4, 4096, 64]⟩
abbrev S8x2x4352x64 : Shape := ⟨4, ![8, 2, 4352, 64]⟩
abbrev S_ : Shape := ⟨0, ![]⟩

class Facts : Prop where
  bcast_S_S8x2x4x4096x64 : S_.BroadcastsInDim S8x2x4x4096x64 (![] : Fin 0 → Fin S8x2x4x4096x64.rank)
  reducesTo_S8x2x4x4096x64_S_d0_1_2_3_4 : S8x2x4x4096x64.ReducesTo [0, 1, 2, 3, 4] S_
  h_S_ : 0 < S_.numel
  bcast_S_S8x2x4352x64 : S_.BroadcastsInDim S8x2x4352x64 (![] : Fin 0 → Fin S8x2x4352x64.rank)
  reducesTo_S8x2x4352x64_S_d0_1_2_3 : S8x2x4352x64.ReducesTo [0, 1, 2, 3] S_

variable [Facts]

def fn {F : FTy → Type} [FloatOps F] (main_arg0 : FVec F S8x2x4x4096x64 .f32) (main_arg1 : FVec F S8x2x4352x64 .f32) (main_arg2 : FVec F S8x2x4352x64 .f32) : IVec S_ 1 :=
  let main_v0 : FVec F S8x2x4x4096x64 .f32 := Host.absf main_arg0
  let main_cst : FVec F S_ .f32 := constant S_ .f32 0x7F800000#32
  let main_v1 : FVec F S8x2x4x4096x64 .f32 := broadcastInDim S8x2x4x4096x64 ![] bcast_S_S8x2x4x4096x64 main_cst
  let main_v2 : IVec S8x2x4x4096x64 1 := cmpf .olt main_v0 main_v1
  let main_c : IVec S_ 1 := constantI S_ 1 1#1
  let main_v3 : IVec S_ 1 := (fun x v => Host.reduce IntOp.andi x v reducesTo_S8x2x4x4096x64_S_d0_1_2_3_4 h_S_) main_v2 main_c
  let main_v4 : FVec F S8x2x4352x64 .f32 := Host.absf main_arg1
  let main_cst_0 : FVec F S_ .f32 := constant S_ .f32 0x7F800000#32
  let main_v5 : FVec F S8x2x4352x64 .f32 := broadcastInDim S8x2x4352x64 ![] bcast_S_S8x2x4352x64 main_cst_0
  let main_v6 : IVec S8x2x4352x64 1 := cmpf .olt main_v4 main_v5
  let main_c_1 : IVec S_ 1 := constantI S_ 1 1#1
  let main_v7 : IVec S_ 1 := (fun x v => Host.reduce IntOp.andi x v reducesTo_S8x2x4352x64_S_d0_1_2_3 h_S_) main_v6 main_c_1
  let main_v8 : IVec S_ 1 := andi main_v3 main_v7
  main_v8
-- ==== Pre_head_means.lean ====
abbrev S8x4096x1024 : Shape := ⟨3, ![8, 4096, 1024]⟩
abbrev S2x16x6144 : Shape := ⟨3, ![2, 16, 6144]⟩
abbrev S2x1024 : Shape := ⟨2, ![2, 1024]⟩
abbrev S1x1024x2336 : Shape := ⟨3, ![1, 1024, 2336]⟩
abbrev S1x2x16x256 : Shape := ⟨4, ![1, 2, 16, 256]⟩
abbrev S1x2x256 : Shape := ⟨3, ![1, 2, 256]⟩
abbrev S1x64 : Shape := ⟨2, ![1, 64]⟩
abbrev S4096x32 : Shape := ⟨2, ![4096, 32]⟩
abbrev S8x64x8x64 : Shape := ⟨4, ![8, 64, 8, 64]⟩
abbrev S2x64x2x64 : Shape := ⟨4, ![2, 64, 2, 64]⟩
abbrev S8x8 : Shape := ⟨2, ![8, 8]⟩
abbrev S2x2 : Shape := ⟨2, ![2, 2]⟩
abbrev S8x1x8x1 : Shape := ⟨4, ![8, 1, 8, 1]⟩
abbrev S_ : Shape := ⟨0, ![]⟩
abbrev S2x1x2x1 : Shape := ⟨4, ![2, 1, 2, 1]⟩

class Facts : Prop where
  bcast_S8x8_S8x1x8x1_0_2 : S8x8.BroadcastsInDim S8x1x8x1 (![0, 2] : Fin 2 → Fin S8x1x8x1.rank)
  bcast_S8x1x8x1_S8x64x8x64_0_1_2_3 : S8x1x8x1.BroadcastsInDim S8x64x8x64 (![0, 1, 2, 3] : Fin 4 → Fin S8x64x8x64.rank)
  reducesTo_S8x64x8x64_S_d0_1_2_3 : S8x64x8x64.ReducesTo [0, 1, 2, 3] S_
  h_S_ : 0 < S_.numel
  bcast_S2x2_S2x1x2x1_0_2 : S2x2.BroadcastsInDim S2x1x2x1 (![0, 2] : Fin 2 → Fin S2x1x2x1.rank)
  bcast_S2x1x2x1_S2x64x2x64_0_1_2_3 : S2x1x2x1.BroadcastsInDim S2x64x2x64 (![0, 1, 2, 3] : Fin 4 → Fin S2x64x2x64.rank)
  reducesTo_S2x64x2x64_S_d0_1_2_3 : S2x64x2x64.ReducesTo [0, 1, 2, 3] S_

variable [Facts]

noncomputable abbrev lit0 : Fin 64 → BitVec 32 := fun
  | 0 => 0x3C800000#32 | 1 => 0x00000000#32 | 2 => 0x00000000#32 | 3 => 0x00000000#32 | 4 => 0x00000000#32 | 5 => 0x00000000#32 | 6 => 0x00000000#32 | 7 => 0x00000000#32
  | 8 => 0x00000000#32 | 9 => 0x3C800000#32 | 10 => 0x00000000#32 | 11 => 0x00000000#32 | 12 => 0x00000000#32 | 13 => 0x00000000#32 | 14 => 0x00000000#32 | 15 => 0x00000000#32
  | 16 => 0x00000000#32 | 17 => 0x00000000#32 | 18 => 0x3C800000#32 | 19 => 0x00000000#32 | 20 => 0x00000000#32 | 21 => 0x00000000#32 | 22 => 0x00000000#32 | 23 => 0x00000000#32
  | 24 => 0x00000000#32 | 25 => 0x00000000#32 | 26 => 0x00000000#32 | 27 => 0x3C800000#32 | 28 => 0x00000000#32 | 29 => 0x00000000#32 | 30 => 0x00000000#32 | 31 => 0x00000000#32
  | 32 => 0x00000000#32 | 33 => 0x00000000#32 | 34 => 0x00000000#32 | 35 => 0x00000000#32 | 36 => 0x3C800000#32 | 37 => 0x00000000#32 | 38 => 0x00000000#32 | 39 => 0x00000000#32
  | 40 => 0x00000000#32 | 41 => 0x00000000#32 | 42 => 0x00000000#32 | 43 => 0x00000000#32 | 44 => 0x00000000#32 | 45 => 0x3C800000#32 | 46 => 0x00000000#32 | 47 => 0x00000000#32
  | 48 => 0x00000000#32 | 49 => 0x00000000#32 | 50 => 0x00000000#32 | 51 => 0x00000000#32 | 52 => 0x00000000#32 | 53 => 0x00000000#32 | 54 => 0x3C800000#32 | 55 => 0x00000000#32
  | 56 => 0x00000000#32 | 57 => 0x00000000#32 | 58 => 0x00000000#32 | 59 => 0x00000000#32 | 60 => 0x00000000#32 | 61 => 0x00000000#32 | 62 => 0x00000000#32 | 63 => 0x3C800000#32
  | _ => 0#32

noncomputable abbrev lit1 : Fin 4 → BitVec 32 := fun
  | 0 => 0x3C800000#32 | 1 => 0x00000000#32 | 2 => 0x00000000#32 | 3 => 0x3C800000#32
  | _ => 0#32

def fn {F : FTy → Type} [FloatOps F] (main_arg0 : FVec F S8x4096x1024 .f32) (main_arg1 : FVec F S2x16x6144 .f32) (main_arg2 : FVec F S2x1024 .f32) (main_arg3 : FVec F S1x1024x2336 .f32) (main_arg4 : FVec F S1x2x16x256 .f32) (main_arg5 : FVec F S1x2x256 .f32) (main_arg6 : FVec F S1x64 .f32) (main_arg7 : FVec F S1x64 .f32) (main_arg8 : FVec F S4096x32 .f32) (main_arg9 : FVec F S4096x32 .f32) (main_arg10 : FVec F S8x64x8x64 .f32) (main_arg11 : FVec F S2x64x2x64 .f32) : IVec S_ 1 :=
  let main_cst : FVec F S8x8 .f32 := fun i => FloatOps.ofBits .f32 (lit0 (S8x8.rowMajor i))
  let main_cst_0 : FVec F S2x2 .f32 := fun i => FloatOps.ofBits .f32 (lit1 (S2x2.rowMajor i))
  let main_v0 : FVec F S8x1x8x1 .f32 := broadcastInDim S8x1x8x1 ![0, 2] bcast_S8x8_S8x1x8x1_0_2 main_cst
  let main_v1 : FVec F S8x64x8x64 .f32 := broadcastInDim S8x64x8x64 ![0, 1, 2, 3] bcast_S8x1x8x1_S8x64x8x64_0_1_2_3 main_v0
  let main_v2 : IVec S8x64x8x64 1 := cmpf .oeq main_arg10 main_v1
  let main_c : IVec S_ 1 := constantI S_ 1 1#1
  let main_v3 : IVec S_ 1 := (fun x v => Host.reduce IntOp.andi x v reducesTo_S8x64x8x64_S_d0_1_2_3 h_S_) main_v2 main_c
  let main_v4 : FVec F S2x1x2x1 .f32 := broadcastInDim S2x1x2x1 ![0, 2] bcast_S2x2_S2x1x2x1_0_2 main_cst_0
  let main_v5 : FVec F S2x64x2x64 .f32 := broadcastInDim S2x64x2x64 ![0, 1, 2, 3] bcast_S2x1x2x1_S2x64x2x64_0_1_2_3 main_v4
  let main_v6 : IVec S2x64x2x64 1 := cmpf .oeq main_arg11 main_v5
  let main_c_1 : IVec S_ 1 := constantI S_ 1 1#1
  let main_v7 : IVec S_ 1 := (fun x v => Host.reduce IntOp.andi x v reducesTo_S2x64x2x64_S_d0_1_2_3 h_S_) main_v6 main_c_1
  let main_v8 : IVec S_ 1 := andi main_v3 main_v7
  main_v8
-- ==== Kernel.lean ====
abbrev S8x2x4x4096x64 : Shape := ⟨5, ![8, 2, 4, 4096, 64]⟩
abbrev S8x2x4352x64 : Shape := ⟨4, ![8, 2, 4352, 64]⟩
abbrev S8x4096x4x2x64 : Shape := ⟨5, ![8, 4096, 4, 2, 64]⟩
abbrev S8x4096x512 : Shape := ⟨3, ![8, 4096, 512]⟩
abbrev S8x4352x2x64 : Shape := ⟨4, ![8, 4352, 2, 64]⟩
abbrev S8x4352x128 : Shape := ⟨3, ![8, 4352, 128]⟩
abbrev S_ : Shape := ⟨0, ![]⟩
abbrev S8x4352x64 : Shape := ⟨3, ![8, 4352, 64]⟩
abbrev S8x1x4352x64 : Shape := ⟨4, ![8, 1, 4352, 64]⟩
abbrev S8x4352x256 : Shape := ⟨3, ![8, 4352, 256]⟩
abbrev S8x256x128 : Shape := ⟨3, ![8, 256, 128]⟩
abbrev S8x256x256 : Shape := ⟨3, ![8, 256, 256]⟩
abbrev S8x4096x128 : Shape := ⟨3, ![8, 4096, 128]⟩
abbrev S8x4096x256 : Shape := ⟨3, ![8, 4096, 256]⟩
abbrev S1x256x512 : Shape := ⟨3, ![1, 256, 512]⟩
abbrev S1x256x128 : Shape := ⟨3, ![1, 256, 128]⟩
abbrev S1x256x256 : Shape := ⟨3, ![1, 256, 256]⟩
abbrev S1x4096x128 : Shape := ⟨3, ![1, 4096, 128]⟩
abbrev S1x4096x256 : Shape := ⟨3, ![1, 4096, 256]⟩
abbrev S4352x128 : Shape := ⟨2, ![4352, 128]⟩
abbrev S4352x256 : Shape := ⟨2, ![4352, 256]⟩
abbrev S256x128 : Shape := ⟨2, ![256, 128]⟩
abbrev S256x256 : Shape := ⟨2, ![256, 256]⟩
abbrev S4096x128 : Shape := ⟨2, ![4096, 128]⟩
abbrev S4096x256 : Shape := ⟨2, ![4096, 256]⟩
abbrev S256x4352 : Shape := ⟨2, ![256, 4352]⟩
abbrev S256 : Shape := ⟨1, ![256]⟩
abbrev S256x1 : Shape := ⟨2, ![256, 1]⟩

abbrev nBuf : Space → Nat
  | .hbm => 21
  | .vmem => 14
  | .smem => 0
  | _ => 0

abbrev bufTy : (tb : Table) → Fin (tcTables nBuf tb) → BufTy
  | .hbm, ⟨0, _⟩ => ⟨S8x2x4x4096x64, .f32⟩
  | .hbm, ⟨1, _⟩ => ⟨S8x2x4352x64, .f32⟩
  | .hbm, ⟨2, _⟩ => ⟨S8x2x4352x64, .f32⟩
  | .hbm, ⟨3, _⟩ => ⟨S8x4096x4x2x64, .f32⟩
  | .hbm, ⟨4, _⟩ => ⟨S8x4096x512, .f32⟩
  | .hbm, ⟨5, _⟩ => ⟨S8x4352x2x64, .f32⟩
  | .hbm, ⟨6, _⟩ => ⟨S8x4352x128, .f32⟩
  | .hbm, ⟨7, _⟩ => ⟨S8x4352x128, .bf16⟩
  | .hbm, ⟨8, _⟩ => ⟨S_, .f32⟩
  | .hbm, ⟨9, _⟩ => ⟨S8x4352x64, .f32⟩
  | .hbm, ⟨10, _⟩ => ⟨S8x1x4352x64, .f32⟩
  | .hbm, ⟨11, _⟩ => ⟨S8x4352x64, .f32⟩
  | .hbm, ⟨12, _⟩ => ⟨S8x1x4352x64, .f32⟩
  | .hbm, ⟨13, _⟩ => ⟨S8x4352x64, .f32⟩
  | .hbm, ⟨14, _⟩ => ⟨S8x4352x256, .f32⟩
  | .hbm, ⟨15, _⟩ => ⟨S8x4352x256, .bf16⟩
  | .hbm, ⟨16, _⟩ => ⟨S8x256x128, .bf16⟩
  | .hbm, ⟨17, _⟩ => ⟨S8x256x256, .bf16⟩
  | .hbm, ⟨18, _⟩ => ⟨S8x4096x128, .bf16⟩
  | .hbm, ⟨19, _⟩ => ⟨S8x4096x256, .bf16⟩
  | .hbm, ⟨20, _⟩ => ⟨S8x4096x512, .bf16⟩
  | .local _ .vmem, ⟨0, _⟩ => ⟨S1x256x512, .f32⟩
  | .local _ .vmem, ⟨1, _⟩ => ⟨S1x256x512, .f32⟩
  | .local _ .vmem, ⟨2, _⟩ => ⟨S1x256x128, .bf16⟩
  | .local _ .vmem, ⟨3, _⟩ => ⟨S1x256x128, .bf16⟩
  | .local _ .vmem, ⟨4, _⟩ => ⟨S1x256x256, .bf16⟩
  | .local _ .vmem, ⟨5, _⟩ => ⟨S1x256x256, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x256x512, .bf16⟩
  | .local _ .vmem, ⟨11, _⟩ => ⟨S1x256x512, .bf16⟩
  | .local _ .vmem, ⟨12, _⟩ => ⟨S4352x128, .bf16⟩
  | .local _ .vmem, ⟨13, _⟩ => ⟨S4352x256, .bf16⟩
  | _, _ => ⟨S8x2x4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "scale" => some (((8 * (Real.log 2))⁻¹ : ℝ) : EReal)
  | _ => none
-- ==== ReferenceIdeal.lean ====
abbrev S8x2x4x4096x64 : Shape := ⟨5, ![8, 2, 4, 4096, 64]⟩
abbrev S8x2x4352x64 : Shape := ⟨4, ![8, 2, 4352, 64]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x4096x4x2x64 : Shape := ⟨5, ![8, 4096, 4, 2, 64]⟩
abbrev S8x4096x512 : Shape := ⟨3, ![8, 4096, 512]⟩

abbrev nBuf : Space → Nat
  | .hbm => 25
  | .vmem => 0
  | .smem => 0
  | _ => 0

abbrev bufTy : (tb : Table) → Fin (tcTables nBuf tb) → BufTy
  | .hbm, ⟨0, _⟩ => ⟨S8x2x4x4096x64, .f32⟩
  | .hbm, ⟨1, _⟩ => ⟨S8x2x4352x64, .f32⟩
  | .hbm, ⟨2, _⟩ => ⟨S8x2x4352x64, .f32⟩
  | .hbm, ⟨3, _⟩ => ⟨S8x2x4x4096x4352, .f32⟩
  | .hbm, ⟨4, _⟩ => ⟨S_, .f32⟩
  | .hbm, ⟨5, _⟩ => ⟨S8x2x4x4096x4352, .f32⟩
  | .hbm, ⟨6, _⟩ => ⟨S8x2x4x4096x4352, .f32⟩
  | .hbm, ⟨7, _⟩ => ⟨S_, .f32⟩
  | .hbm, ⟨8, _⟩ => ⟨S8x2x4x4096, .f32⟩
  | .hbm, ⟨9, _⟩ => ⟨S_, .f32⟩
  | .hbm, ⟨10, _⟩ => ⟨S8x2x4x4096, .f32⟩
  | .hbm, ⟨11, _⟩ => ⟨S8x2x4x4096, .f32⟩
  | .hbm, ⟨12, _⟩ => ⟨S8x2x4x4096x1, .f32⟩
  | .hbm, ⟨13, _⟩ => ⟨S8x2x4x4096x4352, .f32⟩
  | .hbm, ⟨14, _⟩ => ⟨S8x2x4x4096x4352, .f32⟩
  | .hbm, ⟨15, _⟩ => ⟨S8x2x4x4096x4352, .f32⟩
  | .hbm, ⟨16, _⟩ => ⟨S_, .f32⟩
  | .hbm, ⟨17, _⟩ => ⟨S8x2x4x4096, .f32⟩
  | .hbm, ⟨18, _⟩ => ⟨S8x2x4x4096x1, .f32⟩
  | .hbm, ⟨19, _⟩ => ⟨S8x2x4x4096x4352, .f32⟩
  | .hbm, ⟨20, _⟩ => ⟨S8x2x4x4096x4352, .f32⟩
  | .hbm, ⟨21, _⟩ => ⟨S8x2x4x4096x64, .f32⟩
  | .hbm, ⟨22, _⟩ => ⟨S8x4096x4x2x64, .f32⟩
  | .hbm, ⟨23, _⟩ => ⟨S8x4096x512, .f32⟩
  | .hbm, ⟨24, _⟩ => ⟨S8x4096x512, .bf16⟩
  | _, _ => ⟨S8x2x4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel2.lean ====
abbrev S8x4096x1024 : Shape := ⟨3, ![8, 4096, 1024]⟩
abbrev S2x16x6144 : Shape := ⟨3, ![2, 16, 6144]⟩
abbrev S2x1024 : Shape := ⟨2, ![2, 1024]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S32x1x6144 : Shape := ⟨3, ![32, 1, 6144]⟩
abbrev S1024x1024 : Shape := ⟨2, ![1024, 1024]⟩
abbrev S1x1024 : Shape := ⟨2, ![1, 1024]⟩
abbrev S1024 : Shape := ⟨1, ![1024]⟩
abbrev S1x1x6144 : Shape := ⟨3, ![1, 1, 6144]⟩
abbrev S1x1024x2816 : Shape := ⟨3, ![1, 1024, 2816]⟩
abbrev S1x2816x1024 : Shape := ⟨3, ![1, 2816, 1024]⟩
abbrev S1x6144 : Shape := ⟨2, ![1, 6144]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S256x2816 : Shape := ⟨2, ![256, 2816]⟩
abbrev S2816x1024 : Shape := ⟨2, ![2816, 1024]⟩

abbrev nBuf : Space → Nat
  | .hbm => 27
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S2x16x6144, .f32⟩
  | .hbm, ⟨2, _⟩ => ⟨S8x4096x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S1x1024x1024, .f32⟩
  | .hbm, ⟨7, _⟩ => ⟨S2x1024x2816, .f32⟩
  | .hbm, ⟨8, _⟩ => ⟨S2x1024x2816, .f32⟩
  | .hbm, ⟨9, _⟩ => ⟨S2x2816x1024, .f32⟩
  | .hbm, ⟨10, _⟩ => ⟨S32x1x6144, .f32⟩
  | .hbm, ⟨11, _⟩ => ⟨S2x1024x2816, .bf16⟩
  | .hbm, ⟨12, _⟩ => ⟨S2x1024x2816, .bf16⟩
  | .hbm, ⟨13, _⟩ => ⟨S2x2816x1024, .bf16⟩
  | .hbm, ⟨14, _⟩ => ⟨S1024x1024, .f32⟩
  | .hbm, ⟨15, _⟩ => ⟨S1024x1024, .bf16⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S8x4096x1024, .bf16⟩
  | .hbm, ⟨26, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024x2816, .bf16⟩
  | .local _ .vmem, ⟨11, _⟩ => ⟨S1x1024x2816, .bf16⟩
  | .local _ .vmem, ⟨12, _⟩ => ⟨S1x2816x1024, .bf16⟩
  | .local _ .vmem, ⟨13, _⟩ => ⟨S1x1024x1024, .f32⟩
  | .local _ .vmem, ⟨14, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S8x4096x1024 : Shape := ⟨3, ![8, 4096, 1024]⟩
abbrev S2x16x6144 : Shape := ⟨3, ![2, 16, 6144]⟩
abbrev S2x1024 : Shape := ⟨2, ![2, 1024]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S8x4096x2816 : Shape := ⟨3, ![8, 4096, 2816]⟩

abbrev nBuf : Space → Nat
  | .hbm => 107
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x16x6144, .f32⟩
  | .hbm, ⟨2, _⟩ => ⟨S8x4096x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S1x1024x1024, .f32⟩
  | .hbm, ⟨7, _⟩ => ⟨S2x1024x2816, .f32⟩
  | .hbm, ⟨8, _⟩ => ⟨S2x1024x2816, .f32⟩
  | .hbm, ⟨9, _⟩ => ⟨S2x2816x1024, .f32⟩
  | .hbm, ⟨10, _⟩ => ⟨S1x8x6144, .f32⟩
  | .hbm, ⟨11, _⟩ => ⟨S8x6144, .f32⟩
  | .hbm, ⟨12, _⟩ => ⟨S8x1x6144, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S1024x1024, .f32⟩
  | .hbm, ⟨20, _⟩ => ⟨S8x4096x1024, .f32⟩
  | .hbm, ⟨21, _⟩ => ⟨S1x1024, .f32⟩
  | .hbm, ⟨22, _⟩ => ⟨S1024, .f32⟩
  | .hbm, ⟨23, _⟩ => ⟨S8x4096x1024, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S8x4096x1, .f32⟩
  | .hbm, ⟨34, _⟩ => ⟨S8x4096x1024, .f32⟩
  | .hbm, ⟨35, _⟩ => ⟨S8x4096x1024, .f32⟩
  | .hbm, ⟨36, _⟩ => ⟨S1x1x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S1x1024, .f32⟩
  | .hbm, ⟨43, _⟩ => ⟨S1024, .f32⟩
  | .hbm, ⟨44, _⟩ => ⟨S8x4096x1024, .f32⟩
  | .hbm, ⟨45, _⟩ => ⟨S_, .f32⟩
  | .hbm, ⟨46, _⟩ => ⟨S8x4096, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x1, .f32⟩
  | .hbm, ⟨55, _⟩ => ⟨S8x4096x1024, .f32⟩
  | .hbm, ⟨56, _⟩ => ⟨S8x4096x1024, .f32⟩
  | .hbm, ⟨57, _⟩ => ⟨S1x1x1024, .f32⟩
  | .hbm, ⟨58, _⟩ => ⟨S8x4096x1024, .f32⟩
  | .hbm, ⟨59, _⟩ => ⟨S8x4096x1024, .f32⟩
  | .hbm, ⟨60, _⟩ => ⟨S_, .f32⟩
  | .hbm, ⟨61, _⟩ => ⟨S8x1x1024, .f32⟩
  | .hbm, ⟨62, _⟩ => ⟨S8x1x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S1x1024x2816, .f32⟩
  | .hbm, ⟨68, _⟩ => ⟨S1024x2816, .f32⟩
  | .hbm, ⟨69, _⟩ => ⟨S1x1024x2816, .f32⟩
  | .hbm, ⟨70, _⟩ => ⟨S1024x2816, .f32⟩
  | .hbm, ⟨71, _⟩ => ⟨S1x2816x1024, .f32⟩
  | .hbm, ⟨72, _⟩ => ⟨S2816x1024, .f32⟩
  | .hbm, ⟨73, _⟩ => ⟨S8x4096x2816, .f32⟩
  | .hbm, ⟨74, _⟩ => ⟨S8x4096x2816, .f32⟩
  | .hbm, ⟨75, _⟩ => ⟨S8x4096x2816, .f32⟩
  | .hbm, ⟨76, _⟩ => ⟨S_, .f32⟩
  | .hbm, ⟨77, _⟩ => ⟨S8x4096x2816, .f32⟩
  | .hbm, ⟨78, _⟩ => ⟨S8x4096x2816, .f32⟩
  | .hbm, ⟨79, _⟩ => ⟨S_, .f32⟩
  | .hbm, ⟨80, _⟩ => ⟨S8x4096x2816, .f32⟩
  | .hbm, ⟨81, _⟩ => ⟨S8x4096x2816, .f32⟩
  | .hbm, ⟨82, _⟩ => ⟨S8x4096x2816, .f32⟩
  | .hbm, ⟨83, _⟩ => ⟨S8x4096x2816, .f32⟩
  | .hbm, ⟨84, _⟩ => ⟨S8x4096x2816, .f32⟩
  | .hbm, ⟨85, _⟩ => ⟨S8x4096x1024, .f32⟩
  | .hbm, ⟨86, _⟩ => ⟨S1x1024, .f32⟩
  | .hbm, ⟨87, _⟩ => ⟨S1024, .f32⟩
  | .hbm, ⟨88, _⟩ => ⟨S8x4096x1024, .f32⟩
  | .hbm, ⟨89, _⟩ => ⟨S_, .f32⟩
  | .hbm, ⟨90, _⟩ => ⟨S8x4096, .f32⟩
  | .hbm, ⟨91, _⟩ => ⟨S8x4096x1, .f32⟩
  | .hbm, ⟨92, _⟩ => ⟨S_, .f32⟩
  | .hbm, ⟨93, _⟩ => ⟨S8x4096x1, .f32⟩
  | .hbm, ⟨94, _⟩ => ⟨S8x4096x1, .f32⟩
  | .hbm, ⟨95, _⟩ => ⟨S_, .f32⟩
  | .hbm, ⟨96, _⟩ => ⟨S8x4096x1, .f32⟩
  | .hbm, ⟨97, _⟩ => ⟨S8x4096x1, .f32⟩
  | .hbm, ⟨98, _⟩ => ⟨S8x4096x1, .f32⟩
  | .hbm, ⟨99, _⟩ => ⟨S8x4096x1024, .f32⟩
  | .hbm, ⟨100, _⟩ => ⟨S8x4096x1024, .f32⟩
  | .hbm, ⟨101, _⟩ => ⟨S1x1x1024, .f32⟩
  | .hbm, ⟨102, _⟩ => ⟨S8x4096x1024, .f32⟩
  | .hbm, ⟨103, _⟩ => ⟨S8x4096x1024, .f32⟩
  | .hbm, ⟨104, _⟩ => ⟨S8x4096x1024, .f32⟩
  | .hbm, ⟨105, _⟩ => ⟨S8x4096x1024, .f32⟩
  | .hbm, ⟨106, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_6 : Ref sig .tc := ⟨.hbm, 89, rfl⟩
abbrev main_v64 : Ref sig .tc := ⟨.hbm, 90, rfl⟩
abbrev main_v65 : Ref sig .tc := ⟨.hbm, 91, rfl⟩
abbrev main_cst_7 : Ref sig .tc := ⟨.hbm, 92, rfl⟩
abbrev main_v66 : Ref sig .tc := ⟨.hbm, 93, rfl⟩
abbrev main_v67 : Ref sig .tc := ⟨.hbm, 94, rfl⟩
abbrev main_cst_8 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]
-- ==== Kernel3.lean ====
abbrev S8x4096x1024 : Shape := ⟨3, ![8, 4096, 1024]⟩
abbrev S2x16x6144 : Shape := ⟨3, ![2, 16, 6144]⟩
abbrev S2x1024 : Shape := ⟨2, ![2, 1024]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S512 : Shape := ⟨1, ![512]⟩
abbrev S32x1x6144 : Shape := ⟨3, ![32, 1, 6144]⟩
abbrev S8x4096x512 : Shape := ⟨3, ![8, 4096, 512]⟩
abbrev S8x4096x2x4x64 : Shape := ⟨5, ![8, 4096, 2, 4, 64]⟩
abbrev S8x4096x4x2x64 : Shape := ⟨5, ![8, 4096, 4, 2, 64]⟩
abbrev S1024x1024 : Shape := ⟨2, ![1024, 1024]⟩
abbrev S512x1024 : Shape := ⟨2, ![512, 1024]⟩
abbrev S_ : Shape := ⟨0, ![]⟩
abbrev S512x1 : Shape := ⟨2, ![512, 1]⟩
abbrev S1x1024 : Shape := ⟨2, ![1, 1024]⟩
abbrev S1024 : Shape := ⟨1, ![1024]⟩
abbrev S1x1x6144 : Shape := ⟨3, ![1, 1, 6144]⟩
abbrev S1x1024x512 : Shape := ⟨3, ![1, 1024, 512]⟩
abbrev S1x1024x2816 : Shape := ⟨3, ![1, 1024, 2816]⟩
abbrev S1x2816x1024 : Shape := ⟨3, ![1, 2816, 1024]⟩
abbrev S1x6144 : Shape := ⟨2, ![1, 6144]⟩
abbrev S1x256x512 : Shape := ⟨3, ![1, 256, 512]⟩
abbrev S256x512 : Shape := ⟨2, ![256, 512]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S256x2816 : Shape := ⟨2, ![256, 2816]⟩
abbrev S2816x1024 : Shape := ⟨2, ![2816, 1024]⟩

abbrev nBuf : Space → Nat
  | .hbm => 44
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S2x16x6144, .f32⟩
  | .hbm, ⟨2, _⟩ => ⟨S8x4096x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S1x1024x1024, .f32⟩
  | .hbm, ⟨7, _⟩ => ⟨S2x1024x2816, .f32⟩
  | .hbm, ⟨8, _⟩ => ⟨S2x1024x2816, .f32⟩
  | .hbm, ⟨9, _⟩ => ⟨S2x2816x1024, .f32⟩
  | .hbm, ⟨10, _⟩ => ⟨S512, .i32⟩
  | .hbm, ⟨11, _⟩ => ⟨S512, .i1⟩
  | .hbm, ⟨12, _⟩ => ⟨S32x1x6144, .f32⟩
  | .hbm, ⟨13, _⟩ => ⟨S2x1024x2816, .bf16⟩
  | .hbm, ⟨14, _⟩ => ⟨S2x1024x2816, .bf16⟩
  | .hbm, ⟨15, _⟩ => ⟨S2x2816x1024, .bf16⟩
  | .hbm, ⟨16, _⟩ => ⟨S8x4096x512, .f32⟩
  | .hbm, ⟨17, _⟩ => ⟨S8x4096x512, .bf16⟩
  | .hbm, ⟨18, _⟩ => ⟨S8x4096x512, .f32⟩
  | .hbm, ⟨19, _⟩ => ⟨S8x4096x2x4x64, .f32⟩
  | .hbm, ⟨20, _⟩ => ⟨S8x4096x4x2x64, .f32⟩
  | .hbm, ⟨21, _⟩ => ⟨S8x4096x512, .f32⟩
  | .hbm, ⟨22, _⟩ => ⟨S8x4096x512, .bf16⟩
  | .hbm, ⟨23, _⟩ => ⟨S1024x1024, .f32⟩
  | .hbm, ⟨24, _⟩ => ⟨S512x1024, .f32⟩
  | .hbm, ⟨25, _⟩ => ⟨S512x1024, .bf16⟩
  | .hbm, ⟨26, _⟩ => ⟨S1024x1024, .f32⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S512x1024, .f32⟩
  | .hbm, ⟨33, _⟩ => ⟨S512x1024, .bf16⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S1x1024, .f32⟩
  | .hbm, ⟨41, _⟩ => ⟨S1024, .f32⟩
  | .hbm, ⟨42, _⟩ => ⟨S1x1024, .f32⟩
  | .hbm, ⟨43, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024x2816, .bf16⟩
  | .local _ .vmem, ⟨14, _⟩ => ⟨S1x1024x2816, .bf16⟩
  | .local _ .vmem, ⟨15, _⟩ => ⟨S1x2816x1024, .bf16⟩
  | .local _ .vmem, ⟨16, _⟩ => ⟨S1x1024x1024, .f32⟩
  | .local _ .vmem, ⟨17, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S8x4096x1024 : Shape := ⟨3, ![8, 4096, 1024]⟩
abbrev S2x16x6144 : Shape := ⟨3, ![2, 16, 6144]⟩
abbrev S2x1024 : Shape := ⟨2, ![2, 1024]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S8x4096x2816 : Shape := ⟨3, ![8, 4096, 2816]⟩

abbrev nBuf : Space → Nat
  | .hbm => 107
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x16x6144, .f32⟩
  | .hbm, ⟨2, _⟩ => ⟨S8x4096x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S1x1024x1024, .f32⟩
  | .hbm, ⟨7, _⟩ => ⟨S2x1024x2816, .f32⟩
  | .hbm, ⟨8, _⟩ => ⟨S2x1024x2816, .f32⟩
  | .hbm, ⟨9, _⟩ => ⟨S2x2816x1024, .f32⟩
  | .hbm, ⟨10, _⟩ => ⟨S1x8x6144, .f32⟩
  | .hbm, ⟨11, _⟩ => ⟨S8x6144, .f32⟩
  | .hbm, ⟨12, _⟩ => ⟨S8x1x6144, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S1024x1024, .f32⟩
  | .hbm, ⟨20, _⟩ => ⟨S8x4096x1024, .f32⟩
  | .hbm, ⟨21, _⟩ => ⟨S1x1024, .f32⟩
  | .hbm, ⟨22, _⟩ => ⟨S1024, .f32⟩
  | .hbm, ⟨23, _⟩ => ⟨S8x4096x1024, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S8x4096x1, .f32⟩
  | .hbm, ⟨34, _⟩ => ⟨S8x4096x1024, .f32⟩
  | .hbm, ⟨35, _⟩ => ⟨S8x4096x1024, .f32⟩
  | .hbm, ⟨36, _⟩ => ⟨S1x1x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S1x1024, .f32⟩
  | .hbm, ⟨43, _⟩ => ⟨S1024, .f32⟩
  | .hbm, ⟨44, _⟩ => ⟨S8x4096x1024, .f32⟩
  | .hbm, ⟨45, _⟩ => ⟨S_, .f32⟩
  | .hbm, ⟨46, _⟩ => ⟨S8x4096, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x1, .f32⟩
  | .hbm, ⟨55, _⟩ => ⟨S8x4096x1024, .f32⟩
  | .hbm, ⟨56, _⟩ => ⟨S8x4096x1024, .f32⟩
  | .hbm, ⟨57, _⟩ => ⟨S1x1x1024, .f32⟩
  | .hbm, ⟨58, _⟩ => ⟨S8x4096x1024, .f32⟩
  | .hbm, ⟨59, _⟩ => ⟨S8x4096x1024, .f32⟩
  | .hbm, ⟨60, _⟩ => ⟨S_, .f32⟩
  | .hbm, ⟨61, _⟩ => ⟨S8x1x1024, .f32⟩
  | .hbm, ⟨62, _⟩ => ⟨S8x1x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S1x1024x2816, .f32⟩
  | .hbm, ⟨68, _⟩ => ⟨S1024x2816, .f32⟩
  | .hbm, ⟨69, _⟩ => ⟨S1x1024x2816, .f32⟩
  | .hbm, ⟨70, _⟩ => ⟨S1024x2816, .f32⟩
  | .hbm, ⟨71, _⟩ => ⟨S1x2816x1024, .f32⟩
  | .hbm, ⟨72, _⟩ => ⟨S2816x1024, .f32⟩
  | .hbm, ⟨73, _⟩ => ⟨S8x4096x2816, .f32⟩
  | .hbm, ⟨74, _⟩ => ⟨S8x4096x2816, .f32⟩
  | .hbm, ⟨75, _⟩ => ⟨S8x4096x2816, .f32⟩
  | .hbm, ⟨76, _⟩ => ⟨S_, .f32⟩
  | .hbm, ⟨77, _⟩ => ⟨S8x4096x2816, .f32⟩
  | .hbm, ⟨78, _⟩ => ⟨S8x4096x2816, .f32⟩
  | .hbm, ⟨79, _⟩ => ⟨S_, .f32⟩
  | .hbm, ⟨80, _⟩ => ⟨S8x4096x2816, .f32⟩
  | .hbm, ⟨81, _⟩ => ⟨S8x4096x2816, .f32⟩
  | .hbm, ⟨82, _⟩ => ⟨S8x4096x2816, .f32⟩
  | .hbm, ⟨83, _⟩ => ⟨S8x4096x2816, .f32⟩
  | .hbm, ⟨84, _⟩ => ⟨S8x4096x2816, .f32⟩
  | .hbm, ⟨85, _⟩ => ⟨S8x4096x1024, .f32⟩
  | .hbm, ⟨86, _⟩ => ⟨S1x1024, .f32⟩
  | .hbm, ⟨87, _⟩ => ⟨S1024, .f32⟩
  | .hbm, ⟨88, _⟩ => ⟨S8x4096x1024, .f32⟩
  | .hbm, ⟨89, _⟩ => ⟨S_, .f32⟩
  | .hbm, ⟨90, _⟩ => ⟨S8x4096, .f32⟩
  | .hbm, ⟨91, _⟩ => ⟨S8x4096x1, .f32⟩
  | .hbm, ⟨92, _⟩ => ⟨S_, .f32⟩
  | .hbm, ⟨93, _⟩ => ⟨S8x4096x1, .f32⟩
  | .hbm, ⟨94, _⟩ => ⟨S8x4096x1, .f32⟩
  | .hbm, ⟨95, _⟩ => ⟨S_, .f32⟩
  | .hbm, ⟨96, _⟩ => ⟨S8x4096x1, .f32⟩
  | .hbm, ⟨97, _⟩ => ⟨S8x4096x1, .f32⟩
  | .hbm, ⟨98, _⟩ => ⟨S8x4096x1, .f32⟩
  | .hbm, ⟨99, _⟩ => ⟨S8x4096x1024, .f32⟩
  | .hbm, ⟨100, _⟩ => ⟨S8x4096x1024, .f32⟩
  | .hbm, ⟨101, _⟩ => ⟨S1x1x1024, .f32⟩
  | .hbm, ⟨102, _⟩ => ⟨S8x4096x1024, .f32⟩
  | .hbm, ⟨103, _⟩ => ⟨S8x4096x1024, .f32⟩
  | .hbm, ⟨104, _⟩ => ⟨S8x4096x1024, .f32⟩
  | .hbm, ⟨105, _⟩ => ⟨S8x4096x1024, .f32⟩
  | .hbm, ⟨106, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_6 : Ref sig .tc := ⟨.hbm, 89, rfl⟩
abbrev main_v64 : Ref sig .tc := ⟨.hbm, 90, rfl⟩
abbrev main_v65 : Ref sig .tc := ⟨.hbm, 91, rfl⟩
abbrev main_cst_7 : Ref sig .tc := ⟨.hbm, 92, rfl⟩
abbrev main_v66 : Ref sig .tc := ⟨.hbm, 93, rfl⟩
abbrev main_v67 : Ref sig .tc := ⟨.hbm, 94, rfl⟩
abbrev main_cst_8 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]
-- ==== Kernel4.lean ====
abbrev S8x4096x1024 : Shape := ⟨3, ![8, 4096, 1024]⟩
abbrev S2x16x6144 : Shape := ⟨3, ![2, 16, 6144]⟩
abbrev S2x1024 : Shape := ⟨2, ![2, 1024]⟩
abbrev S1x1024x5120 : Shape := ⟨3, ![1, 1024, 5120]⟩
abbrev S2x2x1024 : Shape := ⟨3, ![2, 2, 1024]⟩
abbrev S32x1x6144 : Shape := ⟨3, ![32, 1, 6144]⟩
abbrev S1024x5120 : Shape := ⟨2, ![1024, 5120]⟩
abbrev S1x1024 : Shape := ⟨2, ![1, 1024]⟩
abbrev S1024 : Shape := ⟨1, ![1024]⟩
abbrev S1x512x1024 : Shape := ⟨3, ![1, 512, 1024]⟩
abbrev S1x1x6144 : Shape := ⟨3, ![1, 1, 6144]⟩
abbrev S1x256x1024 : Shape := ⟨3, ![1, 256, 1024]⟩
abbrev S256x1024 : Shape := ⟨2, ![256, 1024]⟩
abbrev S1x6144 : Shape := ⟨2, ![1, 6144]⟩
abbrev S256 : Shape := ⟨1, ![256]⟩
abbrev S256x1 : Shape := ⟨2, ![256, 1]⟩
abbrev S1x2x1024 : Shape := ⟨3, ![1, 2, 1024]⟩
abbrev S1024x1024 : Shape := ⟨2, ![1024, 1024]⟩

abbrev nBuf : Space → Nat
  | .hbm => 18
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S2x16x6144, .f32⟩
  | .hbm, ⟨2, _⟩ => ⟨S2x1024, .f32⟩
  | .hbm, ⟨3, _⟩ => ⟨S1x1024x5120, .f32⟩
  | .hbm, ⟨4, _⟩ => ⟨S2x2x1024, .f32⟩
  | .hbm, ⟨5, _⟩ => ⟨S32x1x6144, .f32⟩
  | .hbm, ⟨6, _⟩ => ⟨S1024x5120, .f32⟩
  | .hbm, ⟨7, _⟩ => ⟨S1024x5120, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S8x4096x1024, .bf16⟩
  | .hbm, ⟨12, _⟩ => ⟨S8x4096x1024, .bf16⟩
  | .hbm, ⟨13, _⟩ => ⟨S8x4096x1024, .bf16⟩
  | .hbm, ⟨14, _⟩ => ⟨S8x4096x1024, .f32⟩
  | .hbm, ⟨15, _⟩ => ⟨S8x4096x1024, .f32⟩
  | .hbm, ⟨16, _⟩ => ⟨S8x4096x1024, .bf16⟩
  | .hbm, ⟨17, _⟩ => ⟨S8x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x5120, .bf16⟩
  | .local _ .vmem, ⟨6, _⟩ => ⟨S2x2x1024, .f32⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev main_v6_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel4Ideal.lean ====
variable {F : FTy → Type} [FloatOps F] [Named F]
def κ : String → Option EReal := fun
  | "per_log2" => some (((Real.log 2)⁻¹ : ℝ) : EReal)
  | _ => none
-- ==== Reference4Ideal.lean ====
abbrev S8x4096x1024 : Shape := ⟨3, ![8, 4096, 1024]⟩
abbrev S2x16x6144 : Shape := ⟨3, ![2, 16, 6144]⟩
abbrev S2x1024 : Shape := ⟨2, ![2, 1024]⟩
abbrev S1x1024x5120 : Shape := ⟨3, ![1, 1024, 5120]⟩
abbrev S2x2x1024 : Shape := ⟨3, ![2, 2, 1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x5120 : Shape := ⟨2, ![1024, 5120]⟩
abbrev S8x4096x5120 : Shape := ⟨3, ![8, 4096, 5120]⟩
abbrev S2x1x1024 : Shape := ⟨3, ![2, 1, 1024]⟩

abbrev nBuf : Space → Nat
  | .hbm => 176
  | .vmem => 0
  | .smem => 0
  | _ => 0

abbrev hbmTy0_0 (i : Nat) : BufTy := match i % 128 with
  | 0 => ⟨S8x4096x1024, .f32⟩
  | 1 => ⟨S2x16x6144, .f32⟩
  | 2 => ⟨S2x1024, .f32⟩
  | 3 => ⟨S1x1024x5120, .f32⟩
  | 4 => ⟨S2x2x1024, .f32⟩
  | 5 => ⟨S1x8x6144, .f32⟩
  | 6 => ⟨S8x6144, .f32⟩
  | 7 => ⟨S8x1x6144, .f32⟩
  | 8 => ⟨S8x1x1024, .f32⟩
  | 9 => ⟨S8x1x1024, .f32⟩
  | 10 => ⟨S8x1x1024, .f32⟩
  | 11 => ⟨S8x1x1024, .f32⟩
  | 12 => ⟨S8x1x1024, .f32⟩
  | 13 => ⟨S8x1x1024, .f32⟩
  | 14 => ⟨S1x1024, .f32⟩
  | 15 => ⟨S1024, .f32⟩
  | 16 => ⟨S8x4096x1024, .f32⟩
  | 17 => ⟨S_, .f32⟩
  | 18 => ⟨S8x4096, .f32⟩
  | 19 => ⟨S8x4096x1, .f32⟩
  | 20 => ⟨S_, .f32⟩
  | 21 => ⟨S8x4096x1, .f32⟩
  | 22 => ⟨S8x4096x1, .f32⟩
  | 23 => ⟨S_, .f32⟩
  | 24 => ⟨S8x4096x1, .f32⟩
  | 25 => ⟨S8x4096x1, .f32⟩
  | 26 => ⟨S8x4096x1, .f32⟩
  | 27 => ⟨S8x4096x1024, .f32⟩
  | 28 => ⟨S8x4096x1024, .f32⟩
  | 29 => ⟨S1x1x1024, .f32⟩
  | 30 => ⟨S8x4096x1024, .f32⟩
  | 31 => ⟨S8x4096x1024, .f32⟩
  | 32 => ⟨S_, .f32⟩
  | 33 => ⟨S8x1x1024, .f32⟩
  | 34 => ⟨S8x1x1024, .f32⟩
  | 35 => ⟨S8x4096x1024, .f32⟩
  | 36 => ⟨S8x4096x1024, .f32⟩
  | 37 => ⟨S8x4096x1024, .f32⟩
  | 38 => ⟨S8x4096x1024, .f32⟩
  | 39 => ⟨S1024x5120, .f32⟩
  | 40 => ⟨S8x4096x5120, .f32⟩
  | 41 => ⟨S8x4096x1024, .f32⟩
  | 42 => ⟨S8x4096x1024, .f32⟩
  | 43 => ⟨S8x4096x1024, .f32⟩
  | 44 => ⟨S8x4096x1024, .f32⟩
  | 45 => ⟨S8x4096x1024, .f32⟩
  | 46 => ⟨S8x4096x1024, .f32⟩
  | 47 => ⟨S8x4096x1024, .f32⟩
  | 48 => ⟨S_, .f32⟩
  | 49 => ⟨S8x4096x1024, .f32⟩
  | 50 => ⟨S8x4096x1024, .f32⟩
  | 51 => ⟨S_, .f32⟩
  | 52 => ⟨S8x4096x1024, .f32⟩
  | 53 => ⟨S8x4096x1024, .f32⟩
  | 54 => ⟨S8x4096x1024, .f32⟩
  | 55 => ⟨S_, .f32⟩
  | 56 => ⟨S2x1024, .f32⟩
  | 57 => ⟨S_, .f32⟩
  | 58 => ⟨S2x1024, .f32⟩
  | 59 => ⟨S2x1024, .f32⟩
  | 60 => ⟨S2x1x1024, .f32⟩
  | 61 => ⟨S2x2x1024, .f32⟩
  | 62 => ⟨S2x2x1024, .f32⟩
  | 63 => ⟨S2x2x1024, .f32⟩
  | 64 => ⟨S_, .f32⟩
  | 65 => ⟨S2x1024, .f32⟩
  | 66 => ⟨S2x1x1024, .f32⟩
  | 67 => ⟨S2x2x1024, .f32⟩
  | 68 => ⟨S2x2x1024, .f32⟩
  | 69 => ⟨S_, .f32⟩
  | 70 => ⟨S_, .f32⟩
  | 71 => ⟨S2x2x1024, .f32⟩
  | 72 => ⟨S2x1x1024, .f32⟩
  | 73 => ⟨S2x1024, .f32⟩
  | 74 => ⟨S2x1x1024, .f32⟩
  | 75 => ⟨S2x1024, .f32⟩
  | 76 => ⟨S2x1024, .f32⟩
  | 77 => ⟨S1x1024, .f32⟩
  | 78 => ⟨S1024, .f32⟩
  | 79 => ⟨S1024, .f32⟩
  | 80 => ⟨S1x1024, .f32⟩
  | 81 => ⟨S1024, .f32⟩
  | 82 => ⟨S1024, .f32⟩
  | 83 => ⟨S1024, .f32⟩
  | 84 => ⟨S8x4096x1024, .f32⟩
  | 85 => ⟨S_, .f32⟩
  | 86 => ⟨S8x4096x1024, .f32⟩
  | 87 => ⟨S8x4096x1024, .f32⟩
  | 88 => ⟨S8x4096x1024, .f32⟩
  | 89 => ⟨S8x4096x1024, .f32⟩
  | 90 => ⟨S8x4096x1024, .i1⟩
  | 91 => ⟨S8x4096x1024, .f32⟩
  | 92 => ⟨S8x4096x1024, .f32⟩
  | 93 => ⟨S8x4096x1024, .f32⟩
  | 94 => ⟨S8x4096x1024, .f32⟩
  | 95 => ⟨S8x4096x1024, .f32⟩
  | 96 => ⟨S8x4096x1024, .f32⟩
  | 97 => ⟨S8x4096x1024, .f32⟩
  | 98 => ⟨S8x4096x1024, .f32⟩
  | 99 => ⟨S8x4096x1024, .f32⟩
  | 100 => ⟨S1x1x1024, .f32⟩
  | 101 => ⟨S8x4096x1024, .f32⟩
  | 102 => ⟨S8x4096x1024, .f32⟩
  | 103 => ⟨S1x1x1024, .f32⟩
  | 104 => ⟨S8x4096x1024, .f32⟩
  | 105 => ⟨S8x4096x1024, .f32⟩
  | 106 => ⟨S8x4096x1024, .f32⟩
  | 107 => ⟨S8x4096x1024, .f32⟩
  | 108 => ⟨S8x4096x1024, .i1⟩
  | 109 => ⟨S8x4096x1024, .f32⟩
  | 110 => ⟨S8x4096x1024, .f32⟩
  | 111 => ⟨S8x4096x1024, .f32⟩
  | 112 => ⟨S8x4096x1024, .f32⟩
  | 113 => ⟨S8x4096x1024, .f32⟩
  | 114 => ⟨S8x4096x1024, .f32⟩
  | 115 => ⟨S8x4096x1024, .f32⟩
  | 116 => ⟨S8x4096x1024, .f32⟩
  | 117 => ⟨S8x4096x1024, .f32⟩
  | 118 => ⟨S8x4096x1024, .f32⟩
  | 119 => ⟨S_, .f32⟩
  | 120 => ⟨S_, .f32⟩
  | 121 => ⟨S_, .f32⟩
  | 122 => ⟨S8x4096x1024, .f32⟩
  | 123 => ⟨S8x4096x1024, .f32⟩
  | 124 => ⟨S1x1024, .f32⟩
  | 125 => ⟨S1024, .f32⟩
  | 126 => ⟨S1024, .f32⟩
  | 127 => ⟨S1x1024, .f32⟩
  | _ => ⟨S8x4096x1024, .f32⟩

abbrev hbmTy0_1 (i : Nat) : BufTy := match i % 128 with
  | 0 => ⟨S1024, .f32⟩
  | 1 => ⟨S1024, .f32⟩
  | 2 => ⟨S1024, .f32⟩
  | 3 => ⟨S8x4096x1024, .f32⟩
  | 4 => ⟨S_, .f32⟩
  | 5 => ⟨S8x4096x1024, .f32⟩
  | 6 => ⟨S8x4096x1024, .f32⟩
  | 7 => ⟨S8x4096x1024, .f32⟩
  | 8 => ⟨S8x4096x1024, .f32⟩
  | 9 => ⟨S8x4096x1024, .i1⟩
  | 10 => ⟨S8x4096x1024, .f32⟩
  | 11 => ⟨S8x4096x1024, .f32⟩
  | 12 => ⟨S8x4096x1024, .f32⟩
  | 13 => ⟨S8x4096x1024, .f32⟩
  | 14 => ⟨S8x4096x1024, .f32⟩
  | 15 => ⟨S8x4096x1024, .f32⟩
  | 16 => ⟨S8x4096x1024, .f32⟩
  | 17 => ⟨S8x4096x1024, .f32⟩
  | 18 => ⟨S8x4096x1024, .f32⟩
  | 19 => ⟨S1x1x1024, .f32⟩
  | 20 => ⟨S8x4096x1024, .f32⟩
  | 21 => ⟨S8x4096x1024, .f32⟩
  | 22 => ⟨S1x1x1024, .f32⟩
  | 23 => ⟨S8x4096x1024, .f32⟩
  | 24 => ⟨S8x4096x1024, .f32⟩
  | 25 => ⟨S8x4096x1024, .f32⟩
  | 26 => ⟨S8x4096x1024, .f32⟩
  | 27 => ⟨S8x4096x1024, .i1⟩
  | 28 => ⟨S8x4096x1024, .f32⟩
  | 29 => ⟨S8x4096x1024, .f32⟩
  | 30 => ⟨S8x4096x1024, .f32⟩
  | 31 => ⟨S8x4096x1024, .f32⟩
  | 32 => ⟨S8x4096x1024, .f32⟩
  | 33 => ⟨S8x4096x1024, .f32⟩
  | 34 => ⟨S8x4096x1024, .f32⟩
  | 35 => ⟨S8x4096x1024, .f32⟩
  | 36 => ⟨S8x4096x1024, .f32⟩
  | 37 => ⟨S8x4096x1024, .f32⟩
  | 38 => ⟨S_, .f32⟩
  | 39 => ⟨S_, .f32⟩
  | 40 => ⟨S_, .f32⟩
  | 41 => ⟨S8x4096x1024, .f32⟩
  | 42 => ⟨S8x4096x1024, .f32⟩
  | 43 => ⟨S8x4096x1024, .bf16⟩
  | 44 => ⟨S8x4096x1024, .bf16⟩
  | 45 => ⟨S8x4096x1024, .bf16⟩
  | 46 => ⟨S8x4096x1024, .bf16⟩
  | 47 => ⟨S8x4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_call0_cst : Ref sig .tc := ⟨.hbm, 69, rfl⟩
abbrev main_call1_call0_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call2_v0 : Ref sig .tc := ⟨.hbm, 84, rfl⟩
abbrev main_call2_call0_cst : Ref sig .tc := ⟨.hbm, 85, rfl⟩
abbrev main_call2_call0_v0 : Ref sig .tc := ⟨.hbm, 86, rfl⟩
abbrev main_call2_call0_v1 : Ref sig .tc := ⟨.hbm, 87, rfl⟩
abbrev main_call2_call0_v2 : Ref sig .tc := ⟨.hbm, 88, rfl⟩
abbrev main_call2_call0_v3 : Ref sig .tc := ⟨.hbm, 89, rfl⟩
abbrev main_call2_call0_v4 : Ref sig .tc := ⟨.hbm, 90, rfl⟩
abbrev main_call2_call0_v5 : Ref sig .tc := ⟨.hbm, 91, rfl⟩
abbrev main_call2_call0_v6 : Ref sig .tc := ⟨.hbm, 92, rfl⟩
abbrev main_call2_call0_v7 : Ref sig .tc := ⟨.hbm, 93, rfl⟩
abbrev main_call2_call0_v8 : Ref sig .tc := ⟨.hbm, 94, rfl⟩
abbrev main_call2_call0_v9 : Ref sig .tc := ⟨.hbm, 95, rfl⟩
abbrev main_call2_call0_v10 : Ref sig .tc := ⟨.hbm, 96, rfl⟩
abbrev main_call2_call0_v11 : Ref sig .tc := ⟨.hbm, 97, rfl⟩
abbrev main_call2_v1 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_6 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_call3_v0 : Ref sig .tc := ⟨.hbm, 131, rfl⟩
abbrev main_call3_call0_cst : Ref sig .tc := ⟨.hbm, 132, rfl⟩
abbrev main_call3_call0_v0 : Ref sig .tc := ⟨.hbm, 133, rfl⟩
abbrev main_call3_call0_v1 : Ref sig .tc := ⟨.hbm, 134, rfl⟩
abbrev main_call3_call0_v2 : Ref sig .tc := ⟨.hbm, 135, rfl⟩
abbrev main_call3_call0_v3 : Ref sig .tc := ⟨.hbm, 136, rfl⟩
abbrev main_call3_call0_v4 : Ref sig .tc := ⟨.hbm, 137, rfl⟩
abbrev main_call3_call0_v5 : Ref sig .tc := ⟨.hbm, 138, rfl⟩
abbrev main_call3_call0_v6 : Ref sig .tc := ⟨.hbm, 139, rfl⟩
abbrev main_call3_call0_v7 : Ref sig .tc := ⟨.hbm, 140, rfl⟩
abbrev main_call3_call0_v8 : Ref sig .tc := ⟨.hbm, 141, rfl⟩
abbrev main_call3_call0_v9 : Ref sig .tc := ⟨.hbm, 142, rfl⟩
abbrev main_call3_call0_v10 : Ref sig .tc := ⟨.hbm, 143, rfl⟩
abbrev main_call3_call0_v11 : Ref sig .tc := ⟨.hbm, 144, rfl⟩
abbrev main_call3_v1 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_7 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩

abbrev nD : Nat := 1
abbrev τ : Topo := Topo.v7x

variable {F : FTy → Type} [FloatOps F]
-- ==== Kernel5.lean ====
abbrev S8x4096x1024 : Shape := ⟨3, ![8, 4096, 1024]⟩
abbrev S2x16x6144 : Shape := ⟨3, ![2, 16, 6144]⟩
abbrev S2x1024 : Shape := ⟨2, ![2, 1024]⟩
abbrev S1x1024x2336 : Shape := ⟨3, ![1, 1024, 2336]⟩
abbrev S1x2x16x256 : Shape := ⟨4, ![1, 2, 16, 256]⟩
abbrev S1x2x256 : Shape := ⟨3, ![1, 2, 256]⟩
abbrev S1x64 : Shape := ⟨2, ![1, 64]⟩
abbrev S4096x32 : Shape := ⟨2, ![4096, 32]⟩
abbrev S8x64x8x64 : Shape := ⟨4, ![8, 64, 8, 64]⟩
abbrev S2x64x2x64 : Shape := ⟨4, ![2, 64, 2, 64]⟩
abbrev S2336 : Shape := ⟨1, ![2336]⟩
abbrev S64 : Shape := ⟨1, ![64]⟩
abbrev S32x1x6144 : Shape := ⟨3, ![32, 1, 6144]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1024x2336 : Shape := ⟨2, ![1024, 2336]⟩
abbrev S_ : Shape := ⟨0, ![]⟩
abbrev S2336x1 : Shape := ⟨2, ![2336, 1]⟩
abbrev S2x16x256 : Shape := ⟨3, ![2, 16, 256]⟩
abbrev S16x256 : Shape := ⟨2, ![16, 256]⟩
abbrev S1x16x256 : Shape := ⟨3, ![1, 16, 256]⟩
abbrev S16x512 : Shape := ⟨2, ![16, 512]⟩
abbrev S32x512 : Shape := ⟨2, ![32, 512]⟩
abbrev S2x256 : Shape := ⟨2, ![2, 256]⟩
abbrev S1x512 : Shape := ⟨2, ![1, 512]⟩
abbrev S64x1 : Shape := ⟨2, ![64, 1]⟩
abbrev S8x64 : Shape := ⟨2, ![8, 64]⟩
abbrev S512 : Shape := ⟨1, ![512]⟩
abbrev S2x64 : Shape := ⟨2, ![2, 64]⟩
abbrev S128 : Shape := ⟨1, ![128]⟩
abbrev S1x128 : Shape := ⟨2, ![1, 128]⟩
abbrev S512x512 : Shape := ⟨2, ![512, 512]⟩
abbrev S128x128 : Shape := ⟨2, ![128, 128]⟩
abbrev S1x1024 : Shape := ⟨2, ![1, 1024]⟩
abbrev S1024 : Shape := ⟨1, ![1024]⟩
abbrev S8x4096x256 : Shape := ⟨3, ![8, 4096, 256]⟩
abbrev S8x4096x512 : Shape := ⟨3, ![8, 4096, 512]⟩
abbrev S8x4096x128 : Shape := ⟨3, ![8, 4096, 128]⟩
abbrev S1x512x1024 : Shape := ⟨3, ![1, 512, 1024]⟩
abbrev S1x1x6144 : Shape := ⟨3, ![1, 1, 6144]⟩
abbrev S512x128 : Shape := ⟨2, ![512, 128]⟩
abbrev S1x512x256 : Shape := ⟨3, ![1, 512, 256]⟩
abbrev S1x512x512 : Shape := ⟨3, ![1, 512, 512]⟩
abbrev S1x512x128 : Shape := ⟨3, ![1, 512, 128]⟩
abbrev S1x256x1024 : Shape := ⟨3, ![1, 256, 1024]⟩
abbrev S256x1024 : Shape := ⟨2, ![256, 1024]⟩
abbrev S1x6144 : Shape := ⟨2, ![1, 6144]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S256x256 : Shape := ⟨2, ![256, 256]⟩
abbrev S1x256x256 : Shape := ⟨3, ![1, 256, 256]⟩
abbrev S1x256x512 : Shape := ⟨3, ![1, 256, 512]⟩
abbrev S1024x288 : Shape := ⟨2, ![1024, 288]⟩
abbrev S256x288 : Shape := ⟨2, ![256, 288]⟩
abbrev S256x128 : Shape := ⟨2, ![256, 128]⟩
abbrev S1x256x128 : Shape := ⟨3, ![1, 256, 128]⟩
abbrev S256x32 : Shape := ⟨2, ![256, 32]⟩

abbrev nBuf : Space → Nat
  | .hbm => 87
  | .vmem => 34
  | .smem => 0
  | _ => 0

abbrev bufTy : (tb : Table) → Fin (tcTables nBuf tb) → BufTy
  | .hbm, ⟨0, _⟩ => ⟨S8x4096x1024, .f32⟩
  | .hbm, ⟨1, _⟩ => ⟨S2x16x6144, .f32⟩
  | .hbm, ⟨2, _⟩ => ⟨S2x1024, .f32⟩
  | .hbm, ⟨3, _⟩ => ⟨S1x1024x2336, .f32⟩
  | .hbm, ⟨4, _⟩ => ⟨S1x2x16x256, .f32⟩
  | .hbm, ⟨5, _⟩ => ⟨S1x2x256, .f32⟩
  | .hbm, ⟨6, _⟩ => ⟨S1x64, .f32⟩
  | .hbm, ⟨7, _⟩ => ⟨S1x64, .f32⟩
  | .hbm, ⟨8, _⟩ => ⟨S4096x32, .f32⟩
  | .hbm, ⟨9, _⟩ => ⟨S4096x32, .f32⟩
  | .hbm, ⟨10, _⟩ => ⟨S8x64x8x64, .f32⟩
  | .hbm, ⟨11, _⟩ => ⟨S2x64x2x64, .f32⟩
  | .hbm, ⟨12, _⟩ => ⟨S2336, .i32⟩
  | .hbm, ⟨13, _⟩ => ⟨S2336, .i1⟩
  | .hbm, ⟨14, _⟩ => ⟨S64, .i32⟩
  | .hbm, ⟨15, _⟩ => ⟨S64, .i1⟩
  | .hbm, ⟨16, _⟩ => ⟨S64, .i32⟩
  | .hbm, ⟨17, _⟩ => ⟨S64, .i1⟩
  | .hbm, ⟨18, _⟩ => ⟨S32x1x6144, .f32⟩
  | .hbm, ⟨19, _⟩ => ⟨S4096x64, .f32⟩
  | .hbm, ⟨20, _⟩ => ⟨S1x4096x1x64, .f32⟩
  | .hbm, ⟨21, _⟩ => ⟨S1x4096x2x64, .f32⟩
  | .hbm, ⟨22, _⟩ => ⟨S4096x128, .f32⟩
  | .hbm, ⟨23, _⟩ => ⟨S4096x32, .f32⟩
  | .hbm, ⟨24, _⟩ => ⟨S4096x64, .f32⟩
  | .hbm, ⟨25, _⟩ => ⟨S1x4096x1x64, .f32⟩
  | .hbm, ⟨26, _⟩ => ⟨S1x4096x2x64, .f32⟩
  | .hbm, ⟨27, _⟩ => ⟨S4096x128, .f32⟩
  | .hbm, ⟨28, _⟩ => ⟨S1024x2336, .f32⟩
  | .hbm, ⟨29, _⟩ => ⟨S_, .i32⟩
  | .hbm, ⟨30, _⟩ => ⟨S2336, .i32⟩
  | .hbm, ⟨31, _⟩ => ⟨S2336, .i32⟩
  | .hbm, ⟨32, _⟩ => ⟨S2336, .i32⟩
  | .hbm, ⟨33, _⟩ => ⟨S2336x1, .i32⟩
  | .hbm, ⟨34, _⟩ => ⟨S1024x2336, .f32⟩
  | .hbm, ⟨35, _⟩ => ⟨S1024x2336, .bf16⟩
  | .hbm, ⟨36, _⟩ => ⟨S2x16x256, .f32⟩
  | .hbm, ⟨37, _⟩ => ⟨S_, .f32⟩
  | .hbm, ⟨38, _⟩ => ⟨S16x256, .f32⟩
  | .hbm, ⟨39, _⟩ => ⟨S1x16x256, .f32⟩
  | .hbm, ⟨40, _⟩ => ⟨S16x256, .f32⟩
  | .hbm, ⟨41, _⟩ => ⟨S16x512, .f32⟩
  | .hbm, ⟨42, _⟩ => ⟨S1x16x256, .f32⟩
  | .hbm, ⟨43, _⟩ => ⟨S16x256, .f32⟩
  | .hbm, ⟨44, _⟩ => ⟨S16x512, .f32⟩
  | .hbm, ⟨45, _⟩ => ⟨S32x512, .f32⟩
  | .hbm, ⟨46, _⟩ => ⟨S32x512, .bf16⟩
  | .hbm, ⟨47, _⟩ => ⟨S2x256, .f32⟩
  | .hbm, ⟨48, _⟩ => ⟨S1x512, .f32⟩
  | .hbm, ⟨49, _⟩ => ⟨S64, .f32⟩
  | .hbm, ⟨50, _⟩ => ⟨S_, .i32⟩
  | .hbm, ⟨51, _⟩ => ⟨S64, .i32⟩
  | .hbm, ⟨52, _⟩ => ⟨S64, .i32⟩
  | .hbm, ⟨53, _⟩ => ⟨S64, .i32⟩
  | .hbm, ⟨54, _⟩ => ⟨S64x1, .i32⟩
  | .hbm, ⟨55, _⟩ => ⟨S64, .f32⟩
  | .hbm, ⟨56, _⟩ => ⟨S1x64, .f32⟩
  | .hbm, ⟨57, _⟩ => ⟨S8x64, .f32⟩
  | .hbm, ⟨58, _⟩ => ⟨S512, .f32⟩
  | .hbm, ⟨59, _⟩ => ⟨S1x512, .f32⟩
  | .hbm, ⟨60, _⟩ => ⟨S64, .f32⟩
  | .hbm, ⟨61, _⟩ => ⟨S_, .i32⟩
  | .hbm, ⟨62, _⟩ => ⟨S64, .i32⟩
  | .hbm, ⟨63, _⟩ => ⟨S64, .i32⟩
  | .hbm, ⟨64, _⟩ => ⟨S64, .i32⟩
  | .hbm, ⟨65, _⟩ => ⟨S64x1, .i32⟩
  | .hbm, ⟨66, _⟩ => ⟨S64, .f32⟩
  | .hbm, ⟨67, _⟩ => ⟨S1x64, .f32⟩
  | .hbm, ⟨68, _⟩ => ⟨S2x64, .f32⟩
  | .hbm, ⟨69, _⟩ => ⟨S128, .f32⟩
  | .hbm, ⟨70, _⟩ => ⟨S1x128, .f32⟩
  | .hbm, ⟨71, _⟩ => ⟨S512x512, .f32⟩
  | .hbm, ⟨72, _⟩ => ⟨S512x512, .bf16⟩
  | .hbm, ⟨73, _⟩ => ⟨S128x128, .f32⟩
  | .hbm, ⟨74, _⟩ => ⟨S128x128, .bf16⟩
  | .hbm, ⟨75, _⟩ => ⟨S1x1024, .f32⟩
  | .hbm, ⟨76, _⟩ => ⟨S1024, .f32⟩
  | .hbm, ⟨77, _⟩ => ⟨S1x1024, .f32⟩
  | .hbm, ⟨78, _⟩ => ⟨S8x4096x256, .bf16⟩
  | .hbm, ⟨79, _⟩ => ⟨S8x4096x256, .bf16⟩
  | .hbm, ⟨80, _⟩ => ⟨S8x4096x512, .bf16⟩
  | .hbm, ⟨81, _⟩ => ⟨S8x4096x512, .bf16⟩
  | .hbm, ⟨82, _⟩ => ⟨S8x4096x256, .f32⟩
  | .hbm, ⟨83, _⟩ => ⟨S8x4096x256, .f32⟩
  | .hbm, ⟨84, _⟩ => ⟨S8x4096x512, .bf16⟩
  | .hbm, ⟨85, _⟩ => ⟨S8x4096x128, .bf16⟩
  | .hbm, ⟨86, _⟩ => ⟨S8x4096x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x1024, .f32⟩
  | .local _ .vmem, ⟨9, _⟩ => ⟨S1024x2336, .bf16⟩
  | .local _ .vmem, ⟨10, _⟩ => ⟨S32x512, .bf16⟩
  | .local _ .vmem, ⟨11, _⟩ => ⟨S1x512, .f32⟩
  | .local _ .vmem, ⟨12, _⟩ => ⟨S1x512, .f32⟩
  | .local _ .vmem, ⟨13, _⟩ => ⟨S1x128, .f32⟩
  | .local _ .vmem, ⟨14, _⟩ => ⟨S512x512, .bf16⟩
  | .local _ .vmem, ⟨15, _⟩ => ⟨S128x128, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x256, .f32⟩
  | .local _ .vmem, ⟨25, _⟩ => ⟨S1x512x256, .f32⟩
  | .local _ .vmem, ⟨26, _⟩ => ⟨S1x512x256, .f32⟩
  | .local _ .vmem, ⟨27, _⟩ => ⟨S1x512x256, .f32⟩
  | .local _ .vmem, ⟨28, _⟩ => ⟨S1x512x512, .bf16⟩
  | .local _ .vmem, ⟨29, _⟩ => ⟨S1x512x512, .bf16⟩
  | .local _ .vmem, ⟨30, _⟩ => ⟨S1x512x128, .bf16⟩
  | .local _ .vmem, ⟨31, _⟩ => ⟨S1x512x128, .bf16⟩
  | .local _ .vmem, ⟨32, _⟩ => ⟨S1x512x256, .bf16⟩
  | .local _ .vmem, ⟨33, _⟩ => ⟨S1x512x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_c_2 : Ref sig .tc := ⟨.hbm, 15, rfl⟩
abbrev main_c_3 : Ref sig .tc := ⟨.hbm, 16, rfl⟩
abbrev main_c_4 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56_0 : Ref sig .tc := ⟨.hbm, 78, rfl⟩
abbrev main_v56_1 : Ref sig .tc := ⟨.hbm, 79, rfl⟩
abbrev main_v56_2 : Ref sig .tc := ⟨.hbm, 80, rfl⟩
abbrev main_v56_3 : Ref sig .tc := ⟨.hbm, 81, rfl⟩
abbrev main_v56_4 : Ref sig .tc := ⟨.hbm, 82, rfl⟩
abbrev main_v56_5 : Ref sig .tc := ⟨.hbm, 83, rfl⟩
abbrev main_v56_6 : Ref sig .tc := ⟨.hbm, 84, rfl⟩
abbrev main_v56_7 : Ref sig .tc := ⟨.hbm, 85, rfl⟩
abbrev main_v56_8 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2336 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Kernel5Ideal.lean ====
variable {F : FTy → Type} [FloatOps F] [Named F]
def κ : String → Option EReal := fun
  | "per_tau" => some (((16 * (Real.log 2))⁻¹ : ℝ) : EReal)
  | "scale" => some (((8 * (Real.log 2))⁻¹ : ℝ) : EReal)
  | _ => none
-- ==== Reference5Ideal.lean ====
abbrev S8x4096x1024 : Shape := ⟨3, ![8, 4096, 1024]⟩
abbrev S2x16x6144 : Shape := ⟨3, ![2, 16, 6144]⟩
abbrev S2x1024 : Shape := ⟨2, ![2, 1024]⟩
abbrev S1x1024x2336 : Shape := ⟨3, ![1, 1024, 2336]⟩
abbrev S1x2x16x256 : Shape := ⟨4, ![1, 2, 16, 256]⟩
abbrev S1x2x256 : Shape := ⟨3, ![1, 2, 256]⟩
abbrev S1x64 : Shape := ⟨2, ![1, 64]⟩
abbrev S4096x32 : Shape := ⟨2, ![4096, 32]⟩
abbrev S8x64x8x64 : Shape := ⟨4, ![8, 64, 8, 64]⟩
abbrev S2x64x2x64 : Shape := ⟨4, ![2, 64, 2, 64]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2336 : Shape := ⟨2, ![1024, 2336]⟩
abbrev S8x4096x2336 : Shape := ⟨3, ![8, 4096, 2336]⟩
abbrev S8x4096x256 : Shape := ⟨3, ![8, 4096, 256]⟩
abbrev S8x4096x512 : Shape := ⟨3, ![8, 4096, 512]⟩
abbrev S8x4096x32 : Shape := ⟨3, ![8, 4096, 32]⟩
abbrev S8x4096x128 : Shape := ⟨3, ![8, 4096, 128]⟩
abbrev S8x4096x16 : Shape := ⟨3, ![8, 4096, 16]⟩
abbrev S2x16x256 : Shape := ⟨3, ![2, 16, 256]⟩
abbrev S1x16x256 : Shape := ⟨3, ![1, 16, 256]⟩
abbrev S16x256 : Shape := ⟨2, ![16, 256]⟩
abbrev S2x256 : Shape := ⟨2, ![2, 256]⟩
abbrev S1x256 : Shape := ⟨2, ![1, 256]⟩
abbrev S256 : Shape := ⟨1, ![256]⟩
abbrev S1x1x256 : Shape := ⟨3, ![1, 1, 256]⟩
abbrev S8x4096x2x4x64 : Shape := ⟨5, ![8, 4096, 2, 4, 64]⟩
abbrev S64 : Shape := ⟨1, ![64]⟩
abbrev S8x4096x2x4 : Shape := ⟨4, ![8, 4096, 2, 4]⟩
abbrev S8x4096x2x4x1 : Shape := ⟨5, ![8, 4096, 2, 4, 1]⟩
abbrev S1x1x1x1x64 : Shape := ⟨5, ![1, 1, 1, 1, 64]⟩
abbrev S8x2x4x4096x64 : Shape := ⟨5, ![8, 2, 4, 4096, 64]⟩
abbrev S8x4096x2x64 : Shape := ⟨4, ![8, 4096, 2, 64]⟩
abbrev S8x4096x2 : Shape := ⟨3, ![8, 4096, 2]⟩
abbrev S8x4096x2x1 : Shape := ⟨4, ![8, 4096, 2, 1]⟩
abbrev S1x1x1x64 : Shape := ⟨4, ![1, 1, 1, 64]⟩
abbrev S8x2x4096x64 : Shape := ⟨4, ![8, 2, 4096, 64]⟩
abbrev S8x2x4x4096x32x2 : Shape := ⟨6, ![8, 2, 4, 4096, 32, 2]⟩
abbrev S8x2x4x4096x32x1 : Shape := ⟨6, ![8, 2, 4, 4096, 32, 1]⟩
abbrev S8x2x4x4096x32 : Shape := ⟨5, ![8, 2, 4, 4096, 32]⟩
abbrev S1x1x1x4096x32 : Shape := ⟨5, ![1, 1, 1, 4096, 32]⟩
abbrev S8x2x4096x32x2 : Shape := ⟨5, ![8, 2, 4096, 32, 2]⟩
abbrev S8x2x4096x32x1 : Shape := ⟨5, ![8, 2, 4096, 32, 1]⟩
abbrev S8x2x4096x32 : Shape := ⟨4, ![8, 2, 4096, 32]⟩
abbrev S1x1x4096x32 : Shape := ⟨4, ![1, 1, 4096, 32]⟩
abbrev S8x4096x4x2x2x32 : Shape := ⟨6, ![8, 4096, 4, 2, 2, 32]⟩
abbrev S8x4096x2x2x32 : Shape := ⟨5, ![8, 4096, 2, 2, 32]⟩
abbrev S8x1x4096x64 : Shape := ⟨4, ![8, 1, 4096, 64]⟩
abbrev S8x4096x64 : Shape := ⟨3, ![8, 4096, 64]⟩

abbrev nBuf : Space → Nat
  | .hbm => 245
  | .vmem => 0
  | .smem => 0
  | _ => 0

abbrev hbmTy0_0 (i : Nat) : BufTy := match i % 128 with
  | 0 => ⟨S8x4096x1024, .f32⟩
  | 1 => ⟨S2x16x6144, .f32⟩
  | 2 => ⟨S2x1024, .f32⟩
  | 3 => ⟨S1x1024x2336, .f32⟩
  | 4 => ⟨S1x2x16x256, .f32⟩
  | 5 => ⟨S1x2x256, .f32⟩
  | 6 => ⟨S1x64, .f32⟩
  | 7 => ⟨S1x64, .f32⟩
  | 8 => ⟨S4096x32, .f32⟩
  | 9 => ⟨S4096x32, .f32⟩
  | 10 => ⟨S8x64x8x64, .f32⟩
  | 11 => ⟨S2x64x2x64, .f32⟩
  | 12 => ⟨S1x8x6144, .f32⟩
  | 13 => ⟨S8x6144, .f32⟩
  | 14 => ⟨S8x1x6144, .f32⟩
  | 15 => ⟨S8x1x1024, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S1x1024, .f32⟩
  | 22 => ⟨S1024, .f32⟩
  | 23 => ⟨S8x4096x1024, .f32⟩
  | 24 => ⟨S_, .f32⟩
  | 25 => ⟨S8x4096, .f32⟩
  | 26 => ⟨S8x4096x1, .f32⟩
  | 27 => ⟨S_, .f32⟩
  | 28 => ⟨S8x4096x1, .f32⟩
  | 29 => ⟨S8x4096x1, .f32⟩
  | 30 => ⟨S_, .f32⟩
  | 31 => ⟨S8x4096x1, .f32⟩
  | 32 => ⟨S8x4096x1, .f32⟩
  | 33 => ⟨S8x4096x1, .f32⟩
  | 34 => ⟨S8x4096x1024, .f32⟩
  | 35 => ⟨S8x4096x1024, .f32⟩
  | 36 => ⟨S1x1x1024, .f32⟩
  | 37 => ⟨S8x4096x1024, .f32⟩
  | 38 => ⟨S8x4096x1024, .f32⟩
  | 39 => ⟨S_, .f32⟩
  | 40 => ⟨S8x1x1024, .f32⟩
  | 41 => ⟨S8x1x1024, .f32⟩
  | 42 => ⟨S8x4096x1024, .f32⟩
  | 43 => ⟨S8x4096x1024, .f32⟩
  | 44 => ⟨S8x4096x1024, .f32⟩
  | 45 => ⟨S8x4096x1024, .f32⟩
  | 46 => ⟨S1024x2336, .f32⟩
  | 47 => ⟨S8x4096x2336, .f32⟩
  | 48 => ⟨S8x4096x256, .f32⟩
  | 49 => ⟨S8x4096x256, .f32⟩
  | 50 => ⟨S8x4096x512, .f32⟩
  | 51 => ⟨S8x4096x512, .f32⟩
  | 52 => ⟨S8x4096x32, .f32⟩
  | 53 => ⟨S8x4096x512, .f32⟩
  | 54 => ⟨S8x4096x128, .f32⟩
  | 55 => ⟨S8x4096x128, .f32⟩
  | 56 => ⟨S_, .f32⟩
  | 57 => ⟨S8x4096x256, .f32⟩
  | 58 => ⟨S8x4096x256, .f32⟩
  | 59 => ⟨S8x4096x16, .f32⟩
  | 60 => ⟨S8x4096x16, .f32⟩
  | 61 => ⟨S2x16x256, .f32⟩
  | 62 => ⟨S1x16x256, .f32⟩
  | 63 => ⟨S16x256, .f32⟩
  | 64 => ⟨S8x4096x256, .f32⟩
  | 65 => ⟨S2x256, .f32⟩
  | 66 => ⟨S1x256, .f32⟩
  | 67 => ⟨S256, .f32⟩
  | 68 => ⟨S1x1x256, .f32⟩
  | 69 => ⟨S8x4096x256, .f32⟩
  | 70 => ⟨S8x4096x256, .f32⟩
  | 71 => ⟨S8x4096x256, .f32⟩
  | 72 => ⟨S_, .f32⟩
  | 73 => ⟨S8x4096x256, .f32⟩
  | 74 => ⟨S8x4096x256, .f32⟩
  | 75 => ⟨S8x4096x256, .f32⟩
  | 76 => ⟨S8x4096x256, .f32⟩
  | 77 => ⟨S8x4096x256, .i1⟩
  | 78 => ⟨S8x4096x256, .f32⟩
  | 79 => ⟨S8x4096x256, .f32⟩
  | 80 => ⟨S8x4096x256, .f32⟩
  | 81 => ⟨S8x4096x256, .f32⟩
  | 82 => ⟨S8x4096x256, .f32⟩
  | 83 => ⟨S8x4096x256, .f32⟩
  | 84 => ⟨S8x4096x256, .f32⟩
  | 85 => ⟨S8x4096x256, .f32⟩
  | 86 => ⟨S8x4096x256, .f32⟩
  | 87 => ⟨S_, .f32⟩
  | 88 => ⟨S8x4096x256, .f32⟩
  | 89 => ⟨S8x4096x256, .f32⟩
  | 90 => ⟨S_, .f32⟩
  | 91 => ⟨S_, .f32⟩
  | 92 => ⟨S_, .f32⟩
  | 93 => ⟨S8x4096x256, .f32⟩
  | 94 => ⟨S8x4096x256, .f32⟩
  | 95 => ⟨S2x16x256, .f32⟩
  | 96 => ⟨S1x16x256, .f32⟩
  | 97 => ⟨S16x256, .f32⟩
  | 98 => ⟨S8x4096x256, .f32⟩
  | 99 => ⟨S2x256, .f32⟩
  | 100 => ⟨S1x256, .f32⟩
  | 101 => ⟨S256, .f32⟩
  | 102 => ⟨S1x1x256, .f32⟩
  | 103 => ⟨S8x4096x256, .f32⟩
  | 104 => ⟨S8x4096x256, .f32⟩
  | 105 => ⟨S8x4096x256, .f32⟩
  | 106 => ⟨S_, .f32⟩
  | 107 => ⟨S8x4096x256, .f32⟩
  | 108 => ⟨S8x4096x256, .f32⟩
  | 109 => ⟨S8x4096x256, .f32⟩
  | 110 => ⟨S8x4096x256, .f32⟩
  | 111 => ⟨S8x4096x256, .i1⟩
  | 112 => ⟨S8x4096x256, .f32⟩
  | 113 => ⟨S8x4096x256, .f32⟩
  | 114 => ⟨S8x4096x256, .f32⟩
  | 115 => ⟨S8x4096x256, .f32⟩
  | 116 => ⟨S8x4096x256, .f32⟩
  | 117 => ⟨S8x4096x256, .f32⟩
  | 118 => ⟨S8x4096x256, .f32⟩
  | 119 => ⟨S8x4096x256, .f32⟩
  | 120 => ⟨S8x4096x256, .f32⟩
  | 121 => ⟨S_, .f32⟩
  | 122 => ⟨S8x4096x256, .f32⟩
  | 123 => ⟨S8x4096x256, .f32⟩
  | 124 => ⟨S_, .f32⟩
  | 125 => ⟨S_, .f32⟩
  | 126 => ⟨S_, .f32⟩
  | 127 => ⟨S8x4096x256, .f32⟩
  | _ => ⟨S8x4096x1024, .f32⟩

abbrev hbmTy0_1 (i : Nat) : BufTy := match i % 128 with
  | 0 => ⟨S8x4096x256, .f32⟩
  | 1 => ⟨S8x4096x2x4x64, .f32⟩
  | 2 => ⟨S64, .f32⟩
  | 3 => ⟨S8x4096x2x4x64, .f32⟩
  | 4 => ⟨S_, .f32⟩
  | 5 => ⟨S8x4096x2x4, .f32⟩
  | 6 => ⟨S8x4096x2x4x1, .f32⟩
  | 7 => ⟨S_, .f32⟩
  | 8 => ⟨S8x4096x2x4x1, .f32⟩
  | 9 => ⟨S8x4096x2x4x1, .f32⟩
  | 10 => ⟨S_, .f32⟩
  | 11 => ⟨S8x4096x2x4x1, .f32⟩
  | 12 => ⟨S8x4096x2x4x1, .f32⟩
  | 13 => ⟨S8x4096x2x4x1, .f32⟩
  | 14 => ⟨S8x4096x2x4x64, .f32⟩
  | 15 => ⟨S8x4096x2x4x64, .f32⟩
  | 16 => ⟨S1x1x1x1x64, .f32⟩
  | 17 => ⟨S8x4096x2x4x64, .f32⟩
  | 18 => ⟨S8x4096x2x4x64, .f32⟩
  | 19 => ⟨S8x2x4x4096x64, .f32⟩
  | 20 => ⟨S8x4096x2x64, .f32⟩
  | 21 => ⟨S64, .f32⟩
  | 22 => ⟨S8x4096x2x64, .f32⟩
  | 23 => ⟨S_, .f32⟩
  | 24 => ⟨S8x4096x2, .f32⟩
  | 25 => ⟨S8x4096x2x1, .f32⟩
  | 26 => ⟨S_, .f32⟩
  | 27 => ⟨S8x4096x2x1, .f32⟩
  | 28 => ⟨S8x4096x2x1, .f32⟩
  | 29 => ⟨S_, .f32⟩
  | 30 => ⟨S8x4096x2x1, .f32⟩
  | 31 => ⟨S8x4096x2x1, .f32⟩
  | 32 => ⟨S8x4096x2x1, .f32⟩
  | 33 => ⟨S8x4096x2x64, .f32⟩
  | 34 => ⟨S8x4096x2x64, .f32⟩
  | 35 => ⟨S1x1x1x64, .f32⟩
  | 36 => ⟨S8x4096x2x64, .f32⟩
  | 37 => ⟨S8x4096x2x64, .f32⟩
  | 38 => ⟨S8x2x4096x64, .f32⟩
  | 39 => ⟨S8x4096x2x64, .f32⟩
  | 40 => ⟨S8x2x4096x64, .f32⟩
  | 41 => ⟨S8x2x4x4096x32x2, .f32⟩
  | 42 => ⟨S8x2x4x4096x32x1, .f32⟩
  | 43 => ⟨S8x2x4x4096x32, .f32⟩
  | 44 => ⟨S8x2x4x4096x32x1, .f32⟩
  | 45 => ⟨S8x2x4x4096x32, .f32⟩
  | 46 => ⟨S1x1x1x4096x32, .f32⟩
  | 47 => ⟨S8x2x4x4096x32, .f32⟩
  | 48 => ⟨S8x2x4x4096x32, .f32⟩
  | 49 => ⟨S1x1x1x4096x32, .f32⟩
  | 50 => ⟨S8x2x4x4096x32, .f32⟩
  | 51 => ⟨S8x2x4x4096x32, .f32⟩
  | 52 => ⟨S8x2x4x4096x32, .f32⟩
  | 53 => ⟨S1x1x1x4096x32, .f32⟩
  | 54 => ⟨S8x2x4x4096x32, .f32⟩
  | 55 => ⟨S8x2x4x4096x32, .f32⟩
  | 56 => ⟨S1x1x1x4096x32, .f32⟩
  | 57 => ⟨S8x2x4x4096x32, .f32⟩
  | 58 => ⟨S8x2x4x4096x32, .f32⟩
  | 59 => ⟨S8x2x4x4096x32, .f32⟩
  | 60 => ⟨S8x2x4x4096x32x1, .f32⟩
  | 61 => ⟨S8x2x4x4096x32x1, .f32⟩
  | 62 => ⟨S8x2x4x4096x32x2, .f32⟩
  | 63 => ⟨S8x2x4x4096x64, .f32⟩
  | 64 => ⟨S_, .f32⟩
  | 65 => ⟨S8x2x4x4096x64, .f32⟩
  | 66 => ⟨S8x2x4x4096x64, .f32⟩
  | 67 => ⟨S_, .f32⟩
  | 68 => ⟨S_, .f32⟩
  | 69 => ⟨S_, .f32⟩
  | 70 => ⟨S8x2x4x4096x64, .f32⟩
  | 71 => ⟨S8x2x4x4096x64, .f32⟩
  | 72 => ⟨S8x2x4096x32x2, .f32⟩
  | 73 => ⟨S8x2x4096x32x1, .f32⟩
  | 74 => ⟨S8x2x4096x32, .f32⟩
  | 75 => ⟨S8x2x4096x32x1, .f32⟩
  | 76 => ⟨S8x2x4096x32, .f32⟩
  | 77 => ⟨S1x1x4096x32, .f32⟩
  | 78 => ⟨S8x2x4096x32, .f32⟩
  | 79 => ⟨S8x2x4096x32, .f32⟩
  | 80 => ⟨S1x1x4096x32, .f32⟩
  | 81 => ⟨S8x2x4096x32, .f32⟩
  | 82 => ⟨S8x2x4096x32, .f32⟩
  | 83 => ⟨S8x2x4096x32, .f32⟩
  | 84 => ⟨S1x1x4096x32, .f32⟩
  | 85 => ⟨S8x2x4096x32, .f32⟩
  | 86 => ⟨S8x2x4096x32, .f32⟩
  | 87 => ⟨S1x1x4096x32, .f32⟩
  | 88 => ⟨S8x2x4096x32, .f32⟩
  | 89 => ⟨S8x2x4096x32, .f32⟩
  | 90 => ⟨S8x2x4096x32, .f32⟩
  | 91 => ⟨S8x2x4096x32x1, .f32⟩
  | 92 => ⟨S8x2x4096x32x1, .f32⟩
  | 93 => ⟨S8x2x4096x32x2, .f32⟩
  | 94 => ⟨S8x2x4096x64, .f32⟩
  | 95 => ⟨S8x2x4x4096x32x2, .f32⟩
  | 96 => ⟨S8x4096x4x2x2x32, .f32⟩
  | 97 => ⟨S8x4096x512, .f32⟩
  | 98 => ⟨S8x2x4096x32x2, .f32⟩
  | 99 => ⟨S8x4096x2x2x32, .f32⟩
  | 100 => ⟨S8x4096x128, .f32⟩
  | 101 => ⟨S8x1x4096x64, .f32⟩
  | 102 => ⟨S8x4096x64, .f32⟩
  | 103 => ⟨S_, .f32⟩
  | 104 => ⟨S8x4096x64, .f32⟩
  | 105 => ⟨S8x1x4096x64, .f32⟩
  | 106 => ⟨S8x4096x64, .f32⟩
  | 107 => ⟨S8x1x4096x64, .f32⟩
  | 108 => ⟨S8x4096x64, .f32⟩
  | 109 => ⟨S8x4096x256, .f32⟩
  | 110 => ⟨S8x4096x256, .bf16⟩
  | 111 => ⟨S8x4096x256, .bf16⟩
  | 112 => ⟨S8x4096x512, .bf16⟩
  | 113 => ⟨S8x4096x512, .bf16⟩
  | 114 => ⟨S8x4096x512, .bf16⟩
  | 115 => ⟨S8x4096x128, .bf16⟩
  | 116 => ⟨S8x4096x256, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_call0_v0 : Ref sig .tc := ⟨.hbm, 71, rfl⟩
abbrev main_call0_call0_cst : Ref sig .tc := ⟨.hbm, 72, rfl⟩
abbrev main_call0_call0_v0 : Ref sig .tc := ⟨.hbm, 73, rfl⟩
abbrev main_call0_call0_v1 : Ref sig .tc := ⟨.hbm, 74, rfl⟩
abbrev main_call0_call0_v2 : Ref sig .tc := ⟨.hbm, 75, rfl⟩
abbrev main_call0_call0_v3 : Ref sig .tc := ⟨.hbm, 76, rfl⟩
abbrev main_call0_call0_v4 : Ref sig .tc := ⟨.hbm, 77, rfl⟩
abbrev main_call0_call0_v5 : Ref sig .tc := ⟨.hbm, 78, rfl⟩
abbrev main_call0_call0_v6 : Ref sig .tc := ⟨.hbm, 79, rfl⟩
abbrev main_call0_call0_v7 : Ref sig .tc := ⟨.hbm, 80, rfl⟩
abbrev main_call0_call0_v8 : Ref sig .tc := ⟨.hbm, 81, rfl⟩
abbrev main_call0_call0_v9 : Ref sig .tc := ⟨.hbm, 82, rfl⟩
abbrev main_call0_call0_v10 : Ref sig .tc := ⟨.hbm, 83, rfl⟩
abbrev main_call0_call0_v11 : Ref sig .tc := ⟨.hbm, 84, rfl⟩
abbrev main_call0_v1 : Ref sig .tc := ⟨.hbm, 85, rfl⟩
abbrev main_v54 : Ref sig .tc := ⟨.hbm, 86, rfl⟩
abbrev main_cst_4 : Ref sig .tc := ⟨.hbm, 87, rfl⟩
abbrev main_v55 : Ref sig .tc := ⟨.hbm, 88, rfl⟩
abbrev main_v56 : Ref sig .tc := ⟨.hbm, 89, rfl⟩
abbrev main_cst_5 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_call1_v0 : Ref sig .tc := ⟨.hbm, 105, rfl⟩
abbrev main_call1_call0_cst : Ref sig .tc := ⟨.hbm, 106, rfl⟩
abbrev main_call1_call0_v0 : Ref sig .tc := ⟨.hbm, 107, rfl⟩
abbrev main_call1_call0_v1 : Ref sig .tc := ⟨.hbm, 108, rfl⟩
abbrev main_call1_call0_v2 : Ref sig .tc := ⟨.hbm, 109, rfl⟩
abbrev main_call1_call0_v3 : Ref sig .tc := ⟨.hbm, 110, rfl⟩
abbrev main_call1_call0_v4 : Ref sig .tc := ⟨.hbm, 111, rfl⟩
abbrev main_call1_call0_v5 : Ref sig .tc := ⟨.hbm, 112, rfl⟩
abbrev main_call1_call0_v6 : Ref sig .tc := ⟨.hbm, 113, rfl⟩
abbrev main_call1_call0_v7 : Ref sig .tc := ⟨.hbm, 114, rfl⟩
abbrev main_call1_call0_v8 : Ref sig .tc := ⟨.hbm, 115, rfl⟩
abbrev main_call1_call0_v9 : Ref sig .tc := ⟨.hbm, 116, rfl⟩
abbrev main_call1_call0_v10 : Ref sig .tc := ⟨.hbm, 117, rfl⟩
abbrev main_call1_call0_v11 : Ref sig .tc := ⟨.hbm, 118, rfl⟩
abbrev main_call1_v1 : Ref sig .tc := ⟨.hbm, 119, rfl⟩
abbrev main_v71 : Ref sig .tc := ⟨.hbm, 120, rfl⟩
abbrev main_cst_6 : Ref sig .tc := ⟨.hbm, 121, rfl⟩
abbrev main_v72 : Ref sig .tc := ⟨.hbm, 122, rfl⟩
abbrev main_v73 : Ref sig .tc := ⟨.hbm, 123, rfl⟩
abbrev main_cst_7 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_8 : Ref sig .tc := ⟨.hbm, 132, rfl⟩
abbrev main_v81 : Ref sig .tc := ⟨.hbm, 133, rfl⟩
abbrev main_v82 : Ref sig .tc := ⟨.hbm, 134, rfl⟩
abbrev main_cst_9 : Ref sig .tc := ⟨.hbm, 135, rfl⟩
abbrev main_v83 : Ref sig .tc := ⟨.hbm, 136, rfl⟩
abbrev main_v84 : Ref sig .tc := ⟨.hbm, 137, rfl⟩
abbrev main_cst_10 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_cst_11 : Ref sig .tc := ⟨.hbm, 151, rfl⟩
abbrev main_v97 : Ref sig .tc := ⟨.hbm, 152, rfl⟩
abbrev main_v98 : Ref sig .tc := ⟨.hbm, 153, rfl⟩
abbrev main_cst_12 : Ref sig .tc := ⟨.hbm, 154, rfl⟩
abbrev main_v99 : Ref sig .tc := ⟨.hbm, 155, rfl⟩
abbrev main_v100 : Ref sig .tc := ⟨.hbm, 156, rfl⟩
abbrev main_cst_13 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_cst_14 : Ref sig .tc := ⟨.hbm, 192, rfl⟩
abbrev main_v135 : Ref sig .tc := ⟨.hbm, 193, rfl⟩
abbrev main_v136 : Ref sig .tc := ⟨.hbm, 194, rfl⟩
abbrev main_cst_15 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_cst_16 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩

abbrev nD : Nat := 1
abbrev τ : Topo := Topo.v7x

variable {F : FTy → Type} [FloatOps F]
-- ==== Proof.Softmax.lean ====
module

public import Idealize.ShloMosaic.PureOps.Ideal.Laws
public import Idealize.ShloMosaic.Lib.ValueIdx

@[expose] public section

/-! The softmax-weighted sum over the extended reals: scores taken in base two with one division after the
    sum, against scores in base e with every weight divided. -/

noncomputable section

namespace Attention

open Idealize.ShloMosaic

/-- The coercion of the reals keeps finite sums. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- A finite sum of products of real numbers, taken in the extended reals, is a real number. -/
theorem exists_real_dot {n : Nat} {a b : Fin n → EReal} (ha : ∀ i, ∃ r : ℝ, a i = r)
    (hb : ∀ i, ∃ r : ℝ, b i = r) : ∃ r : ℝ, ∑ i, a i * b i = (r : EReal) := by
  choose f hf using ha
  choose g hg using hb
  refine ⟨∑ i, f i * g i, ?_⟩
  rw [coe_sum]
  exact Finset.sum_congr rfl fun i _ => by rw [hf, hg, EReal.coe_mul]

/-- A positive finite factor moves into a sum from the right. -/
theorem sum_mul_coe {ι : Type*} (s : Finset ι) (f : ι → EReal) {c : ℝ} (hc : 0 ≤ c) :
    (∑ i ∈ s, f i) * (c : EReal) = ∑ i ∈ s, f i * (c : EReal) := by
  induction s using Finset.cons_induction with
  | empty => simp
  | cons a s ha ih =>
    rw [Finset.sum_cons, Finset.sum_cons, ← ih]
    exact EReal.right_distrib_of_nonneg_of_ne_top (by exact_mod_cast hc) (EReal.coe_ne_top c) _ _

/-- The running maximum from minus infinity of finitely many reals, at least one, is a real. -/
theorem exists_real_max {n : Nat} (hn : 0 < n) (σ : Fin n → ℝ) :
    ∃ M : ℝ, Finset.univ.fold max (⊥ : EReal) (fun j => (σ j : EReal)) = (M : EReal)
      ∧ ∀ c : ℝ, 0 < c →
        Finset.univ.fold max (⊥ : EReal) (fun j => ((σ j * c : ℝ) : EReal)) = ((M * c : ℝ) : EReal) := by
  have key : ∀ s : Finset (Fin n), s.Nonempty → ∃ M : ℝ,
      s.fold max (⊥ : EReal) (fun j => (σ j : EReal)) = (M : EReal) ∧ ∀ c : ℝ, 0 < c →
        s.fold max (⊥ : EReal) (fun j => ((σ j * c : ℝ) : EReal)) = ((M * c : ℝ) : EReal) := by
    intro s hs
    induction hs using Finset.Nonempty.cons_induction with
    | singleton a => exact ⟨σ a, by simp, fun c _ => by simp⟩
    | cons a s ha _ ih =>
      obtain ⟨M, hM, hMc⟩ := ih
      refine ⟨max (σ a) M, ?_, fun c hc => ?_⟩
      · rw [Finset.fold_cons, hM]; exact (EReal.coe_strictMono.monotone.map_max).symm
      · rw [Finset.fold_cons, hMc c hc, max_mul_of_nonneg _ _ hc.le]; exact (EReal.coe_strictMono.monotone.map_max).symm
  exact key _ ⟨⟨0, hn⟩, Finset.mem_univ _⟩

/-- Scores in base two, scaled by the reciprocal of the natural logarithm of two, with the division after the
    weighted sum, give the softmax-weighted sum of the scores in base e. -/
theorem softmax_eq {n : Nat} (hn : 0 < n) (σ : Fin n → ℝ) (v : Fin n → EReal) :
    Ideal.div
      (∑ j, Ideal.exp2 (((σ j * (Real.log 2)⁻¹ : ℝ) : EReal)
        - Finset.univ.fold max (⊥ : EReal) (fun i => ((σ i * (Real.log 2)⁻¹ : ℝ) : EReal))) * v j)
      (∑ j, Ideal.exp2 (((σ j * (Real.log 2)⁻¹ : ℝ) : EReal)
        - Finset.univ.fold max (⊥ : EReal) (fun i => ((σ i * (Real.log 2)⁻¹ : ℝ) : EReal))) * 1)
    = ∑ j, Ideal.div
        (Ideal.exp ((σ j : EReal) - max ⊥ (Finset.univ.fold max (⊥ : EReal) (fun i => (σ i : EReal)))))
        (0 + ∑ i, Ideal.exp ((σ i : EReal)
          - max ⊥ (Finset.univ.fold max (⊥ : EReal) (fun i => (σ i : EReal))))) * v j := by
  have hlog : 0 < Real.log 2 := Real.log_pos (by norm_num)
  obtain ⟨M, hM, hMc⟩ := exists_real_max hn σ
  rw [hM, hMc _ (inv_pos.mpr hlog), max_eq_right bot_le]
  have h2 : ∀ j, Ideal.exp2 (((σ j * (Real.log 2)⁻¹ : ℝ) : EReal) - ((M * (Real.log 2)⁻¹ : ℝ) : EReal))
      = ((Real.exp (σ j - M) : ℝ) : EReal) := by
    intro j
    rw [← EReal.coe_sub]
    show ((Real.rpow 2 _ : ℝ) : EReal) = _
    congr 1
    rw [Real.rpow_eq_pow]
    rw [Real.rpow_def_of_pos (by norm_num)]
    congr 1
    field_simp
  have h1 : ∀ j, Ideal.exp ((σ j : EReal) - (M : EReal)) = ((Real.exp (σ j - M) : ℝ) : EReal) := by
    intro j
    rw [← EReal.coe_sub]
    rfl
  simp only [h2, h1, mul_one, zero_add, ← coe_sum]
  have hZ : 0 < ∑ j, Real.exp (σ j - M) :=
    Finset.sum_pos (fun j _ => Real.exp_pos _) ⟨⟨0, hn⟩, Finset.mem_univ _⟩
  have hZ' : ((∑ j, Real.exp (σ j - M) : ℝ) : EReal) ≠ 0 := by exact_mod_cast hZ.ne'
  simp only [Ideal.div, if_neg hZ', ← EReal.coe_inv]
  rw [sum_mul_coe _ _ (inv_pos.mpr hZ).le]
  exact Finset.sum_congr rfl fun j _ => mul_right_comm _ _ _

end Attention

end
-- ==== Proof.Reference.lean ====
module

public import proofs.«01_k».proof.Proof.Gen.ReferenceIdeal.Run
public import proofs.«01_k».proof.Proof.Softmax
public import Idealize.ShloMosaic.Lib.Tactic.ValueTie

@[expose] public section

/-! The reference's result at an entry: the softmax-weighted sum of the values. -/

set_option maxRecDepth 16384

noncomputable section

namespace Attention

open Cert.ReferenceIdeal Cert.ReferenceIdeal.Gen Idealize.ShloMosaic Idealize.ShloMosaic.TcCoe
  Idealize.ShloMosaic.StableHlo

/-- The reference's scaled scores. -/
def refScores (q : Vec Ideal S8x2x4x4096x64 .f32) (k : Vec Ideal S8x2x4352x64 .f32) :
    Vec Ideal S8x2x4x4096x4352 .f32 :=
  mulf (F := Ideal) (Host.dotGeneral (F := Ideal) (φ₁ := .f32) (φ₂ := .f32) dot_S8x2x4x4096x64_S8x2x4352x64_S8x2x4x4096x4352_4_3_23_2_01_01 none
    (q : FVec Ideal S8x2x4x4096x64 .f32) (k : FVec Ideal S8x2x4352x64 .f32))
    (broadcastInDim S8x2x4x4096x4352 ![] bcast_S_S8x2x4x4096x4352 (constant S_ .f32 0x3E000000#32))

/-- The maximum of each row of scores. -/
def refMax (s : Vec Ideal S8x2x4x4096x4352 .f32) : Vec Ideal S8x2x4x4096 .f32 :=
  Host.reduce (FloatOps.maximumf (F := Ideal) (φ := .f32)) s (constant (F := Ideal) S_ .f32 0xFF800000#32)
    reducesTo_S8x2x4x4096x4352_S8x2x4x4096_d4 h_S_

/-- The exponentials of scores less `m`, the maxima of their rows. -/
def refExp (s : Vec Ideal S8x2x4x4096x4352 .f32) (m : Vec Ideal S8x2x4x4096 .f32) : Vec Ideal S8x2x4x4096x4352 .f32 :=
  Host.exp (F := Ideal) (subf s
    (broadcastInDim S8x2x4x4096x4352 ![0, 1, 2, 3, 4] bcast_S8x2x4x4096x1_S8x2x4x4096x4352_0_1_2_3_4
      (broadcastInDim S8x2x4x4096x1 ![0, 1, 2, 3] bcast_S8x2x4x4096_S8x2x4x4096x1_0_1_2_3
        (maximumf (broadcastInDim S8x2x4x4096 ![] bcast_S_S8x2x4x4096 (constant S_ .f32 0xFF800000#32)) m))))

/-- The rows of `p` divided by their sums. -/
def refNorm (p : Vec Ideal S8x2x4x4096x4352 .f32) : Vec Ideal S8x2x4x4096x4352 .f32 :=
  Host.divf (F := Ideal) p
    (broadcastInDim S8x2x4x4096x4352 ![0, 1, 2, 3, 4] bcast_S8x2x4x4096x1_S8x2x4x4096x4352_0_1_2_3_4
      (broadcastInDim S8x2x4x4096x1 ![0, 1, 2, 3] bcast_S8x2x4x4096_S8x2x4x4096x1_0_1_2_3
        (Host.reduceAdd p (constant S_ .f32 0x00000000#32) reducesTo_S8x2x4x4096x4352_S8x2x4x4096_d4 h_S_)))

/-- The reference's result as its operations compose it from the queries, keys and values. -/
def refTerm (q : Vec Ideal S8x2x4x4096x64 .f32) (k v : Vec Ideal S8x2x4352x64 .f32) : Vec Ideal S8x4096x512 .bf16 :=
  truncf (F := Ideal) .bf16 (shapeCast S8x4096x512 (transpose S8x4096x4x2x64 [0, 3, 2, 1, 4]
    (Host.dotGeneral (F := Ideal) (φ₁ := .f32) (φ₂ := .f32) dot_S8x2x4x4096x4352_S8x2x4352x64_S8x2x4x4096x64_4_2_23_3_01_01 none
      (refNorm (refExp (refScores q k) (refMax (refScores q k))) : FVec Ideal S8x2x4x4096x4352 .f32) (v : FVec Ideal S8x2x4352x64 .f32))
    transposes_S8x2x4x4096x64_S8x4096x4x2x64_0_3_2_1_4) shapeCasts_S8x4096x4x2x64_S8x4096x512) bitsLt_bf16_f32

/-- The score of key `j` in the reference: the product of query and key over the 64 dimensions, times one eighth. -/
def refScore (q : Vec Ideal S8x2x4x4096x64 .f32) (k : Vec Ideal S8x2x4352x64 .f32) (b : Fin 8) (h : Fin 2) (g : Fin 4)
    (t : Fin 4096) (j : Fin 4352) : EReal :=
  (∑ e : Fin 64, q (ix5 b h g t e) * k (ix4 b h j e)) * (((1 : ℝ) / 8 : ℝ) : EReal)

/-- A scaled score at an entry. -/
theorem refScores_apply (q : Vec Ideal S8x2x4x4096x64 .f32) (k : Vec Ideal S8x2x4352x64 .f32) (b : Fin 8) (h : Fin 2)
    (g : Fin 4) (t : Fin 4096) (j : Fin 4352) : refScores q k (ix5 b h g t j) = refScore q k b h g t j := by
  have he : Ideal.ofBits .f32 0x3E000000#32 = (((1 : ℝ) / 8 : ℝ) : EReal) := by
    simp [Ideal.ofBits, Ideal.ieee]
    rw [← EReal.coe_mul]
    norm_num
  unfold refScores refScore
  pointwise
  rw [he]

/-- A host maximum along the last of five axes, started from minus infinity. -/
theorem max_row {n0 n1 n2 n3 n4 : ℕ} {t : Shape} (h : (⟨5, ![n0, n1, n2, n3, n4]⟩ : Shape).ReducesTo [4] t)
    (hu : 0 < S_.numel) (s : (⟨5, ![n0, n1, n2, n3, n4]⟩ : Shape).Idx → EReal) (init : S_.Idx → EReal) (j : t.Idx) :
    Host.reduce (FloatOps.maximumf (F := Ideal) (φ := .f32)) s init h hu j
      = Finset.univ.fold max (init (Shape.Idx.first hu)) fun k : Fin n4 => s (ix5
          ⟨(j ⟨0, h.lt_r5_a4_0⟩).val, Shape.coordLt _ h.size_r5_a4_0⟩
          ⟨(j ⟨1, h.lt_r5_a4_1⟩).val, Shape.coordLt _ h.size_r5_a4_1⟩
          ⟨(j ⟨2, h.lt_r5_a4_2⟩).val, Shape.coordLt _ h.size_r5_a4_2⟩
          ⟨(j ⟨3, h.lt_r5_a4_3⟩).val, Shape.coordLt _ h.size_r5_a4_3⟩ k) := by
  rw [Host.reduce_eq_fold]
  exact h.fold_fiber_r5_a4 j max _ s

/-- A row's maximum at an entry. -/
theorem refMax_apply (s : Vec Ideal S8x2x4x4096x4352 .f32) (b : Fin 8) (h : Fin 2) (g : Fin 4) (t : Fin 4096) :
    refMax s (ix4 b h g t) = Finset.univ.fold max (⊥ : EReal) fun i : Fin 4352 => s (ix5 b h g t i) := by
  have hb : Ideal.ofBits .f32 0xFF800000#32 = (⊥ : EReal) := by
    simp [Ideal.ofBits, Ideal.ieee]
  unfold refMax
  rw [max_row]
  show Finset.univ.fold max (Ideal.ofBits .f32 0xFF800000#32) _ = _
  rw [hb]
  rfl

/-- An exponential at an entry. -/
theorem refExp_apply (s : Vec Ideal S8x2x4x4096x4352 .f32) (m : Vec Ideal S8x2x4x4096 .f32) (b : Fin 8) (h : Fin 2)
    (g : Fin 4) (t : Fin 4096) (j : Fin 4352) :
    refExp s m (ix5 b h g t j) = Ideal.exp (s (ix5 b h g t j) - max ⊥ (m (ix4 b h g t))) := by
  have hb : Ideal.ofBits .f32 0xFF800000#32 = (⊥ : EReal) := by
    simp [Ideal.ofBits, Ideal.ieee]
  unfold refExp
  pointwise
  rw [hb]

/-- A normalised entry. -/
theorem refNorm_apply (p : Vec Ideal S8x2x4x4096x4352 .f32) (b : Fin 8) (h : Fin 2) (g : Fin 4) (t : Fin 4096)
    (j : Fin 4352) :
    refNorm p (ix5 b h g t j) = Ideal.div (p (ix5 b h g t j)) (0 + ∑ i : Fin 4352, p (ix5 b h g t i)) := by
  unfold refNorm
  pointwise

/-- The reference's result at an entry. -/
theorem refTerm_apply (q : Vec Ideal S8x2x4x4096x64 .f32) (k v : Vec Ideal S8x2x4352x64 .f32)
    (b : Fin 8) (t : Fin 4096) (g : Fin 4) (h : Fin 2) (d : Fin 64) :
    refTerm q k v (ix3 b t ⟨128 * g.val + 64 * h.val + d.val, by omega⟩)
      = ∑ j : Fin 4352, Ideal.div
          (Ideal.exp (refScore q k b h g t j - max ⊥ (Finset.univ.fold max (⊥ : EReal) (refScore q k b h g t))))
          (0 + ∑ i, Ideal.exp (refScore q k b h g t i
            - max ⊥ (Finset.univ.fold max (⊥ : EReal) (refScore q k b h g t)))) * v (ix4 b h j d) := by
  unfold refTerm
  pointwise
  simp only [refNorm_apply, refExp_apply, refMax_apply, refScores_apply, zero_add]

end Attention

end
-- ==== Proof.Group.lean ====
module

public import proofs.«01_k».proof.Proof.Gen.KernelIdeal.Skeleton
public import proofs.«01_k».proof.Proof.Softmax
public import Idealize.ShloMosaic.Lib.MatmulPlain
public import Idealize.ShloMosaic.Lib.KernelVsHost
public import Idealize.ShloMosaic.Lib.Pipeline.Value
public import Idealize.ShloMosaic.Lib.Tactic.ValueTie

@[expose] public section

/-! One query group of the kernel — 256 rows of two heads side by side in 128 lanes — as one function of the
    group's queries and the batch's keys and values, and that function read at an entry. -/

set_option maxRecDepth 16384

noncomputable section

namespace Attention

open Cert.KernelIdeal Cert.KernelIdeal.Gen Idealize.ShloMosaic Idealize.ShloMosaic.StableHlo

variable {F : FTy → Type} [FloatOps F] [Named F]

/-- The lanes 0 to 127 of a group's rows. -/
abbrev lanes : IVec S256x128 32 := iota .tc S256x128 32 [1] iota_S256x128_d1_w32

/-- The head a lane belongs to, as the program computes it: the lane divided by 64, rounded down. -/
def head : IVec S256x128 32 :=
  select
    (andi
      (cmpi .ne
        (subi (extui 32 (cmpi .sgt lanes (broadcast S256x128 0#32)) natLt_1_32)
          (extui 32 (cmpi .slt lanes (broadcast S256x128 0#32)) natLt_1_32))
        (broadcast S256x128 (Scalar.subi (Scalar.extui (Scalar.cmpi .sgt 64#32 0#32))
          (Scalar.extui (Scalar.cmpi .slt 64#32 0#32)))))
      (cmpi .ne (remsi lanes (broadcast S256x128 64#32)) (broadcast S256x128 0#32)))
    (subi (divsi lanes (broadcast S256x128 64#32)) (broadcast S256x128 1#32))
    (divsi lanes (broadcast S256x128 64#32))

/-- The scaled queries of head `h`, with zeros in the other head's lanes. -/
def masked (h : BitVec 32) (x : Vec F S1x256x128 .f32) : FVec F S256x128 .bf16 :=
  select (cmpi .eq head (broadcast S256x128 h)) (k0_pay6 x)
    (broadcast S256x128 (Scalar.ofBits .bf16 0x0000#16))

/-- One group's output block: for each of the two heads its lanes of the weighted sums. -/
def group (x : Vec F S1x256x128 .f32) (k v0 v1 : Vec F S4352x128 .bf16) : FVec F S1x256x128 .bf16 :=
  shapeCast S1x256x128
    (truncf .bf16
      (select (cmpi .eq head (broadcast S256x128 0#32)) (k0_pay8 (masked 0#32 x) k v0)
        (k0_pay8 (masked 1#32 x) k v1)) bitsLt_bf16_f32)
    shapeCasts_S256x128_S1x256x128

/-- The first group's stored value is `group`. -/
theorem group_first (x : Vec F S1x256x128 .f32) (k v0 v1 : Vec F S4352x128 .bf16) :
    k0_pay10 lanes (k0_pay8 (k0_pay7 x) k v0) (k0_pay9 lanes (k0_pay6 x)) k
      (constant S256x4352 .f32 0x00000000#32) v1 = group x k v0 v1 := rfl

/-- The second group's stored value is `group`. -/
theorem group_second (x : Vec F S1x256x128 .f32) (k v0 v1 : Vec F S4352x128 .bf16) :
    k0_pay15 lanes (k0_pay13 (k0_pay12 lanes x k) v0) (k0_pay14 lanes (k0_pay11 x) k v1) 64#32
      = group x k v0 v1 := rfl

/-- The third group's stored value is `group`. -/
theorem group_third (x : Vec F S1x256x128 .f32) (k v0 v1 : Vec F S4352x128 .bf16) :
    k0_pay26 lanes
      (k0_pay19 lanes (k0_pay16 x) 64#32 (k0_pay17 lanes) (k0_pay18 lanes) k v0)
      (k0_pay23 lanes (k0_pay16 x) 64#32 (k0_pay20 lanes) (k0_pay21 lanes) k0_pay22 k v1) 64#32
      (k0_pay24 lanes) (k0_pay25 lanes) = group x k v0 v1 := rfl

/-- The fourth group's stored value is `group`. -/
theorem group_fourth (x : Vec F S1x256x128 .f32) (k v0 v1 : Vec F S4352x128 .bf16) :
    k0_pay1
      (k0_pay31 lanes (k0_pay27 x) 64#32 (k0_pay28 lanes) (k0_pay29 lanes) k0_pay30 k v0)
      (k0_pay35 (k0_pay27 x) (k0_pay32 lanes) (k0_pay33 lanes) (k0_pay34 lanes) k v1)
      (k0_pay36 lanes) (k0_pay37 lanes) (k0_pay38 lanes) = group x k v0 v1 := rfl

/-- A lane's head is the lane divided by 64. -/
theorem head_apply (r : Fin 256) (l : Fin 128) :
    head (ix2 r l) = BitVec.ofNat 32 (l.val / 64) := by
  unfold head
  pointwise
  revert l
  decide

/-- Choosing by head: the first value in the lanes of head `h`, the second elsewhere. -/
theorem select_head (h : Fin 2) (l : Fin 128) (a b : EReal) :
    Scalar.select (IntOp.cmpi .eq (BitVec.ofNat 32 (l.val / 64)) (BitVec.ofNat 32 h.val)) a b
      = if l.val / 64 = h.val then a else b := by
  have key : ∀ (h : Fin 2) (l : Fin 128),
      IntOp.cmpi .eq (BitVec.ofNat 32 (l.val / 64)) (BitVec.ofNat 32 h.val)
        = if l.val / 64 = h.val then 1#1 else 0#1 := by decide
  rw [key]
  split <;> simp [Scalar.select]

/-- A masked query entry: the scaled query in the head's own lanes, zero in the others. -/
theorem masked_apply (h : Fin 2) (x : Vec Ideal S1x256x128 .f32) (r : Fin 256) (l : Fin 128) :
    masked (F := Ideal) (BitVec.ofNat 32 h.val) x (ix2 r l)
      = if l.val / 64 = h.val then x (ix3 0 r l) * (((8 * Real.log 2)⁻¹ : ℝ) : EReal) else 0 := by
  unfold masked k0_pay6
  pointwise
  rw [head_apply]
  exact select_head h l _ _

/-- Sums of values weighted by powers of two of the scores less their maximum, over the sum of `z` so weighted. -/
def weigh {n : Nat} (s v z : Fin n → EReal) : EReal :=
  Ideal.div (∑ j, Ideal.exp2 (s j - Finset.univ.fold max (⊥ : EReal) s) * v j)
    (∑ j, Ideal.exp2 (s j - Finset.univ.fold max (⊥ : EReal) s) * z j)

/-- The weighted sums of one head's values at an entry, divided by the same sums at the lane 64 further on. -/
theorem side_apply (q : Vec Ideal S256x128 .bf16) (k v : Vec Ideal S4352x128 .bf16) (r : Fin 256) (l : Fin 128) :
    k0_pay8 (F := Ideal) q k v (ix2 r l)
      = weigh (fun j : Fin 4352 => ∑ d : Fin 128, q (ix2 r d) * k (ix2 j d)) (fun j => v (ix2 j l))
          (fun j => v (ix2 j ⟨(l.val + 64) % 128, Nat.mod_lt _ (by norm_num)⟩)) := by
  have hb : Ideal.ofBits .f32 4286578688#32 = (⊥ : EReal) := by
    simp [Ideal.ofBits, Ideal.ieee]
  unfold k0_pay8
  pointwise
  rw [hb]
  rfl

/-- The score of key `j` for row `r`: the products over the 128 lanes, those of the other head with zero. -/
def score (h : Fin 2) (x : Vec Ideal S1x256x128 .f32) (k : Vec Ideal S4352x128 .bf16) (r : Fin 256)
    (j : Fin 4352) : EReal :=
  ∑ d : Fin 128, (if d.val / 64 = h.val then x (ix3 0 r d) * (((8 * Real.log 2)⁻¹ : ℝ) : EReal) else 0)
    * k (ix2 j d)

/-- A group's output entry: the weighted sums of the lane's own head. -/
theorem group_apply (x : Vec Ideal S1x256x128 .f32) (k v0 v1 : Vec Ideal S4352x128 .bf16) (r : Fin 256)
    (l : Fin 128) :
    group (F := Ideal) x k v0 v1 (ix3 0 r l)
      = if l.val / 64 = 0
        then weigh (score 0 x k r) (fun j => v0 (ix2 j l))
          (fun j => v0 (ix2 j ⟨(l.val + 64) % 128, Nat.mod_lt _ (by norm_num)⟩))
        else weigh (score 1 x k r) (fun j => v1 (ix2 j l))
          (fun j => v1 (ix2 j ⟨(l.val + 64) % 128, Nat.mod_lt _ (by norm_num)⟩)) := by
  unfold group
  pointwise
  rw [head_apply, side_apply, side_apply]
  refine (select_head 0 l _ _).trans ?_
  have h0 := fun d => masked_apply 0 x r d
  have h1 := fun d => masked_apply 1 x r d
  simp only [Fin.val_zero, Fin.val_one] at h0 h1
  simp only [h0, h1]
  rfl

end Attention

end
-- ==== Proof.Point.lean ====
module

public import proofs.«01_k».proof.Proof.Gen.KernelIdeal.Frame
public import proofs.«01_k».proof.Proof.Group

@[expose] public section

/-! What one grid point leaves in its output block and in the two scratch buffers, from its input blocks. -/

set_option maxRecDepth 16384

noncomputable section

namespace Attention

open Cert.KernelIdeal Cert.KernelIdeal.Gen Idealize.ShloMosaic Idealize.ShloMosaic.StableHlo

variable {F : FTy → Type} [FloatOps F] [Named F]

/-- The context's 256 rows above the latents' 4096: what the first point of a batch puts into scratch. -/
def stack {n : Nat} (x : Vec F ⟨3, ![1, 256, n]⟩ .bf16) (z : Vec F ⟨3, ![1, 4096, n]⟩ .bf16) :
    Vec F ⟨2, ![4352, n]⟩ .bf16 := fun i =>
  if h : (i 0).val < 256 then x (ix3 0 ⟨(i 0).val, h⟩ (i 1))
  else z (ix3 0 ⟨(i 0).val - 256, by have h' : (i 0).val < 4352 := (i 0).isLt; omega⟩ (i 1))

/-- The queries of group `g` out of a block of four. -/
def groupQ (x : Vec F S1x256x512 .f32) (g : Fin 4) : Vec F S1x256x128 .f32 := fun i =>
  x (ix3 0 (i 1) ⟨128 * g.val + (i 2).val, by have h : (i 2).val < 128 := (i 2).isLt; omega⟩)

/-- Head `h`'s 128 columns of the value scratch: its values and a block of ones. -/
def headV (v : Vec F S4352x256 .bf16) (h : Fin 2) : Vec F S4352x128 .bf16 := fun i =>
  v (ix2 (i 0) ⟨128 * h.val + (i 1).val, by have h' : (i 1).val < 128 := (i 1).isLt; omega⟩)

/-- One point's output block: its four groups side by side. -/
def blockOut (x : Vec F S1x256x512 .f32) (k : Vec F S4352x128 .bf16) (v : Vec F S4352x256 .bf16) :
    Vec F S1x256x512 .bf16 := fun y =>
  group (groupQ x ⟨(y 2).val / 128, by have h : (y 2).val < 512 := (y 2).isLt; omega⟩) k (headV v 0) (headV v 1)
    (ix3 0 (y 1) ⟨(y 2).val % 128, Nat.mod_lt _ (by norm_num)⟩)

/-- A row of two stacked blocks lies in the first block's rows or in the second's. -/
theorem rows_cover {n : Nat} (inb₁ inb₀) (y : (⟨2, ![4352, n]⟩ : Shape).Idx) :
    y ∈ (Rect.unit (s := ⟨2, ![4352, n]⟩) ![256, 0] ![4096, n] inb₁).set
      ∨ y ∈ (Rect.unit (s := ⟨2, ![4352, n]⟩) ![0, 0] ![256, n] inb₀).set := by
  have h0 : (y 0).val < 4352 := (y 0).isLt
  have h1 : (y 1).val < n := (y 1).isLt
  by_cases h : (y 0).val < 256
  · right
    rw [Rect.mem_set_unit]
    intro a
    match a with
    | ⟨0, _⟩ => exact ⟨Nat.zero_le _, by simpa using h⟩
    | ⟨1, _⟩ => exact ⟨Nat.zero_le _, by simpa using h1⟩
  · left
    rw [Rect.mem_set_unit]
    intro a
    match a with
    | ⟨0, _⟩ => exact ⟨by simpa using h, by simpa using h0⟩
    | ⟨1, _⟩ => exact ⟨Nat.zero_le _, by simpa using h1⟩

/-- Stores of the context's rows and of the latents' rows leave the two stacked. -/
theorem canon_stack {n : Nat} (x : Vec F ⟨3, ![1, 256, n]⟩ .bf16) (z : Vec F ⟨3, ![1, 4096, n]⟩ .bf16) (inb₁ inb₀)
    (b : Vec F ⟨2, ![4096, n]⟩ .bf16) (a : Vec F ⟨2, ![256, n]⟩ .bf16)
    (hb : ∀ r l, b (ix2 r l) = z (ix3 0 r l)) (ha : ∀ r l, a (ix2 r l) = x (ix3 0 r l)) :
    View.canon (Val := Elt F) (s := ⟨2, ![4352, n]⟩) (e := .bf16)
      [⟨Rect.unit ![256, 0] ![4096, n] inb₁, b⟩, ⟨Rect.unit ![0, 0] ![256, n] inb₀, a⟩] = stack x z := by
  funext y
  refine View.canon_apply_of_pieces _ _ (fun p hp j => ?_) y ?_
  · simp only [List.mem_cons, List.not_mem_nil, or_false] at hp
    rcases hp with rfl | rfl
    · obtain ⟨r, l, rfl⟩ : ∃ (r : Fin 4096) (l : Fin n), j = ix2 r l := ⟨j 0, j 1, eq_ix2 j⟩
      have hv : ¬ (((Rect.unit (s := ⟨2, ![4352, n]⟩) ![256, 0] ![4096, n] inb₁).emb (ix2 r l)) 0).val < 256 := by
        show ¬ 256 + 1 * r.val < 256
        omega
      unfold stack
      rw [dif_neg hv]
      refine (hb r l).trans (congrArg z (funext fun a => Fin.ext ?_))
      match a with
      | ⟨0, _⟩ => rfl
      | ⟨1, _⟩ => show r.val = 256 + 1 * r.val - 256; omega
      | ⟨2, _⟩ => show l.val = 0 + 1 * l.val; omega
    · obtain ⟨r, l, rfl⟩ : ∃ (r : Fin 256) (l : Fin n), j = ix2 r l := ⟨j 0, j 1, eq_ix2 j⟩
      have hv : (((Rect.unit (s := ⟨2, ![4352, n]⟩) ![0, 0] ![256, n] inb₀).emb (ix2 r l)) 0).val < 256 := by
        show 0 + 1 * r.val < 256
        omega
      unfold stack
      rw [dif_pos hv]
      refine (ha r l).trans (congrArg x (funext fun a => Fin.ext ?_))
      match a with
      | ⟨0, _⟩ => rfl
      | ⟨1, _⟩ => show r.val = 0 + 1 * r.val; omega
      | ⟨2, _⟩ => show l.val = 0 + 1 * l.val; omega
  · rcases rows_cover inb₁ inb₀ y with h | h
    · exact ⟨_, List.mem_cons_self, h⟩
    · exact ⟨_, List.mem_cons_of_mem _ List.mem_cons_self, h⟩

/-- A load of a whole block is the block. -/
theorem ld_block {b r n : Nat} {e : EltTy} (x : Vec F ⟨3, ![b, r, n]⟩ e) (inb) :
    View.ld x (Rect.unit ![0, 0, 0] ![b, r, n] inb) = x :=
  View.ld_unit_zero (by funext a; fin_cases a <;> rfl) _ _

/-- The key scratch after its two stores. -/
theorem canon_keys (x1 : Vec F S1x256x128 .bf16) (x3 : Vec F S1x4096x128 .bf16) :
    View.canon (Val := Elt F)
      [⟨Rect.unit ![256, 0] ![4096, 128] inb_S4352x128_S4096x128_256_0, k0_pay4 x3⟩,
        ⟨Rect.unit ![0, 0] ![256, 128] inb_S4352x128_S256x128_0_0, k0_pay2 x1⟩] = stack x1 x3 :=
  canon_stack x1 x3 _ _ _ _ (fun r l => by unfold k0_pay4; pointwise) (fun r l => by unfold k0_pay2; pointwise)

/-- The value scratch after its two stores. -/
theorem canon_vals (x2 : Vec F S1x256x256 .bf16) (x4 : Vec F S1x4096x256 .bf16) :
    View.canon (Val := Elt F)
      [⟨Rect.unit ![256, 0] ![4096, 256] inb_S4352x256_S4096x256_256_0, k0_pay5 x4⟩,
        ⟨Rect.unit ![0, 0] ![256, 256] inb_S4352x256_S256x256_0_0, k0_pay3 x2⟩] = stack x2 x4 :=
  canon_stack x2 x4 _ _ _ _ (fun r l => by unfold k0_pay5; pointwise) (fun r l => by unfold k0_pay3; pointwise)

/-- A load of the whole key scratch is the scratch. -/
theorem ld_keys (k : Vec F S4352x128 .bf16) (inb) :
    View.ld k (Rect.unit ![0, 0] ![4352, 128] inb) = k :=
  View.ld_unit_zero (by funext a; fin_cases a <;> rfl) _ _

/-- A load of 128 columns of the value scratch is one head's columns. -/
theorem ld_vals (v : Vec F S4352x256 .bf16) (h : Fin 2) (o : Nat) (ho : o = 128 * h.val) (inb) :
    View.ld v (Rect.unit ![0, o] ![4352, 128] inb) = headV v h := by
  subst ho
  funext x
  refine congrArg v (funext fun a => Fin.ext ?_)
  match a with
  | ⟨0, _⟩ => exact (Nat.zero_add _).trans (Nat.one_mul _)
  | ⟨1, _⟩ => exact congrArg (128 * h.val + ·) (Nat.one_mul _)

/-- A covered load of the whole key scratch is what its stores left. -/
theorem readCov_keys (w : View sig .tc .vmem S4352x128 .bf16) (L : List (View.Piece (Elt F) S4352x128 .bf16)) (inb) :
    w.readCov L (Rect.unit ![0, 0] ![4352, 128] inb).toLoadRect = View.canon L :=
  (View.readCov_eq_canon' _ _ _).trans (ld_keys _ _)

/-- A covered load of 128 columns of the value scratch is one head's columns of what its stores left. -/
theorem readCov_vals (w : View sig .tc .vmem S4352x256 .bf16) (L : List (View.Piece (Elt F) S4352x256 .bf16))
    (h : Fin 2) (o : Nat) (ho : o = 128 * h.val) (inb) :
    w.readCov L (Rect.unit ![0, o] ![4352, 128] inb).toLoadRect = headV (View.canon L) h :=
  (View.readCov_eq_canon' _ _ _).trans (ld_vals _ h o ho _)

/-- A group's store at its columns is the block's value there. -/
theorem piece (x : Vec F S1x256x512 .f32) (k : Vec F S4352x128 .bf16) (v : Vec F S4352x256 .bf16) (g : Fin 4)
    (o : Nat) (ho : o = 128 * g.val) (inb) (j : (Rect.unit (s := S1x256x512) ![0, 0, o] ![1, 256, 128] inb).shape.Idx) :
    group (View.ld x (Rect.unit ![0, 0, o] ![1, 256, 128] inb)) k (headV v 0) (headV v 1) j
      = blockOut x k v ((Rect.unit ![0, 0, o] ![1, 256, 128] inb).emb j) := by
  subst ho
  obtain ⟨r, l, rfl⟩ : ∃ (r : Fin 256) (l : Fin 128), j = ix3 0 r l :=
    ⟨j 1, j 2, (eq_ix3 j).trans (by rw [Subsingleton.elim (α := Fin 1) (j 0) 0])⟩
  have h2 : (((Rect.unit (s := S1x256x512) ![0, 0, 128 * g.val] ![1, 256, 128] inb).emb (ix3 0 r l)) 2).val
      = 128 * g.val + l.val := congrArg (128 * g.val + ·) (Nat.one_mul _)
  have h1 : ((Rect.unit (s := S1x256x512) ![0, 0, 128 * g.val] ![1, 256, 128] inb).emb (ix3 0 r l)) 1 = r :=
    Fin.ext ((Nat.zero_add _).trans (Nat.one_mul _))
  unfold blockOut
  congr 1
  · have hg : (⟨(((Rect.unit (s := S1x256x512) ![0, 0, 128 * g.val] ![1, 256, 128] inb).emb (ix3 0 r l)) 2).val / 128,
        by rw [h2]; have := g.isLt; have := l.isLt; omega⟩ : Fin 4) = g :=
      Fin.ext (by show _ / 128 = _; rw [h2]; have := l.isLt; omega)
    rw [hg]
    funext z
    refine congrArg x (funext fun a => Fin.ext ?_)
    match a with
    | ⟨0, _⟩ => have h : (z 0).val < 1 := (z 0).isLt; show 0 + 1 * (z 0).val = 0; omega
    | ⟨1, _⟩ => exact (Nat.zero_add _).trans (Nat.one_mul _)
    | ⟨2, _⟩ => exact congrArg (128 * g.val + ·) (Nat.one_mul _)
  · rw [h1]
    refine congrArg (ix3 0 r) (Fin.ext ?_)
    show l.val = _ % 128
    rw [h2]
    have := l.isLt
    omega

/-- The four stores of a point's body leave `blockOut`. -/
theorem canon_groups (x : Vec F S1x256x512 .f32) (k : Vec F S4352x128 .bf16) (v : Vec F S4352x256 .bf16)
    (L : List (View.Piece (Elt F) S1x256x512 .bf16))
    (hL : L = [⟨Rect.unit ![0, 0, 384] ![1, 256, 128] inb_S1x256x512_S1x256x128_0_0_384,
          group (View.ld x (Rect.unit ![0, 0, 384] ![1, 256, 128] inb_S1x256x512_S1x256x128_0_0_384)) k (headV v 0) (headV v 1)⟩,
        ⟨Rect.unit ![0, 0, 256] ![1, 256, 128] inb_S1x256x512_S1x256x128_0_0_256,
          group (View.ld x (Rect.unit ![0, 0, 256] ![1, 256, 128] inb_S1x256x512_S1x256x128_0_0_256)) k (headV v 0) (headV v 1)⟩,
        ⟨Rect.unit ![0, 0, 128] ![1, 256, 128] inb_S1x256x512_S1x256x128_0_0_128,
          group (View.ld x (Rect.unit ![0, 0, 128] ![1, 256, 128] inb_S1x256x512_S1x256x128_0_0_128)) k (headV v 0) (headV v 1)⟩,
        ⟨Rect.unit ![0, 0, 0] ![1, 256, 128] inb_S1x256x512_S1x256x128_0_0_0,
          group (View.ld x (Rect.unit ![0, 0, 0] ![1, 256, 128] inb_S1x256x512_S1x256x128_0_0_0)) k (headV v 0) (headV v 1)⟩])
    (cov : ∀ y, ∃ pc ∈ L, y ∈ pc.1.set) : View.canon L = blockOut x k v := by
  subst hL
  funext y
  refine View.canon_apply_of_pieces _ _ (fun p hp j => ?_) y (cov y)
  simp only [List.mem_cons, List.not_mem_nil, or_false] at hp
  rcases hp with rfl | rfl | rfl | rfl
  · exact piece x k v 3 _ rfl _ j
  · exact piece x k v 2 _ rfl _ j
  · exact piece x k v 1 _ rfl _ j
  · exact piece x k v 0 _ rfl _ j

/-- The key scratch after the first point of a batch. -/
theorem sout_keys (c : Dev nD) (i : grid0.Coords) (arg3 : Memref sig .tc .vmem S1x256x512 .f32) (harg3 : arg3.IsWhole) (arg4 :
    Memref sig .tc .vmem S1x256x128 .bf16) (harg4 : arg4.IsWhole) (arg5 : Memref sig .tc .vmem S1x256x256 .bf16)
    (harg5 : arg5.IsWhole) (arg6 : Memref sig .tc .vmem S1x4096x128 .bf16) (harg6 : arg6.IsWhole) (arg7 : Memref
    sig .tc .vmem S1x4096x256 .bf16) (harg7 : arg7.IsWhole) (arg8 : Memref sig .tc .vmem S1x256x512 .bf16) (harg8
    : arg8.IsWhole) (arg9 : Memref sig .tc .vmem S4352x128 .bf16) (harg9 : arg9.IsWhole) (arg10 : Memref sig .tc
    .vmem S4352x256 .bf16) (harg10 : arg10.IsWhole) (hc0 : cond0_0 i)
    (x0 : Vec F S1x256x512 .f32) (x1 : Vec F S1x256x128 .bf16) (x2 : Vec F S1x256x256 .bf16) (x3 : Vec F S1x4096x128 .bf16) (x4 : Vec F S1x4096x256 .bf16) :
    sout0_A_0 c i arg3 harg3 arg4 harg4 arg5 harg5 arg6 harg6 arg7 harg7 arg8 harg8 arg9 harg9 arg10 harg10 hc0 x0 x1 x2 x3 x4 = stack x1 x3 := by
  unfold sout0_A_0
  rw [View.read_writes_eq_canon _ _ _ (scover0_A_0 c i arg3 harg3 arg4 harg4 arg5 harg5 arg6 harg6 arg7 harg7 arg8 harg8 arg9 harg9 arg10 harg10 hc0 x0 x1 x2 x3 x4)]
  unfold kernelRun0_A
  dsimp only
  sl_unfold_words
  simp only [View.readAt_eq_ld, harg4.read_unread, harg6.read_unread, ld_block]
  exact canon_keys x1 x3

/-- The value scratch after the first point of a batch. -/
theorem sout_vals (c : Dev nD) (i : grid0.Coords) (arg3 : Memref sig .tc .vmem S1x256x512 .f32) (harg3 : arg3.IsWhole) (arg4 :
    Memref sig .tc .vmem S1x256x128 .bf16) (harg4 : arg4.IsWhole) (arg5 : Memref sig .tc .vmem S1x256x256 .bf16)
    (harg5 : arg5.IsWhole) (arg6 : Memref sig .tc .vmem S1x4096x128 .bf16) (harg6 : arg6.IsWhole) (arg7 : Memref
    sig .tc .vmem S1x4096x256 .bf16) (harg7 : arg7.IsWhole) (arg8 : Memref sig .tc .vmem S1x256x512 .bf16) (harg8
    : arg8.IsWhole) (arg9 : Memref sig .tc .vmem S4352x128 .bf16) (harg9 : arg9.IsWhole) (arg10 : Memref sig .tc
    .vmem S4352x256 .bf16) (harg10 : arg10.IsWhole) (hc0 : cond0_0 i)
    (x0 : Vec F S1x256x512 .f32) (x1 : Vec F S1x256x128 .bf16) (x2 : Vec F S1x256x256 .bf16) (x3 : Vec F S1x4096x128 .bf16) (x4 : Vec F S1x4096x256 .bf16) :
    sout0_A_1 c i arg3 harg3 arg4 harg4 arg5 harg5 arg6 harg6 arg7 harg7 arg8 harg8 arg9 harg9 arg10 harg10 hc0 x0 x1 x2 x3 x4 = stack x2 x4 := by
  unfold sout0_A_1
  rw [View.read_writes_eq_canon _ _ _ (scover0_A_1 c i arg3 harg3 arg4 harg4 arg5 harg5 arg6 harg6 arg7 harg7 arg8 harg8 arg9 harg9 arg10 harg10 hc0 x0 x1 x2 x3 x4)]
  unfold kernelRun0_A
  dsimp only
  sl_unfold_words
  simp only [View.readAt_eq_ld, harg5.read_unread, harg7.read_unread, ld_block]
  exact canon_vals x2 x4

/-- The output block of the first point of a batch: from the keys and values it has put into scratch. -/
theorem out_first (c : Dev nD) (i : grid0.Coords) (arg3 : Memref sig .tc .vmem S1x256x512 .f32) (harg3 : arg3.IsWhole) (arg4 :
    Memref sig .tc .vmem S1x256x128 .bf16) (harg4 : arg4.IsWhole) (arg5 : Memref sig .tc .vmem S1x256x256 .bf16)
    (harg5 : arg5.IsWhole) (arg6 : Memref sig .tc .vmem S1x4096x128 .bf16) (harg6 : arg6.IsWhole) (arg7 : Memref
    sig .tc .vmem S1x4096x256 .bf16) (harg7 : arg7.IsWhole) (arg8 : Memref sig .tc .vmem S1x256x512 .bf16) (harg8
    : arg8.IsWhole) (arg9 : Memref sig .tc .vmem S4352x128 .bf16) (harg9 : arg9.IsWhole) (arg10 : Memref sig .tc
    .vmem S4352x256 .bf16) (harg10 : arg10.IsWhole) (hc0 : cond0_0 i)
    (x0 : Vec F S1x256x512 .f32) (x1 : Vec F S1x256x128 .bf16) (x2 : Vec F S1x256x256 .bf16) (x3 : Vec F S1x4096x128 .bf16) (x4 : Vec F S1x4096x256 .bf16) :
    out0_A_5 c i arg3 harg3 arg4 harg4 arg5 harg5 arg6 harg6 arg7 harg7 arg8 harg8 arg9 harg9 arg10 harg10 hc0 x0 x1 x2 x3 x4
      = blockOut x0 (stack x1 x3) (stack x2 x4) := by
  have cov := cover0_A_5 c i arg3 harg3 arg4 harg4 arg5 harg5 arg6 harg6 arg7 harg7 arg8 harg8 arg9 harg9 arg10 harg10 hc0 x0 x1 x2 x3 x4
  unfold out0_A_5
  rw [View.read_writes_eq_canon _ _ _ cov]
  refine canon_groups _ _ _ _ ?_ cov
  unfold kernelRun0_A
  dsimp only
  sl_unfold_words
  simp only [View.readAt_eq_ld, harg3.read_unread, harg4.read_unread, harg5.read_unread, harg6.read_unread,
    harg7.read_unread, ld_block, readCov_keys, readCov_vals _ _ 0 0 rfl, readCov_vals _ _ 1 128 rfl, canon_keys, canon_vals]
  rfl

/-- The output block of a later point of a batch: from the keys and values kept in scratch. -/
theorem out_later (c : Dev nD) (i : grid0.Coords) (arg3 : Memref sig .tc .vmem S1x256x512 .f32) (harg3 : arg3.IsWhole) (arg4 :
    Memref sig .tc .vmem S1x256x128 .bf16) (harg4 : arg4.IsWhole) (arg5 : Memref sig .tc .vmem S1x256x256 .bf16)
    (harg5 : arg5.IsWhole) (arg6 : Memref sig .tc .vmem S1x4096x128 .bf16) (harg6 : arg6.IsWhole) (arg7 : Memref
    sig .tc .vmem S1x4096x256 .bf16) (harg7 : arg7.IsWhole) (arg8 : Memref sig .tc .vmem S1x256x512 .bf16) (harg8
    : arg8.IsWhole) (arg9 : Memref sig .tc .vmem S4352x128 .bf16) (harg9 : arg9.IsWhole) (arg10 : Memref sig .tc
    .vmem S4352x256 .bf16) (harg10 : arg10.IsWhole) (hc0 : ¬cond0_0 i)
    (x0 : Vec F S1x256x512 .f32) (x1 : Vec F S1x256x128 .bf16) (x2 : Vec F S1x256x256 .bf16) (x3 : Vec F S1x4096x128 .bf16) (x4 : Vec F S1x4096x256 .bf16)
    (xs0 : Vec F S4352x128 .bf16) (xs1 : Vec F S4352x256 .bf16) :
    out0_B_5 c i arg3 harg3 arg4 harg4 arg5 harg5 arg6 harg6 arg7 harg7 arg8 harg8 arg9 harg9 arg10 harg10 hc0 x0 x1 x2 x3 x4 xs0 xs1
      = blockOut x0 xs0 xs1 := by
  have cov := cover0_B_5 c i arg3 harg3 arg4 harg4 arg5 harg5 arg6 harg6 arg7 harg7 arg8 harg8 arg9 harg9 arg10 harg10 hc0 x0 x1 x2 x3 x4 xs0 xs1
  unfold out0_B_5
  rw [View.read_writes_eq_canon _ _ _ cov]
  refine canon_groups _ _ _ _ ?_ cov
  unfold kernelRun0_B
  dsimp only
  sl_unfold_words
  simp only [View.readAt_eq_ld, harg3.read_unread, harg9.read_unread, harg10.read_unread, ld_keys,
    ld_vals xs1 0 0 rfl, ld_vals xs1 1 128 rfl]
  rfl

end Attention

end
-- ==== Proof.Host.lean ====
module

public import proofs.«01_k».proof.Proof.Gen.KernelIdeal.Value
public import proofs.«01_k».proof.Proof.Point

@[expose] public section

/-! The arrays the host prepares for the kernel — queries, keys and values laid out by column — read at an entry of
    the program's arguments. -/

set_option maxRecDepth 16384

noncomputable section

namespace Attention

open Cert.KernelIdeal Cert.KernelIdeal.Gen Idealize.ShloMosaic Idealize.ShloMosaic.TcCoe Idealize.ShloMosaic.StableHlo

variable (m : (ℓ : Loc nD τ sig) → Buf (Elt Ideal) ℓ)

/-- The queries argument. -/
abbrev argQ (c : Dev nD) : Vec Ideal S8x2x4x4096x64 .f32 := m ((c : Thread nD τ).loc main_arg0)
/-- The keys argument. -/
abbrev argK (c : Dev nD) : Vec Ideal S8x2x4352x64 .f32 := m ((c : Thread nD τ).loc main_arg1)
/-- The values argument. -/
abbrev argV (c : Dev nD) : Vec Ideal S8x2x4352x64 .f32 := m ((c : Thread nD τ).loc main_arg2)

/-- The queries array the kernel's window reads. -/
abbrev hostQ (c : Dev nD) : Vec Ideal S8x4096x512 .f32 := V m c main_v1
/-- The context's keys. -/
abbrev hostKc (c : Dev nD) : Vec Ideal S8x256x128 .bf16 := V m c main_v12
/-- The context's values. -/
abbrev hostVc (c : Dev nD) : Vec Ideal S8x256x256 .bf16 := V m c main_v13
/-- The latents' keys. -/
abbrev hostKl (c : Dev nD) : Vec Ideal S8x4096x128 .bf16 := V m c main_v14
/-- The latents' values. -/
abbrev hostVl (c : Dev nD) : Vec Ideal S8x4096x256 .bf16 := V m c main_v15

/-- The queries laid out for the kernel: group, head and dimension side by side in 512 columns. -/
theorem hostQ_apply (c : Dev nD) (b : Fin 8) (t : Fin 4096) (g : Fin 4) (h : Fin 2) (d : Fin 64) :
    hostQ m c (ix3 b t ⟨128 * g.val + 64 * h.val + d.val, by omega⟩) = argQ m c (ix5 b h g t d) := by
  have e : hostQ m c = shapeCast _ (transpose S8x4096x4x2x64 [0, 3, 2, 1, 4] (argQ m c)
      transposes_S8x2x4x4096x64_S8x4096x4x2x64_0_3_2_1_4) shapeCasts_S8x4096x4x2x64_S8x4096x512 := by
    after_results <;> rfl
  rw [e]
  pointwise

/-- All keys by row, the two heads' dimensions side by side. -/
def keyRows (c : Dev nD) : Vec Ideal S8x4352x128 .bf16 :=
  truncf (F := Ideal) .bf16 (shapeCast _ (transpose S8x4352x2x64 [0, 2, 1, 3] (argK m c)
    transposes_S8x2x4352x64_S8x4352x2x64_0_2_1_3) shapeCasts_S8x4352x2x64_S8x4352x128) bitsLt_bf16_f32

/-- All values by row: head 0, two blocks of ones, head 1. -/
def valRows (c : Dev nD) : Vec Ideal S8x4352x256 .bf16 :=
  truncf (F := Ideal) .bf16 (concatenate S8x4352x256 2
    [⟨S8x4352x64, shapeCast S8x4352x64 (extractStridedSlice S8x1x4352x64 ![0, 0, 0, 0] (argV m c)
        slices_S8x2x4352x64_S8x1x4352x64_0_0_0_0) shapeCasts_S8x1x4352x64_S8x4352x64⟩,
      ⟨S8x4352x64, broadcastInDim S8x4352x64 ![] bcast_S_S8x4352x64 (constant S_ .f32 0x3F800000#32)⟩,
      ⟨S8x4352x64, broadcastInDim S8x4352x64 ![] bcast_S_S8x4352x64 (constant S_ .f32 0x3F800000#32)⟩,
      ⟨S8x4352x64, shapeCast S8x4352x64 (extractStridedSlice S8x1x4352x64 ![0, 1, 0, 0] (argV m c)
        slices_S8x2x4352x64_S8x1x4352x64_0_1_0_0) shapeCasts_S8x1x4352x64_S8x4352x64⟩]
    concatenates_S8x4352x64_S8x4352x64_S8x4352x64_S8x4352x64_S8x4352x256_d2) bitsLt_bf16_f32

/-- A key entry by row and column. -/
theorem keyRows_apply (c : Dev nD) (b : Fin 8) (j : Fin 4352) (h : Fin 2) (d : Fin 64) :
    keyRows m c (ix3 b j ⟨64 * h.val + d.val, by omega⟩) = argK m c (ix4 b h j d) := by
  unfold keyRows
  pointwise

/-- Head 0's value columns. -/
theorem valRows_head0 (c : Dev nD) (b : Fin 8) (j : Fin 4352) (d : Fin 64) :
    valRows m c (ix3 b j ⟨d.val, by omega⟩) = argV m c (ix4 b 0 j d) := by
  unfold valRows
  pointwise

/-- Head 1's value columns. -/
theorem valRows_head1 (c : Dev nD) (b : Fin 8) (j : Fin 4352) (d : Fin 64) :
    valRows m c (ix3 b j ⟨192 + d.val, by omega⟩) = argV m c (ix4 b 1 j d) := by
  unfold valRows
  pointwise
  rw [dif_neg (by omega), dif_neg (by omega), dif_neg (by omega)]
  exact congrArg (fun i => argV m c (ix4 b 1 j i)) (Fin.ext (by show 192 + d.val - 64 - 64 - 64 = d.val; omega))

/-- The columns between are ones. -/
theorem valRows_ones (c : Dev nD) (b : Fin 8) (j : Fin 4352) (d : Fin 128) :
    valRows m c (ix3 b j ⟨64 + d.val, by omega⟩) = (1 : EReal) := by
  unfold valRows
  pointwise
  split
  · rfl
  · rw [dif_pos (by omega)]

/-- The context's keys are the first 256 rows. -/
theorem hostKc_apply (c : Dev nD) (b : Fin 8) (j : Fin 256) (l : Fin 128) :
    hostKc m c (ix3 b j l) = keyRows m c (ix3 b ⟨j.val, by omega⟩ l) := by
  have e : hostKc m c = extractStridedSlice S8x256x128 ![0, 0, 0] (keyRows m c) slices_S8x4352x128_S8x256x128_0_0_0 := by
    unfold keyRows
    after_results <;> rfl
  rw [e]
  pointwise

/-- The latents' keys are the other 4096 rows. -/
theorem hostKl_apply (c : Dev nD) (b : Fin 8) (j : Fin 4096) (l : Fin 128) :
    hostKl m c (ix3 b j l) = keyRows m c (ix3 b ⟨256 + j.val, by omega⟩ l) := by
  have e : hostKl m c = extractStridedSlice S8x4096x128 ![0, 256, 0] (keyRows m c) slices_S8x4352x128_S8x4096x128_0_256_0 := by
    unfold keyRows
    after_results <;> rfl
  rw [e]
  pointwise

/-- The context's values are the first 256 rows. -/
theorem hostVc_apply (c : Dev nD) (b : Fin 8) (j : Fin 256) (l : Fin 256) :
    hostVc m c (ix3 b j l) = valRows m c (ix3 b ⟨j.val, by omega⟩ l) := by
  have e : hostVc m c = extractStridedSlice S8x256x256 ![0, 0, 0] (valRows m c) slices_S8x4352x256_S8x256x256_0_0_0 := by
    unfold valRows
    after_results <;> rfl
  rw [e]
  pointwise

/-- The latents' values are the other 4096 rows. -/
theorem hostVl_apply (c : Dev nD) (b : Fin 8) (j : Fin 4096) (l : Fin 256) :
    hostVl m c (ix3 b j l) = valRows m c (ix3 b ⟨256 + j.val, by omega⟩ l) := by
  have e : hostVl m c = extractStridedSlice S8x4096x256 ![0, 256, 0] (valRows m c) slices_S8x4352x256_S8x4096x256_0_256_0 := by
    unfold valRows
    after_results <;> rfl
  rw [e]
  pointwise

end Attention

end
-- ==== Proof.Result.lean ====
module

public import proofs.«01_k».proof.Proof.Host

@[expose] public section

/-! What the kernel's result holds: each entry the sums of one head's values over all keys, weighted by powers of two
    of the scores, divided by the weights' sum. -/

set_option maxRecDepth 16384

noncomputable section

namespace Attention

open Cert.KernelIdeal Cert.KernelIdeal.Gen Cert.KernelIdeal.Value Idealize.ShloMosaic Idealize.ShloMosaic.TcCoe
  Idealize.ShloMosaic.StableHlo

variable (m : (ℓ : Loc nD τ sig) → Buf (Elt Ideal) ℓ)

/-- A point's batch. -/
def batch (t : Fin cfg0.N) : Fin 8 := ⟨t.val / 16, by
  have h : t.val < 128 := lt_of_lt_of_eq t.isLt N_0
  omega⟩

/-- The block indices of the five inputs, decided over the grid: the point's batch, and its row tile for the queries. -/
theorem idx_facts : ∀ t : Fin cfg0.N,
    (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = 0 ∧ win0_1.index t (2 : Fin 3) = 0)
    ∧ (win0_2.index t (0 : Fin 3) = t.val / 16 ∧ win0_2.index t (1 : Fin 3) = 0 ∧ win0_2.index t (2 : Fin 3) = 0)
    ∧ (win0_3.index t (0 : Fin 3) = t.val / 16 ∧ win0_3.index t (1 : Fin 3) = 0 ∧ win0_3.index t (2 : Fin 3) = 0)
    ∧ (win0_4.index t (0 : Fin 3) = t.val / 16 ∧ win0_4.index t (1 : Fin 3) = 0 ∧ win0_4.index t (2 : Fin 3) = 0) :=
  (by decide +kernel : ∀ t : Fin grid0.N, _)

/-- The queries' block: the point's 256 rows of its batch. -/
theorem iblk_q (c : Dev nD) (t : Fin cfg0.N) (r : Fin 256) (l : Fin 512) :
    (iblk m c 0 t : Vec Ideal S1x256x512 .f32) (ix3 0 r l)
      = hostQ m c (ix3 (batch t) ⟨256 * (t.val % 16) + r.val, by omega⟩ l) := by
  obtain ⟨⟨h0, h1, h2⟩, -⟩ := idx_facts t
  refine congrArg (hostQ m c) (funext fun a => Fin.ext ?_)
  match a with
  | ⟨0, _⟩ => show win0_0.index t (0 : Fin 3) * 1 + 1 * 0 = t.val / 16; rw [h0]; omega
  | ⟨1, _⟩ => show win0_0.index t (1 : Fin 3) * 256 + 1 * r.val = 256 * (t.val % 16) + r.val; rw [h1]; omega
  | ⟨2, _⟩ => show win0_0.index t (2 : Fin 3) * 512 + 1 * l.val = l.val; rw [h2]; omega

/-- The keys of a batch by row. -/
def keysOf (c : Dev nD) (b : Fin 8) : Vec Ideal S4352x128 .bf16 := fun i => keyRows m c (ix3 b (i 0) (i 1))

/-- The values of a batch by row. -/
def valsOf (c : Dev nD) (b : Fin 8) : Vec Ideal S4352x256 .bf16 := fun i => valRows m c (ix3 b (i 0) (i 1))

/-- Rows of one array cut into two parts and stacked again. -/
theorem stack_rows {n : Nat} (x : Vec Ideal ⟨3, ![1, 256, n]⟩ .bf16) (z : Vec Ideal ⟨3, ![1, 4096, n]⟩ .bf16)
    (R : Vec Ideal ⟨3, ![8, 4352, n]⟩ .bf16) (b : Fin 8)
    (hx : ∀ r l, x (ix3 0 r l) = R (ix3 b ⟨r.val, by omega⟩ l))
    (hz : ∀ r l, z (ix3 0 r l) = R (ix3 b ⟨256 + r.val, by omega⟩ l)) :
    stack x z = fun i => R (ix3 b (i 0) (i 1)) := by
  funext i
  unfold stack
  split
  · exact hx _ _
  · rename_i h
    refine (hz _ _).trans (congrArg (fun j => R (ix3 b j (i 1))) (Fin.ext ?_))
    show 256 + ((i 0).val - 256) = (i 0).val
    omega

/-- The keys a point's blocks hold are its batch's. -/
theorem stack_keys (c : Dev nD) (t : Fin cfg0.N) :
    stack (F := Ideal) (iblk m c 1 t : Vec Ideal S1x256x128 .bf16) (iblk m c 3 t : Vec Ideal S1x4096x128 .bf16)
      = keysOf m c (batch t) := by
  obtain ⟨-, ⟨h0, h1, h2⟩, -, ⟨k0, k1, k2⟩, -⟩ := idx_facts t
  refine stack_rows _ _ (keyRows m c) (batch t) (fun r l => ?_) (fun r l => ?_)
  · rw [← hostKc_apply]
    refine congrArg (hostKc m c) (funext fun a => Fin.ext ?_)
    match a with
    | ⟨0, _⟩ => show win0_1.index t (0 : Fin 3) * 1 + 1 * 0 = t.val / 16; rw [h0]; omega
    | ⟨1, _⟩ => show win0_1.index t (1 : Fin 3) * 256 + 1 * r.val = r.val; rw [h1]; omega
    | ⟨2, _⟩ => show win0_1.index t (2 : Fin 3) * 128 + 1 * l.val = l.val; rw [h2]; omega
  · rw [← hostKl_apply]
    refine congrArg (hostKl m c) (funext fun a => Fin.ext ?_)
    match a with
    | ⟨0, _⟩ => show win0_3.index t (0 : Fin 3) * 1 + 1 * 0 = t.val / 16; rw [k0]; omega
    | ⟨1, _⟩ => show win0_3.index t (1 : Fin 3) * 4096 + 1 * r.val = r.val; rw [k1]; omega
    | ⟨2, _⟩ => show win0_3.index t (2 : Fin 3) * 128 + 1 * l.val = l.val; rw [k2]; omega

/-- The values a point's blocks hold are its batch's. -/
theorem stack_vals (c : Dev nD) (t : Fin cfg0.N) :
    stack (F := Ideal) (iblk m c 2 t : Vec Ideal S1x256x256 .bf16) (iblk m c 4 t : Vec Ideal S1x4096x256 .bf16)
      = valsOf m c (batch t) := by
  obtain ⟨-, -, ⟨h0, h1, h2⟩, -, ⟨k0, k1, k2⟩⟩ := idx_facts t
  refine stack_rows _ _ (valRows m c) (batch t) (fun r l => ?_) (fun r l => ?_)
  · rw [← hostVc_apply]
    refine congrArg (hostVc m c) (funext fun a => Fin.ext ?_)
    match a with
    | ⟨0, _⟩ => show win0_2.index t (0 : Fin 3) * 1 + 1 * 0 = t.val / 16; rw [h0]; omega
    | ⟨1, _⟩ => show win0_2.index t (1 : Fin 3) * 256 + 1 * r.val = r.val; rw [h1]; omega
    | ⟨2, _⟩ => show win0_2.index t (2 : Fin 3) * 256 + 1 * l.val = l.val; rw [h2]; omega
  · rw [← hostVl_apply]
    refine congrArg (hostVl m c) (funext fun a => Fin.ext ?_)
    match a with
    | ⟨0, _⟩ => show win0_4.index t (0 : Fin 3) * 1 + 1 * 0 = t.val / 16; rw [k0]; omega
    | ⟨1, _⟩ => show win0_4.index t (1 : Fin 3) * 4096 + 1 * r.val = r.val; rw [k1]; omega
    | ⟨2, _⟩ => show win0_4.index t (2 : Fin 3) * 256 + 1 * l.val = l.val; rw [k2]; omega

/-- After every point the scratch buffers hold the keys and values of the point's batch. -/
theorem scratch_eq (c : Dev nD) : ∀ (n : Nat) (hn : n < cfg0.N),
    (outsAt0 m c n hn).2 = (keysOf m c (batch ⟨n, hn⟩), valsOf m c (batch ⟨n, hn⟩))
  | 0, hn => by
    rw [outsAt0_A m c ⟨0, hn⟩ (Nat.zero_mod _), sout_keys, sout_vals, stack_keys, stack_vals]
  | n + 1, hn => by
    by_cases h0 : (n + 1) % 16 = 0
    · rw [outsAt0_A m c ⟨n + 1, hn⟩ h0, sout_keys, sout_vals, stack_keys, stack_vals]
    · have e : batch ⟨n + 1, hn⟩ = batch ⟨n, Nat.lt_of_succ_lt hn⟩ :=
        Fin.ext (by show (n + 1) / 16 = n / 16; omega)
      rw [outsAt0_B m c ⟨n + 1, hn⟩ h0, e]
      exact scratch_eq c n (Nat.lt_of_succ_lt hn)

/-- The output block every point leaves. -/
theorem out_eq (c : Dev nD) (t : Fin cfg0.N) :
    (outsAt0 m c t.val t.isLt).1
      = blockOut (iblk m c 0 t : Vec Ideal S1x256x512 .f32) (keysOf m c (batch t)) (valsOf m c (batch t)) := by
  by_cases h0 : t.val % 16 = 0
  · rw [outsAt0_A m c t h0, out_first, stack_keys, stack_vals]
  · have e : batch ⟨t.val - 1, Nat.lt_of_le_of_lt (Nat.sub_le _ _) t.isLt⟩ = batch t :=
      Fin.ext (by show (t.val - 1) / 16 = t.val / 16; omega)
    rw [outsAt0_B m c t h0, out_later, scratch_eq, e]

/-- The result array at an entry: the block of the entry's point. -/
theorem G5_apply (c : Dev nD) (b : Fin 8) (t : Fin 4096) (l : Fin 512) :
    ∃ p : Fin cfg0.N, p.val = 16 * b.val + t.val / 256 ∧ G5 m c (ix3 b t l)
      = blockOut (iblk m c 0 p : Vec Ideal S1x256x512 .f32) (keysOf m c (batch p)) (valsOf m c (batch p))
          (ix3 0 ⟨t.val % 256, Nat.mod_lt _ (by norm_num)⟩ l) := by
  have hp : 16 * b.val + t.val / 256 < cfg0.N := lt_of_lt_of_eq (by omega) N_0.symm
  refine ⟨⟨_, hp⟩, rfl, ?_⟩
  have e : pt5Of (ix3 b t l) = 16 * b.val + t.val / 256 := by
    show 16 * (b.val / 1 - 0) + 1 * (t.val / 256 - 0) + 1 * (l.val / 512 - 0) = _
    have := l.isLt
    omega
  unfold G5
  rw [dif_pos (by rw [e]; exact hp), fold0_congr m c _ _ _ (by omega) e, ← outsAt0_sweep m c _ hp,
    ← out_eq m c ⟨_, hp⟩]
  refine congrArg _ (funext fun a => Fin.ext ?_)
  match a with
  | ⟨0, _⟩ => show b.val % 1 = 0; omega
  | ⟨1, _⟩ => rfl
  | ⟨2, _⟩ => show l.val % 512 = l.val; have := l.isLt; omega

/-- A sum over 128 lanes with zeros off head `h`'s lanes is the sum over the head's 64. -/
theorem sum_lanes (h : Fin 2) (f : Fin 128 → EReal) (k : Fin 128 → EReal) :
    ∑ d : Fin 128, (if d.val / 64 = h.val then f d else 0) * k d
      = ∑ e : Fin 64, f ⟨64 * h.val + e.val, by omega⟩ * k ⟨64 * h.val + e.val, by omega⟩ := by
  refine (Fin.sum_univ_add (a := 64) (b := 64) fun d : Fin (64 + 64) =>
    (if d.val / 64 = h.val then f d else 0) * k d).trans ?_
  have lo : ∀ e : Fin 64, (Fin.castAdd 64 e).val / 64 = 0 := fun e => Nat.div_eq_of_lt e.isLt
  have hi : ∀ e : Fin 64, (Fin.natAdd 64 e).val / 64 = 1 := fun e => by
    show (64 + e.val) / 64 = 1; have := e.isLt; omega
  simp only [lo, hi]
  fin_cases h
  · simp only [if_true, one_ne_zero, if_false, zero_mul, Finset.sum_const_zero, add_zero]
    exact Finset.sum_congr rfl fun e _ => by
      have : (⟨64 * 0 + e.val, by omega⟩ : Fin 128) = Fin.castAdd 64 e := Fin.ext (by simp)
      simp only [Fin.zero_eta, Fin.val_zero, this]
  · simp only [zero_ne_one, if_true, if_false, zero_mul, Finset.sum_const_zero, zero_add]
    rfl

/-- The kernel's result at an entry, from the arguments. -/
theorem kernel_apply (c : Dev nD) (b : Fin 8) (t : Fin 4096) (g : Fin 4) (h : Fin 2) (d : Fin 64) :
    G5 m c (ix3 b t ⟨128 * g.val + 64 * h.val + d.val, by omega⟩)
      = weigh (fun j : Fin 4352 => ∑ e : Fin 64,
            argQ m c (ix5 b h g t e) * (((8 * Real.log 2)⁻¹ : ℝ) : EReal) * argK m c (ix4 b h j e))
          (fun j => argV m c (ix4 b h j d)) (fun _ => 1) := by
  obtain ⟨p, hp, e⟩ := G5_apply m c b t ⟨128 * g.val + 64 * h.val + d.val, by omega⟩
  have hb : batch p = b := Fin.ext (by show p.val / 16 = b.val; omega)
  have hg : (⟨(128 * g.val + 64 * h.val + d.val) / 128, by omega⟩ : Fin 4) = g :=
    Fin.ext (by show (128 * g.val + 64 * h.val + d.val) / 128 = g.val; omega)
  have hl : (⟨(128 * g.val + 64 * h.val + d.val) % 128, Nat.mod_lt _ (by norm_num)⟩ : Fin 128)
      = ⟨64 * h.val + d.val, by omega⟩ :=
    Fin.ext (by show (128 * g.val + 64 * h.val + d.val) % 128 = 64 * h.val + d.val; omega)
  rw [e, hb]
  refine (congrArg₂ (fun (g' : Fin 4) (l' : Fin 128) => group (F := Ideal) (groupQ (iblk m c 0 p) g') (keysOf m c b)
    (headV (valsOf m c b) 0) (headV (valsOf m c b) 1)
    (ix3 0 ⟨t.val % 256, Nat.mod_lt _ (by norm_num)⟩ l')) hg hl).trans ?_
  have hs : score h (groupQ (iblk m c 0 p : Vec Ideal S1x256x512 .f32) g) (keysOf m c b)
      ⟨t.val % 256, Nat.mod_lt _ (by norm_num)⟩ = fun j : Fin 4352 => ∑ e : Fin 64,
            argQ m c (ix5 b h g t e) * (((8 * Real.log 2)⁻¹ : ℝ) : EReal) * argK m c (ix4 b h j e) := by
    funext j
    unfold score
    rw [sum_lanes]
    refine Finset.sum_congr rfl fun e _ => ?_
    have hk : keysOf m c b (ix2 j ⟨64 * h.val + e.val, by omega⟩) = argK m c (ix4 b h j e) :=
      keyRows_apply m c b j h e
    have hq : groupQ (iblk m c 0 p : Vec Ideal S1x256x512 .f32) g
        (ix3 0 ⟨t.val % 256, Nat.mod_lt _ (by norm_num)⟩ ⟨64 * h.val + e.val, by omega⟩) = argQ m c (ix5 b h g t e) := by
      refine (iblk_q m c p _ _).trans ((congrArg (hostQ m c) (funext fun a => Fin.ext ?_)).trans
        (hostQ_apply m c b t g h e))
      match a with
      | ⟨0, _⟩ => exact congrArg Fin.val hb
      | ⟨1, _⟩ => show 256 * (p.val % 16) + t.val % 256 = t.val; omega
      | ⟨2, _⟩ => show 128 * g.val + (64 * h.val + e.val) = 128 * g.val + 64 * h.val + e.val; omega
    rw [hk, hq]
  rw [group_apply]
  fin_cases h
  · rw [if_pos (by show (64 * 0 + d.val) / 64 = 0; omega)]
    refine congr (congr (congrArg weigh hs) (funext fun j => ?_)) (funext fun j => ?_)
    · refine Eq.trans ?_ (valRows_head0 m c b j d)
      refine congrArg (fun l => valRows m c (ix3 b j l)) (Fin.ext ?_)
      show 128 * 0 + (64 * 0 + d.val) = d.val
      omega
    · refine Eq.trans ?_ (valRows_ones m c b j ⟨d.val, by omega⟩)
      refine congrArg (fun l => valRows m c (ix3 b j l)) (Fin.ext ?_)
      show 128 * 0 + ((64 * 0 + d.val + 64) % 128) = 64 + d.val
      omega
  · rw [if_neg (by show ¬ (64 * 1 + d.val) / 64 = 0; omega)]
    refine congr (congr (congrArg weigh hs) (funext fun j => ?_)) (funext fun j => ?_)
    · refine Eq.trans ?_ (valRows_head1 m c b j d)
      refine congrArg (fun l => valRows m c (ix3 b j l)) (Fin.ext ?_)
      show 128 * 1 + (64 * 1 + d.val) = 192 + d.val
      omega
    · refine Eq.trans ?_ (valRows_ones m c b j ⟨64 + d.val, by omega⟩)
      refine congrArg (fun l => valRows m c (ix3 b j l)) (Fin.ext ?_)
      show 128 * 1 + ((64 * 1 + d.val + 64) % 128) = 64 + (64 + d.val)
      omega

end Attention

end
-- ==== Proof.Equation.lean ====
module

public import proofs.«01_k».proof.Defs
public import proofs.«01_k».proof.Proof.Gen.Pre_finite_scores
public import proofs.«01_k».proof.Proof.Reference
public import proofs.«01_k».proof.Proof.Result
public import Idealize.ShloMosaic.Lib.ReduceAll

@[expose] public section

/-! The attention's two programs leave the same array when queries and keys are finite. -/

set_option maxRecDepth 16384

noncomputable section

namespace Attention

open Idealize.ShloMosaic Idealize.ShloMosaic.TcCoe

/-- An extended real whose absolute value is below plus infinity is a real number. -/
theorem real_of_abs_lt {x : EReal}
    (h : FloatOps.cmpf (F := Ideal) (φ := .f32) .olt (FloatOps.hostAbsf x) (FloatOps.ofBits .f32 0x7F800000#32) = 1#1) :
    ∃ r : ℝ, x = r := by
  have ht : Ideal.ofBits .f32 0x7F800000#32 = (⊤ : EReal) := by
    simp [Ideal.ofBits, Ideal.ieee]
  change BitVec.ofBool (decide ((max x (-x) : EReal) < Ideal.ofBits .f32 0x7F800000#32)) = 1#1 at h
  rw [ht] at h
  have hlt : (max x (-x) : EReal) < ⊤ := by
    by_contra hn
    rw [decide_eq_false hn] at h
    exact absurd h (by decide)
  induction x using EReal.rec with
  | bot => simp at hlt
  | coe r => exact ⟨r, rfl⟩
  | top => simp at hlt

section Pre

open Cert.Pre_finite_scores Cert.Pre_finite_scores.Gen

/-- What the precondition says: every query entry and every key entry is a real number. -/
theorem real_entries {q : FVec Ideal S8x2x4x4096x64 .f32} {k v : FVec Ideal S8x2x4352x64 .f32}
    (h : fn (F := Ideal) q k v = fun _ => 1#1) :
    (∀ i, ∃ r : ℝ, q i = (r : EReal)) ∧ ∀ i, ∃ r : ℝ, k i = (r : EReal) := by
  have h0 := IntOp.andi_eq_one.1 (congrFun h (Shape.Idx.first h_S_))
  exact ⟨fun i => real_of_abs_lt (Host.reduce_andi_all _ _ _ _ _ h0.1 i),
    fun i => real_of_abs_lt (Host.reduce_andi_all _ _ _ _ _ h0.2 i)⟩

end Pre

/-- One weighted sum of the kernel is the reference's, for queries and keys that are real numbers. -/
theorem weigh_eq (a : Fin 64 → EReal) (k : Fin 4352 → Fin 64 → EReal) (v : Fin 4352 → EReal)
    (ha : ∀ e, ∃ r : ℝ, a e = r) (hk : ∀ j e, ∃ r : ℝ, k j e = r) (s : Fin 4352 → EReal)
    (hs : ∀ j, s j = (∑ e, a e * k j e) * (((1 : ℝ) / 8 : ℝ) : EReal)) :
    weigh (fun j => ∑ e, a e * (((8 * Real.log 2)⁻¹ : ℝ) : EReal) * k j e) v (fun _ => 1)
      = ∑ j, Ideal.div (Ideal.exp (s j - max ⊥ (Finset.univ.fold max (⊥ : EReal) s)))
          (0 + ∑ i, Ideal.exp (s i - max ⊥ (Finset.univ.fold max (⊥ : EReal) s))) * v j := by
  choose α hα using ha
  choose κ hκ using hk
  have h1 : s = fun j => (((∑ e, α e * κ j e) * (1 / 8) : ℝ) : EReal) := by
    funext j
    rw [hs, EReal.coe_mul, coe_sum]
    simp only [hα, hκ, EReal.coe_mul]
  have h2 : (fun j => ∑ e, a e * (((8 * Real.log 2)⁻¹ : ℝ) : EReal) * k j e)
      = fun j => (((∑ e, α e * κ j e) * (1 / 8) * (Real.log 2)⁻¹ : ℝ) : EReal) := by
    funext j
    simp only [hα, hκ, ← EReal.coe_mul]
    rw [← coe_sum, Finset.sum_mul, Finset.sum_mul]
    refine congrArg _ (Finset.sum_congr rfl fun e _ => ?_)
    rw [mul_inv]
    ring
  rw [h1, h2]
  exact softmax_eq (by decide) _ v

open Cert.KernelIdeal in
/-- The kernel's result array is the reference's term of the same arguments. -/
theorem result_eq (m : (ℓ : Loc nD τ sig) → Buf (Elt Ideal) ℓ) (c : Dev nD)
    (h : Cert.Pre_finite_scores.fn (F := Ideal) (argQ m c) (argK m c) (argV m c) = fun _ => 1#1) :
    Cert.KernelIdeal.Value.G5 m c = refTerm (argQ m c) (argK m c) (argV m c) := by
  obtain ⟨hq, hk⟩ := real_entries h
  funext i
  obtain ⟨b, t, l, rfl⟩ : ∃ (b : Fin 8) (t : Fin 4096) (l : Fin 512), i = ix3 b t l :=
    ⟨i 0, i 1, i 2, by funext a; match a with | ⟨0, _⟩ => rfl | ⟨1, _⟩ => rfl | ⟨2, _⟩ => rfl⟩
  obtain ⟨g, h, d, rfl⟩ : ∃ (g : Fin 4) (h : Fin 2) (d : Fin 64), l = ⟨128 * g.val + 64 * h.val + d.val, by omega⟩ :=
    ⟨⟨l.val / 128, by omega⟩, ⟨l.val % 128 / 64, by omega⟩, ⟨l.val % 64, by omega⟩, Fin.ext (by dsimp only; omega)⟩
  rw [refTerm_apply]
  refine (kernel_apply m c b t g h d).trans ?_
  exact weigh_eq (fun e => argQ m c (ix5 b h g t e)) (fun j e => argK m c (ix4 b h j e)) _ (fun e => hq _)
    (fun j e => hk _) _ fun j => rfl

end Attention

end
-- ==== Proof.Rows.lean ====
module

public import Idealize.ShloMosaic.Lib.MatmulPlain
public import Idealize.ShloMosaic.Lib.KernelVsHost
public import Idealize.ShloMosaic.Lib.Tactic.ValueTie

@[expose] public section

/-! The part of a layer after its mixer, for one row of the stream: the mixer's projection normalised and added, and
    the feed-forward of the normalised, modulated row added to that. -/

noncomputable section

namespace Post

open Idealize.ShloMosaic

/-- A row divided by the root of its mean square (with the epsilon of the programs) and multiplied by a gain. -/
def rms (g y : Fin 1024 → EReal) : Fin 1024 → EReal := fun d =>
  y d * Ideal.rsqrt (Ideal.div (∑ e, y e * y e) (Ideal.ofBits .f32 0x44800000#32) + Ideal.ofBits .f32 0x358637BD#32) * g d

/-- Part `k` of a modulation row of six parts. -/
def part (m : Fin 6144 → EReal) (k : Nat) (h : 1024 * k + 1024 ≤ 6144) : Fin 1024 → EReal := fun d =>
  m ⟨1024 * k + d.val, by omega⟩

/-- A row with a gated normalised row added. -/
def residual (gate g x y : Fin 1024 → EReal) : Fin 1024 → EReal := fun d => x d + gate d * rms g y d

/-- A row normalised and modulated by a shift and a scale. -/
def modulated (shift scale g x : Fin 1024 → EReal) : Fin 1024 → EReal := fun d =>
  rms g x d * (1 + scale d) + shift d

/-- The hidden entry of a gated feed-forward: the gate's sigmoid-weighted product times the other product. -/
def hidden (h wg wu : Fin 1024 → EReal) : EReal :=
  Ideal.div (∑ e, h e * wg e) (1 + Ideal.exp (0 - ∑ e, h e * wg e)) * ∑ e, h e * wu e

/-- A row through the gated feed-forward. -/
def ffn (wg wu : Fin 2816 → Fin 1024 → EReal) (wd : Fin 2816 → Fin 1024 → EReal) (h : Fin 1024 → EReal) :
    Fin 1024 → EReal := fun d => ∑ k, hidden h (wg k) (wu k) * wd k d

/-- A row after the mixer's projection has been normalised and added. -/
def mixed (m : Fin 6144 → EReal) (gpm x y : Fin 1024 → EReal) : Fin 1024 → EReal :=
  residual (part m 2 (by norm_num)) gpm x y

/-- A row of the stream after the whole layer. -/
def post (m : Fin 6144 → EReal) (gpm gpf gpff : Fin 1024 → EReal) (wg wu wd : Fin 2816 → Fin 1024 → EReal)
    (x y : Fin 1024 → EReal) : Fin 1024 → EReal :=
  residual (part m 5 (by norm_num)) gpff (mixed m gpm x y)
    (ffn wg wu wd (modulated (part m 3 (by norm_num)) (part m 4 (by norm_num)) gpf (mixed m gpm x y)))

/-- The stream after layer `l`, from the stream before it, the projections of the mixer's rows and the layer's
    weights; batch `b` is modulated by row `b`. -/
def stream (l : Fin 2) (x : Vec Ideal ⟨3, ![8, 4096, 1024]⟩ .f32) (mods : Vec Ideal ⟨3, ![2, 16, 6144]⟩ .f32)
    (y : Fin 8 → Fin 4096 → Fin 1024 → EReal) (npm npf npff : Vec Ideal ⟨2, ![2, 1024]⟩ .f32)
    (wg wu : Vec Ideal ⟨3, ![2, 1024, 2816]⟩ .f32) (wd : Vec Ideal ⟨3, ![2, 2816, 1024]⟩ .f32)
    (b : Fin 8) (t : Fin 4096) : Fin 1024 → EReal :=
  post (fun k => mods (ix3 l ⟨b.val, by omega⟩ k)) (fun d => npm (ix2 l d)) (fun d => npf (ix2 l d))
    (fun d => npff (ix2 l d)) (fun k e => wg (ix3 l e k)) (fun k e => wu (ix3 l e k)) (fun k d => wd (ix3 l k d))
    (fun d => x (ix3 b t d)) (y b t)

end Post

end
-- ==== Proof.HostLayer.lean ====
module

public import proofs.«01_k».proof.Proof.Gen.Reference2Ideal.Run
public import proofs.«01_k».proof.Proof.Rows
public import Idealize.ShloMosaic.Lib.Tactic.ValueTie

@[expose] public section

/-! The reference's operations after a layer's mixer, each on whole arrays, and what they are at a row. -/

set_option maxRecDepth 16384

noncomputable section

namespace Post

open Cert.Reference2Ideal Cert.Reference2Ideal.Gen Idealize.ShloMosaic Idealize.ShloMosaic.TcCoe
  Idealize.ShloMosaic.StableHlo

/-- Rows normalised by the root of their mean square and multiplied by a gain. -/
def hostRms (y : Vec Ideal S8x4096x1024 .f32) (g : Vec Ideal S1024 .f32) : Vec Ideal S8x4096x1024 .f32 :=
  mulf (F := Ideal) (mulf y (broadcastInDim S8x4096x1024 ![0, 1, 2] bcast_S8x4096x1_S8x4096x1024_0_1_2
    (Host.rsqrt (F := Ideal) (addf (Host.divf (broadcastInDim S8x4096x1 ![0, 1] bcast_S8x4096_S8x4096x1_0_1
      (Host.reduceAdd (mulf y y) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 g))

/-- A modulation vector of each batch, on every row. -/
def hostSpread (v : Vec Ideal S8x1x1024 .f32) : Vec Ideal S8x4096x1024 .f32 :=
  broadcastInDim S8x4096x1024 ![0, 1, 2] bcast_S8x1x1024_S8x4096x1024_0_1_2 v

/-- The stream with the gated, normalised rows `y` added. -/
def hostResidual (gate : Vec Ideal S8x1x1024 .f32) (x y : Vec Ideal S8x4096x1024 .f32) (g : Vec Ideal S1024 .f32) :
    Vec Ideal S8x4096x1024 .f32 :=
  addf (F := Ideal) (φ := .f32) x (mulf (F := Ideal) (φ := .f32) (hostSpread gate) (hostRms y g))

/-- The stream normalised and modulated. -/
def hostModulated (shift scale : Vec Ideal S8x1x1024 .f32) (x : Vec Ideal S8x4096x1024 .f32) (g : Vec Ideal S1024 .f32) :
    Vec Ideal S8x4096x1024 .f32 :=
  addf (F := Ideal) (φ := .f32) (mulf (F := Ideal) (φ := .f32) (hostRms x g)
    (hostSpread (addf (F := Ideal) (φ := .f32)
      (broadcastInDim S8x1x1024 ![] bcast_S_S8x1x1024 (constant S_ .f32 0x3F800000#32)) scale)))
    (hostSpread shift)

/-- A product with the columns of one of the feed-forward's first two matrices. -/
def hostUp (h : Vec Ideal S8x4096x1024 .f32) (w : Vec Ideal S1024x2816 .f32) : Vec Ideal S8x4096x2816 .f32 :=
  Host.dotGeneral (F := Ideal) (φ₁ := .f32) (φ₂ := .f32) dot_S8x4096x1024_S1024x2816_S8x4096x2816_2_0_01_1_n_n none
    (h : FVec Ideal S8x4096x1024 .f32) (w : FVec Ideal S1024x2816 .f32)

/-- An array times its sigmoid. -/
def hostSilu (a : Vec Ideal S8x4096x2816 .f32) : Vec Ideal S8x4096x2816 .f32 :=
  mulf (F := Ideal) a (Host.divf (broadcastInDim S8x4096x2816 ![] bcast_S_S8x4096x2816 (constant S_ .f32 0x3F800000#32))
    (addf (broadcastInDim S8x4096x2816 ![] bcast_S_S8x4096x2816 (constant S_ .f32 0x3F800000#32))
      (Host.exp (Host.negf a))))

/-- The gated feed-forward. -/
def hostFfn (h : Vec Ideal S8x4096x1024 .f32) (wg wu : Vec Ideal S1024x2816 .f32) (wd : Vec Ideal S2816x1024 .f32) :
    Vec Ideal S8x4096x1024 .f32 :=
  Host.dotGeneral (F := Ideal) (φ₁ := .f32) (φ₂ := .f32) dot_S8x4096x2816_S2816x1024_S8x4096x1024_2_0_01_1_n_n none
    (mulf (F := Ideal) (hostSilu (hostUp h wg)) (hostUp h wu) : FVec Ideal S8x4096x2816 .f32)
    (wd : FVec Ideal S2816x1024 .f32)

/-- The parts of the modulation that the layer uses after its mixer. -/
def hostGate (M : Vec Ideal S8x1x6144 .f32) : Vec Ideal S8x1x1024 .f32 :=
  extractStridedSlice S8x1x1024 ![0, 0, 2048] M slices_S8x1x6144_S8x1x1024_0_0_2048

@[inherit_doc hostGate] def hostShift (M : Vec Ideal S8x1x6144 .f32) : Vec Ideal S8x1x1024 .f32 :=
  extractStridedSlice S8x1x1024 ![0, 0, 3072] M slices_S8x1x6144_S8x1x1024_0_0_3072

@[inherit_doc hostGate] def hostScale (M : Vec Ideal S8x1x6144 .f32) : Vec Ideal S8x1x1024 .f32 :=
  extractStridedSlice S8x1x1024 ![0, 0, 4096] M slices_S8x1x6144_S8x1x1024_0_0_4096

@[inherit_doc hostGate] def hostGate2 (M : Vec Ideal S8x1x6144 .f32) : Vec Ideal S8x1x1024 .f32 :=
  extractStridedSlice S8x1x1024 ![0, 0, 5120] M slices_S8x1x6144_S8x1x1024_0_0_5120

/-- The stream after the layer, from the mixer's projected rows `y`. -/
def hostPost (M : Vec Ideal S8x1x6144 .f32) (gpm gpf gpff : Vec Ideal S1024 .f32) (wg wu : Vec Ideal S1024x2816 .f32)
    (wd : Vec Ideal S2816x1024 .f32) (x y : Vec Ideal S8x4096x1024 .f32) : Vec Ideal S8x4096x1024 .f32 :=
  hostResidual (hostGate2 M) (hostResidual (hostGate M) x y gpm)
    (hostFfn (hostModulated (hostShift M) (hostScale M) (hostResidual (hostGate M) x y gpm) gpf) wg wu wd) gpff

/-- A normalised entry. -/
theorem hostRms_apply (y : Vec Ideal S8x4096x1024 .f32) (g : Vec Ideal S1024 .f32) (b : Fin 8) (t : Fin 4096)
    (d : Fin 1024) : hostRms y g (ix3 b t d) = rms (fun d => g (ix1 d)) (fun d => y (ix3 b t d)) d := by
  unfold hostRms rms
  pointwise

/-- A modulation entry on a row. -/
theorem hostSpread_apply (v : Vec Ideal S8x1x1024 .f32) (b : Fin 8) (t : Fin 4096) (d : Fin 1024) :
    hostSpread v (ix3 b t d) = v (ix3 b 0 d) := by
  unfold hostSpread
  pointwise

/-- An entry of a residual sum. -/
theorem hostResidual_apply (gate : Vec Ideal S8x1x1024 .f32) (x y : Vec Ideal S8x4096x1024 .f32)
    (g : Vec Ideal S1024 .f32) (b : Fin 8) (t : Fin 4096) (d : Fin 1024) :
    hostResidual gate x y g (ix3 b t d)
      = residual (fun d => gate (ix3 b 0 d)) (fun d => g (ix1 d)) (fun d => x (ix3 b t d)) (fun d => y (ix3 b t d)) d := by
  unfold hostResidual residual
  pointwise
  rw [hostSpread_apply, hostRms_apply]

/-- A modulated entry. -/
theorem hostModulated_apply (shift scale : Vec Ideal S8x1x1024 .f32) (x : Vec Ideal S8x4096x1024 .f32)
    (g : Vec Ideal S1024 .f32) (b : Fin 8) (t : Fin 4096) (d : Fin 1024) :
    hostModulated shift scale x g (ix3 b t d)
      = modulated (fun d => shift (ix3 b 0 d)) (fun d => scale (ix3 b 0 d)) (fun d => g (ix1 d))
          (fun d => x (ix3 b t d)) d := by
  unfold hostModulated modulated
  pointwise
  rw [hostSpread_apply, hostSpread_apply, hostRms_apply]
  pointwise

/-- An entry of a product with a feed-forward matrix. -/
theorem hostUp_apply (h : Vec Ideal S8x4096x1024 .f32) (w : Vec Ideal S1024x2816 .f32) (b : Fin 8) (t : Fin 4096)
    (k : Fin 2816) : hostUp h w (ix3 b t k) = ∑ e, h (ix3 b t e) * w (ix2 e k) := by
  unfold hostUp
  pointwise

/-- The sigmoid's denominator is not zero, so multiplying by its quotient is dividing by it. -/
theorem silu_eq (a : EReal) : a * Ideal.div 1 (1 + Ideal.exp (-a)) = Ideal.div a (1 + Ideal.exp (0 - a)) := by
  have h : (1 + Ideal.exp (-a)) ≠ 0 := by
    have h0 : 0 ≤ Ideal.exp (-a) := by
      unfold Ideal.exp
      split
      all_goals first
        | exact le_refl _
        | exact le_top
        | exact EReal.coe_nonneg.2 (Real.exp_pos _).le
    exact (lt_of_lt_of_le zero_lt_one (le_add_of_nonneg_right h0)).ne'
  rw [zero_sub]
  unfold Ideal.div
  rw [if_neg h, if_neg h, one_mul]

/-- An entry times its sigmoid. -/
theorem hostSilu_apply (a : Vec Ideal S8x4096x2816 .f32) (b : Fin 8) (t : Fin 4096) (k : Fin 2816) :
    hostSilu a (ix3 b t k) = Ideal.div (a (ix3 b t k)) (1 + Ideal.exp (0 - a (ix3 b t k))) := by
  rw [← silu_eq]
  unfold hostSilu
  pointwise

/-- An entry of the feed-forward. -/
theorem hostFfn_apply (h : Vec Ideal S8x4096x1024 .f32) (wg wu : Vec Ideal S1024x2816 .f32)
    (wd : Vec Ideal S2816x1024 .f32) (b : Fin 8) (t : Fin 4096) (d : Fin 1024) :
    hostFfn h wg wu wd (ix3 b t d)
      = ffn (fun k e => wg (ix2 e k)) (fun k e => wu (ix2 e k)) (fun k d => wd (ix2 k d))
          (fun e => h (ix3 b t e)) d := by
  unfold hostFfn ffn hidden
  pointwise
  simp only [hostSilu_apply, hostUp_apply]

/-- The parts of the modulation at an entry. -/
theorem hostGate_apply (M : Vec Ideal S8x1x6144 .f32) (b : Fin 8) :
    (fun d => hostGate M (ix3 b 0 d)) = part (fun k => M (ix3 b 0 k)) 2 (by norm_num) := by
  funext d
  unfold hostGate part
  pointwise

@[inherit_doc hostGate_apply] theorem hostShift_apply (M : Vec Ideal S8x1x6144 .f32) (b : Fin 8) :
    (fun d => hostShift M (ix3 b 0 d)) = part (fun k => M (ix3 b 0 k)) 3 (by norm_num) := by
  funext d
  unfold hostShift part
  pointwise

@[inherit_doc hostGate_apply] theorem hostScale_apply (M : Vec Ideal S8x1x6144 .f32) (b : Fin 8) :
    (fun d => hostScale M (ix3 b 0 d)) = part (fun k => M (ix3 b 0 k)) 4 (by norm_num) := by
  funext d
  unfold hostScale part
  pointwise

@[inherit_doc hostGate_apply] theorem hostGate2_apply (M : Vec Ideal S8x1x6144 .f32) (b : Fin 8) :
    (fun d => hostGate2 M (ix3 b 0 d)) = part (fun k => M (ix3 b 0 k)) 5 (by norm_num) := by
  funext d
  unfold hostGate2 part
  pointwise

/-- A row after the layer. -/
theorem hostPost_apply (M : Vec Ideal S8x1x6144 .f32) (gpm gpf gpff : Vec Ideal S1024 .f32)
    (wg wu : Vec Ideal S1024x2816 .f32) (wd : Vec Ideal S2816x1024 .f32) (x y : Vec Ideal S8x4096x1024 .f32) (b : Fin 8)
    (t : Fin 4096) (d : Fin 1024) :
    hostPost M gpm gpf gpff wg wu wd x y (ix3 b t d)
      = post (fun k => M (ix3 b 0 k)) (fun d => gpm (ix1 d)) (fun d => gpf (ix1 d)) (fun d => gpff (ix1 d))
          (fun k e => wg (ix2 e k)) (fun k e => wu (ix2 e k)) (fun k d => wd (ix2 k d)) (fun d => x (ix3 b t d))
          (fun d => y (ix3 b t d)) d := by
  unfold hostPost post mixed
  simp only [hostResidual_apply, hostFfn_apply, hostModulated_apply, hostGate_apply, hostShift_apply, hostScale_apply,
    hostGate2_apply]

end Post

end
-- ==== Proof.SubTile.lean ====
module

public import proofs.«01_k».proof.Proof.Gen.Kernel2Ideal.Frame
public import proofs.«01_k».proof.Proof.Rows
public import Idealize.ShloMosaic.Lib.Pipeline.Value
public import Idealize.ShloMosaic.Lib.Tactic.ValueTie

@[expose] public section

/-! One sub-tile of 256 rows of the kernel after the mixer, as a function of its rows and the weights, and that
    function read at an entry. -/

set_option maxRecDepth 16384

noncomputable section

namespace Post

open Cert.Kernel2Ideal Cert.Kernel2Ideal.Gen Idealize.ShloMosaic Idealize.ShloMosaic.StableHlo

variable {F : FTy → Type} [FloatOps F] [Named F]

/-- The feed-forward's hidden entries for 256 rows, its eleven column tiles side by side. -/
def acts (h : FVec F S256x1024 .bf16) (wg wu : Vec F S1x1024x2816 .bf16) : FVec F S256x2816 .bf16 :=
  concatenate S256x2816 1
    [⟨S256x256, k0_pay33 h (View.ld wg r0_7) (View.ld wu r0_7)⟩, ⟨S256x256, k0_pay33 h (View.ld wg r0_8) (View.ld wu r0_8)⟩,
      ⟨S256x256, k0_pay33 h (View.ld wg r0_9) (View.ld wu r0_9)⟩, ⟨S256x256, k0_pay33 h (View.ld wg r0_10) (View.ld wu r0_10)⟩,
      ⟨S256x256, k0_pay33 h (View.ld wg r0_11) (View.ld wu r0_11)⟩, ⟨S256x256, k0_pay33 h (View.ld wg r0_12) (View.ld wu r0_12)⟩,
      ⟨S256x256, k0_pay33 h (View.ld wg r0_13) (View.ld wu r0_13)⟩, ⟨S256x256, k0_pay33 h (View.ld wg r0_14) (View.ld wu r0_14)⟩,
      ⟨S256x256, k0_pay33 h (View.ld wg r0_15) (View.ld wu r0_15)⟩, ⟨S256x256, k0_pay33 h (View.ld wg r0_16) (View.ld wu r0_16)⟩,
      ⟨S256x256, k0_pay33 h (View.ld wg r0_17) (View.ld wu r0_17)⟩]
    concatenates_S256x256_S256x256_S256x256_S256x256_S256x256_S256x256_S256x256_S256x256_S256x256_S256x256_S256x256_S256x2816_d1

/-- 256 rows after the mixer's projection `y` has been normalised and added. -/
def mixedTile (x : Vec F S1x256x1024 .f32) (mods : Vec F S1x1x6144 .f32) (y : FVec F S256x1024 .f32)
    (gpm : Vec F S1x1024 .f32) : FVec F S256x1024 .f32 := k0_pay10 (k0_pay2 mods) y x gpm

/-- 256 rows after the whole layer, from the mixer's projection `y`. -/
def subTile (x : Vec F S1x256x1024 .f32) (mods : Vec F S1x1x6144 .f32) (y : FVec F S256x1024 .f32)
    (gpm gpf gpff : Vec F S1x1024 .f32) (wg wu : Vec F S1x1024x2816 .bf16) (wd : Vec F S1x2816x1024 .bf16) :
    FVec F S1x256x1024 .f32 :=
  k0_pay95 (k0_pay2 mods) (mixedTile x mods y gpm)
    (acts (k0_pay22 (k0_pay2 mods) (mixedTile x mods y gpm) gpf) wg wu) wd gpff

/-- A row of a block of rows. -/
abbrev row3 {n k : Nat} {e : EltTy} (x : Vec Ideal ⟨3, ![1, n, k]⟩ e) (r : Fin n) : Fin k → Elt Ideal e := fun d =>
  x (ix3 0 r d)

/-- A column of a block. -/
abbrev col3 {n k : Nat} {e : EltTy} (x : Vec Ideal ⟨3, ![1, n, k]⟩ e) (c : Fin k) : Fin n → Elt Ideal e := fun d =>
  x (ix3 0 d c)

/-- The hidden entry of a row at a column: one column tile's entry. -/
theorem tile_apply (h : FVec Ideal S256x1024 .bf16) (wg wu : Vec Ideal S1x1024x2816 .bf16) (o : Nat) (inb)
    (r c : Fin 256) (k : Fin 2816) (hk : k.val = o + c.val) :
    k0_pay33 (F := Ideal) h (View.ld wg (Rect.unit ![0, 0, o] ![1, 1024, 256] inb))
        (View.ld wu (Rect.unit ![0, 0, o] ![1, 1024, 256] inb)) (ix2 r c)
      = hidden (fun e => h (ix2 r e)) (col3 wg k) (col3 wu k) := by
  have ld : ∀ (w : Vec Ideal S1x1024x2816 .bf16) (e : Fin 1024),
      View.ld w (Rect.unit ![0, 0, o] ![1, 1024, 256] inb) (ix3 0 e c) = w (ix3 0 e k) := fun w e => by
    refine congrArg w (funext fun a => Fin.ext ?_)
    match a with
    | ⟨0, _⟩ => rfl
    | ⟨1, _⟩ => exact (Nat.zero_add _).trans (Nat.one_mul _)
    | ⟨2, _⟩ => show o + 1 * c.val = k.val; omega
  have ha := ld wg
  have hb := ld wu
  generalize View.ld wg (Rect.unit ![0, 0, o] ![1, 1024, 256] inb) = a at ha ⊢
  generalize View.ld wu (Rect.unit ![0, 0, o] ![1, 1024, 256] inb) = b at hb ⊢
  unfold k0_pay33
  pointwise
  simp only [ha, hb]
  rfl

/-- A choice has a value that both its branches have. -/
theorem dif_cases {p : Prop} [Decidable p] {α : Type} {a : p → α} {b : ¬p → α} {v : α} (ha : ∀ h, a h = v)
    (hb : ∀ h, b h = v) : dite p a b = v := by
  by_cases h : p
  · rw [dif_pos h]; exact ha h
  · rw [dif_neg h]; exact hb h

/-- Eleven column tiles side by side agree in a row with a function their columns agree with. -/
theorem tiles_apply (a0 a1 a2 a3 a4 a5 a6 a7 a8 a9 a10 : FVec Ideal S256x256 .bf16) (r : Fin 256) (A : Fin 2816 → EReal)
    (h0 : ∀ c k, k.val = 0 + c.val → a0 (ix2 r c) = A k) (h1 : ∀ c k, k.val = 256 + c.val → a1 (ix2 r c) = A k)
    (h2 : ∀ c k, k.val = 512 + c.val → a2 (ix2 r c) = A k) (h3 : ∀ c k, k.val = 768 + c.val → a3 (ix2 r c) = A k)
    (h4 : ∀ c k, k.val = 1024 + c.val → a4 (ix2 r c) = A k) (h5 : ∀ c k, k.val = 1280 + c.val → a5 (ix2 r c) = A k)
    (h6 : ∀ c k, k.val = 1536 + c.val → a6 (ix2 r c) = A k) (h7 : ∀ c k, k.val = 1792 + c.val → a7 (ix2 r c) = A k)
    (h8 : ∀ c k, k.val = 2048 + c.val → a8 (ix2 r c) = A k) (h9 : ∀ c k, k.val = 2304 + c.val → a9 (ix2 r c) = A k)
    (h10 : ∀ c k, k.val = 2560 + c.val → a10 (ix2 r c) = A k) (k : Fin 2816) :
    concatenate S256x2816 1 [⟨S256x256, a0⟩, ⟨S256x256, a1⟩, ⟨S256x256, a2⟩, ⟨S256x256, a3⟩, ⟨S256x256, a4⟩,
      ⟨S256x256, a5⟩, ⟨S256x256, a6⟩, ⟨S256x256, a7⟩, ⟨S256x256, a8⟩, ⟨S256x256, a9⟩, ⟨S256x256, a10⟩]
      concatenates_S256x256_S256x256_S256x256_S256x256_S256x256_S256x256_S256x256_S256x256_S256x256_S256x256_S256x256_S256x2816_d1
      (ix2 r k) = A k := by
  pointwise
  refine dif_cases (fun _ => h0 _ _ (by dsimp only; omega)) fun _ => ?_
  refine dif_cases (fun _ => h1 _ _ (by dsimp only; omega)) fun _ => ?_
  refine dif_cases (fun _ => h2 _ _ (by dsimp only; omega)) fun _ => ?_
  refine dif_cases (fun _ => h3 _ _ (by dsimp only; omega)) fun _ => ?_
  refine dif_cases (fun _ => h4 _ _ (by dsimp only; omega)) fun _ => ?_
  refine dif_cases (fun _ => h5 _ _ (by dsimp only; omega)) fun _ => ?_
  refine dif_cases (fun _ => h6 _ _ (by dsimp only; omega)) fun _ => ?_
  refine dif_cases (fun _ => h7 _ _ (by dsimp only; omega)) fun _ => ?_
  refine dif_cases (fun _ => h8 _ _ (by dsimp only; omega)) fun _ => ?_
  refine dif_cases (fun _ => h9 _ _ (by dsimp only; omega)) fun _ => ?_
  exact h10 _ _ (by dsimp only; omega)

/-- The hidden entry of a row at any column. -/
theorem acts_apply (h : FVec Ideal S256x1024 .bf16) (wg wu : Vec Ideal S1x1024x2816 .bf16) (r : Fin 256) (k : Fin 2816) :
    acts (F := Ideal) h wg wu (ix2 r k) = hidden (fun e => h (ix2 r e)) (col3 wg k) (col3 wu k) := by
  have t := fun o inb c k hk => tile_apply h wg wu o inb r c k hk
  exact tiles_apply _ _ _ _ _ _ _ _ _ _ _ r (fun k => hidden (fun e => h (ix2 r e)) (col3 wg k) (col3 wu k))
    (t _ _) (t _ _) (t _ _) (t _ _) (t _ _) (t _ _) (t _ _) (t _ _) (t _ _) (t _ _) (t _ _) k

/-- A row after the mixer's projection. -/
theorem mixedTile_apply (x : Vec Ideal S1x256x1024 .f32) (mods : Vec Ideal S1x1x6144 .f32) (y : FVec Ideal S256x1024 .f32)
    (gpm : Vec Ideal S1x1024 .f32) (r : Fin 256) (d : Fin 1024) :
    mixedTile (F := Ideal) x mods y gpm (ix2 r d)
      = mixed (row3 mods 0) (fun d => gpm (ix2 0 d)) (row3 x r) (fun d => y (ix2 r d)) d := by
  unfold mixedTile k0_pay10 k0_pay2
  pointwise
  rfl

/-- A row normalised and modulated for the feed-forward. -/
theorem norm_apply (mods : Vec Ideal S1x1x6144 .f32) (x : FVec Ideal S256x1024 .f32) (gpf : Vec Ideal S1x1024 .f32)
    (r : Fin 256) (d : Fin 1024) :
    k0_pay22 (F := Ideal) (k0_pay2 mods) x gpf (ix2 r d)
      = modulated (part (row3 mods 0) 3 (by norm_num)) (part (row3 mods 0) 4 (by norm_num)) (fun d => gpf (ix2 0 d))
          (fun d => x (ix2 r d)) d := by
  unfold k0_pay22 k0_pay2
  pointwise
  rfl

/-- The stored rows: the feed-forward's projection normalised and added. -/
theorem last_apply (mods : Vec Ideal S1x1x6144 .f32) (x : FVec Ideal S256x1024 .f32) (a : FVec Ideal S256x2816 .bf16)
    (wd : Vec Ideal S1x2816x1024 .bf16) (gpff : Vec Ideal S1x1024 .f32) (r : Fin 256) (d : Fin 1024) :
    k0_pay95 (F := Ideal) (k0_pay2 mods) x a wd gpff (ix3 0 r d)
      = residual (part (row3 mods 0) 5 (by norm_num)) (fun d => gpff (ix2 0 d)) (fun d => x (ix2 r d))
          (fun d => ∑ k, a (ix2 r k) * row3 wd k d) d := by
  unfold k0_pay95 k0_pay2
  pointwise
  rfl

/-- A row after the whole layer. -/
theorem subTile_apply (x : Vec Ideal S1x256x1024 .f32) (mods : Vec Ideal S1x1x6144 .f32) (y : FVec Ideal S256x1024 .f32)
    (gpm gpf gpff : Vec Ideal S1x1024 .f32) (wg wu : Vec Ideal S1x1024x2816 .bf16) (wd : Vec Ideal S1x2816x1024 .bf16)
    (r : Fin 256) (d : Fin 1024) :
    subTile (F := Ideal) x mods y gpm gpf gpff wg wu wd (ix3 0 r d)
      = post (row3 mods 0) (fun d => gpm (ix2 0 d)) (fun d => gpf (ix2 0 d)) (fun d => gpff (ix2 0 d)) (col3 wg)
          (col3 wu) (row3 wd) (row3 x r) (fun d => y (ix2 r d)) d := by
  have e1 : (fun d => mixedTile (F := Ideal) x mods y gpm (ix2 r d))
      = mixed (row3 mods 0) (fun d => gpm (ix2 0 d)) (row3 x r) (fun d => y (ix2 r d)) :=
    funext fun d => mixedTile_apply x mods y gpm r d
  unfold subTile
  rw [last_apply]
  unfold post ffn
  rw [e1]
  refine congrArg (fun z => residual _ _ _ z d) (funext fun d => Finset.sum_congr rfl fun k _ => ?_)
  rw [acts_apply]
  refine congrArg (fun h => hidden h (col3 wg k) (col3 wu k) * row3 wd k d) (funext fun d => ?_)
  rw [norm_apply, e1]

end Post

end
-- ==== Proof.Block.lean ====
module

public import proofs.«01_k».proof.Proof.SubTile

@[expose] public section

/-! What one grid point of the kernel after the mixer leaves in its output block: 1024 rows after the layer. -/

set_option maxRecDepth 16384

noncomputable section

namespace Post

open Cert.Kernel2Ideal Cert.Kernel2Ideal.Gen Idealize.ShloMosaic Idealize.ShloMosaic.StableHlo

variable {F : FTy → Type} [FloatOps F] [Named F]

/-- A store of the body: 256 rows through `subTile`, from the mixer's projection `y` of them. -/
def store (x1 : Vec F S1x1x6144 .f32) (x4 x5 x6 : Vec F S1x1024 .f32) (x7 x8 : Vec F S1x1024x2816 .bf16)
    (x9 : Vec F S1x2816x1024 .bf16) (y : FVec F S256x1024 .f32) (x : Vec F S1x256x1024 .f32) :
    FVec F S1x256x1024 .f32 :=
  subTile x (View.ld x1 r0_0) y (View.ld x4 r0_6) (View.ld x5 r0_6) (View.ld x6 r0_6) x7 x8 (View.ld x9 r0_18)

/-- A load of a whole block is the block. -/
theorem ld_all3 {b r n : Nat} {e : EltTy} (x : Vec F ⟨3, ![b, r, n]⟩ e) (inb) :
    View.ld x (Rect.unit ![0, 0, 0] ![b, r, n] inb) = x :=
  View.ld_unit_zero (by funext a; fin_cases a <;> rfl) _ _

/-- A load of a whole matrix is the matrix. -/
theorem ld_all2 {r n : Nat} {e : EltTy} (x : Vec F ⟨2, ![r, n]⟩ e) (inb) :
    View.ld x (Rect.unit ![0, 0] ![r, n] inb) = x :=
  View.ld_unit_zero (by funext a; fin_cases a <;> rfl) _ _

/-- 1024 rows after the layer, from the blocks of a grid point and the mixer's projection of the rows. -/
def blockRows (x0 : Vec Ideal S1x1024x1024 .f32) (x1 : Vec Ideal S1x1x6144 .f32) (y : Fin 1024 → Fin 1024 → EReal)
    (x4 x5 x6 : Vec Ideal S1x1024 .f32) (x7 x8 : Vec Ideal S1x1024x2816 .bf16)
    (x9 : Vec Ideal S1x2816x1024 .bf16) : Vec Ideal S1x1024x1024 .f32 := fun i =>
  post (row3 x1 0) (fun d => x4 (ix2 0 d)) (fun d => x5 (ix2 0 d)) (fun d => x6 (ix2 0 d)) (col3 x7) (col3 x8) (row3 x9)
    (row3 x0 (i 1)) (y (i 1)) (i 2)

/-- A load of 256 rows of a block, at an entry. -/
theorem ld_rows {n : Nat} {e : EltTy} (w : Vec Ideal ⟨3, ![1, 1024, n]⟩ e) (o : Nat) (inb) (ho : o + 256 ≤ 1024)
    (r : Fin 256) (d : Fin n) :
    View.ld w (Rect.unit ![0, o, 0] ![1, 256, n] inb) (ix3 0 r d) = w (ix3 0 ⟨o + r.val, by omega⟩ d) := by
  refine congrArg w (funext fun a => Fin.ext ?_)
  match a with
  | ⟨0, _⟩ => rfl
  | ⟨1, _⟩ => exact congrArg (o + ·) (Nat.one_mul _)
  | ⟨2, _⟩ => exact (Nat.zero_add _).trans (Nat.one_mul _)

/-- A store's entry is the block's value there, when its projection is. -/
theorem store_apply (x0 : Vec Ideal S1x1024x1024 .f32) (x1 : Vec Ideal S1x1x6144 .f32) (x4 x5 x6 : Vec Ideal S1x1024 .f32)
    (x7 x8 : Vec Ideal S1x1024x2816 .bf16) (x9 : Vec Ideal S1x2816x1024 .bf16) (Y : Fin 1024 → Fin 1024 → EReal)
    (o : Nat) (inb) (y : FVec Ideal S256x1024 .f32)
    (hy : ∀ (ho : o + 256 ≤ 1024) (r : Fin 256) (d : Fin 1024), y (ix2 r d) = Y ⟨o + r.val, by omega⟩ d)
    (j : (Rect.unit (s := S1x1024x1024) ![0, o, 0] ![1, 256, 1024] inb).shape.Idx) :
    store x1 x4 x5 x6 x7 x8 x9 y (View.ld x0 (Rect.unit ![0, o, 0] ![1, 256, 1024] inb)) j
      = blockRows x0 x1 Y x4 x5 x6 x7 x8 x9 ((Rect.unit ![0, o, 0] ![1, 256, 1024] inb).emb j) := by
  obtain ⟨r, d, rfl⟩ : ∃ (r : Fin 256) (d : Fin 1024), j = ix3 0 r d :=
    ⟨j 1, j 2, (eq_ix3 j).trans (by rw [Subsingleton.elim (α := Fin 1) (j 0) 0])⟩
  have ho : o + 256 ≤ 1024 := inb 1
  have e1 : ((Rect.unit (s := S1x1024x1024) ![0, o, 0] ![1, 256, 1024] inb).emb (ix3 0 r d)) 1
      = (⟨o + r.val, by omega⟩ : Fin 1024) := Fin.ext (congrArg (o + ·) (Nat.one_mul _))
  have e2 : ((Rect.unit (s := S1x1024x1024) ![0, o, 0] ![1, 256, 1024] inb).emb (ix3 0 r d)) 2 = d :=
    Fin.ext ((Nat.zero_add _).trans (Nat.one_mul _))
  have ha := ld_rows x0 o inb ho
  unfold blockRows
  rw [e1, e2]
  generalize View.ld x0 (Rect.unit ![0, o, 0] ![1, 256, 1024] inb) = a at ha ⊢
  unfold store
  rw [ld_all3, ld_all3, ld_all2, ld_all2, ld_all2, subTile_apply, funext (hy ho r)]
  exact congrArg (fun z => post _ _ _ _ _ _ _ z _ d) (funext (ha r))

/-- Equal factors, equal sums of products. -/
theorem sum_mul_congr {n : Nat} {a a' b b' : Fin n → EReal} (ha : ∀ e, a e = a' e) (hb : ∀ e, b e = b' e) :
    ∑ e, a e * b e = ∑ e, a' e * b' e := by
  rw [funext ha, funext hb]

/-- A row of a block, from what the blocks hold. -/
theorem blockRows_apply {x0 : Vec Ideal S1x1024x1024 .f32} {x1 : Vec Ideal S1x1x6144 .f32}
    {y : Fin 1024 → Fin 1024 → EReal} {x4 x5 x6 : Vec Ideal S1x1024 .f32}
    {x7 x8 : Vec Ideal S1x1024x2816 .bf16} {x9 : Vec Ideal S1x2816x1024 .bf16} {r : Fin 1024}
    {X Y gpm gpf gpff : Fin 1024 → EReal} {M : Fin 6144 → EReal} {wg wu wd : Fin 2816 → Fin 1024 → EReal}
    (h0 : ∀ d, x0 (ix3 0 r d) = X d) (h1 : ∀ k, x1 (ix3 0 0 k) = M k) (hy : ∀ d, y r d = Y d)
    (h4 : ∀ d, x4 (ix2 0 d) = gpm d) (h5 : ∀ d, x5 (ix2 0 d) = gpf d) (h6 : ∀ d, x6 (ix2 0 d) = gpff d)
    (h7 : ∀ e k, x7 (ix3 0 e k) = wg k e) (h8 : ∀ e k, x8 (ix3 0 e k) = wu k e)
    (h9 : ∀ k d, x9 (ix3 0 k d) = wd k d) (d : Fin 1024) :
    blockRows x0 x1 y x4 x5 x6 x7 x8 x9 (ix3 0 r d) = post M gpm gpf gpff wg wu wd X Y d := by
  obtain rfl := funext h0
  obtain rfl := funext h1
  obtain rfl := funext hy
  obtain rfl := funext h4
  obtain rfl := funext h5
  obtain rfl := funext h6
  obtain rfl := funext fun k => funext fun e => h7 e k
  obtain rfl := funext fun k => funext fun e => h8 e k
  obtain rfl := funext fun k => funext (h9 k)
  rfl

end Post

end
-- ==== Proof.LastBlock.lean ====
module

public import proofs.«01_k».proof.Proof.Block

@[expose] public section

/-! What a grid point of the kernel after the last mixer leaves in its output block. -/

set_option maxRecDepth 16384

noncomputable section

namespace Post.Last

open Cert.Kernel2Ideal Cert.Kernel2Ideal.Gen Idealize.ShloMosaic Idealize.ShloMosaic.StableHlo

section Stores

variable {F : FTy → Type} [FloatOps F] [Named F] (x0 : Vec F S1x1024x1024 .f32) (x1 : Vec F S1x1x6144 .f32)
  (x2 : Vec F S1x1024x1024 .bf16) (x3 : Vec F S1024x1024 .bf16) (x4 x5 x6 : Vec F S1x1024 .f32)
  (x7 x8 : Vec F S1x1024x2816 .bf16) (x9 : Vec F S1x2816x1024 .bf16)

/-- The output block as the stores of its four sub-tiles. -/
theorem out_stores : out0_10 x0 x1 x2 x3 x4 x5 x6 x7 x8 x9
    = View.canon [⟨r0_5, store x1 x4 x5 x6 x7 x8 x9 (k0_pay4 (View.ld x2 r0_5) (View.ld x3 r0_2)) (View.ld x0 r0_5)⟩,
      ⟨r0_4, store x1 x4 x5 x6 x7 x8 x9 (k0_pay4 (View.ld x2 r0_4) (View.ld x3 r0_2)) (View.ld x0 r0_4)⟩,
      ⟨r0_3, store x1 x4 x5 x6 x7 x8 x9 (k0_pay4 (View.ld x2 r0_3) (View.ld x3 r0_2)) (View.ld x0 r0_3)⟩,
      ⟨r0_1, store x1 x4 x5 x6 x7 x8 x9 (k0_pay4 (View.ld x2 r0_1) (View.ld x3 r0_2)) (View.ld x0 r0_1)⟩] := rfl

end Stores

/-- The projection of 256 rows of the mixer's output. -/
theorem project_apply (x2 : Vec Ideal S1x1024x1024 .bf16) (x3 : Vec Ideal S1024x1024 .bf16) (o : Nat) (inb)
    (ho : o + 256 ≤ 1024) (r : Fin 256) (d : Fin 1024) :
    k0_pay4 (F := Ideal) (View.ld x2 (Rect.unit ![0, o, 0] ![1, 256, 1024] inb)) (View.ld x3 r0_2) (ix2 r d)
      = ∑ e : Fin 1024, x2 (ix3 0 ⟨o + r.val, by omega⟩ e) * x3 (ix2 e d) := by
  have hb := ld_rows x2 o inb ho
  rw [ld_all2]
  generalize View.ld x2 (Rect.unit ![0, o, 0] ![1, 256, 1024] inb) = b at hb ⊢
  unfold k0_pay4
  pointwise
  simp only [hb]

/-- The output block of a grid point. -/
theorem out_eq (x0 : Vec Ideal S1x1024x1024 .f32) (x1 : Vec Ideal S1x1x6144 .f32) (x2 : Vec Ideal S1x1024x1024 .bf16)
    (x3 : Vec Ideal S1024x1024 .bf16) (x4 x5 x6 : Vec Ideal S1x1024 .f32) (x7 x8 : Vec Ideal S1x1024x2816 .bf16)
    (x9 : Vec Ideal S1x2816x1024 .bf16) :
    out0_10 x0 x1 x2 x3 x4 x5 x6 x7 x8 x9
      = blockRows x0 x1 (fun r d => ∑ e : Fin 1024, x2 (ix3 0 r e) * x3 (ix2 e d)) x4 x5 x6 x7 x8 x9 := by
  rw [out_stores]
  funext y
  refine View.canon_apply_of_pieces _ _ (fun p hp j => ?_) y (cover0_10 _ _ _ _ y)
  simp only [List.mem_cons, List.not_mem_nil, or_false] at hp
  rcases hp with rfl | rfl | rfl | rfl <;>
    exact store_apply x0 x1 x4 x5 x6 x7 x8 x9 _ _ _ _ (fun ho r d => project_apply x2 x3 _ _ ho r d) j

end Post.Last

end
-- ==== Proof.LastLayer.lean ====
module

public import proofs.«01_k».proof.Proof.Gen.Kernel2Ideal.Value
public import proofs.«01_k».proof.Proof.LastBlock

@[expose] public section

/-! What the kernel after the last layer's mixer leaves: every row of the stream after the layer. -/

set_option maxRecDepth 16384

noncomputable section

namespace Post.Last

open Cert.Kernel2Ideal Cert.Kernel2Ideal.Gen Cert.Kernel2Ideal.Value Idealize.ShloMosaic Idealize.ShloMosaic.TcCoe
  Idealize.ShloMosaic.StableHlo

variable (m : (ℓ : Loc nD τ sig) → Buf (Elt Ideal) ℓ)

/-- The stream before the layer. -/
abbrev argX (c : Dev nD) : Vec Ideal S8x4096x1024 .f32 := m ((c : Thread nD τ).loc main_arg0)
/-- The modulation's rows by layer. -/
abbrev argM (c : Dev nD) : Vec Ideal S2x16x6144 .f32 := m ((c : Thread nD τ).loc main_arg1)
/-- The mixer's output. -/
abbrev argO (c : Dev nD) : Vec Ideal S8x4096x1024 .f32 := m ((c : Thread nD τ).loc main_arg2)
/-- The gain after the mixer. -/
abbrev argPm (c : Dev nD) : Vec Ideal S2x1024 .f32 := m ((c : Thread nD τ).loc main_arg3)
/-- The gain before the feed-forward. -/
abbrev argPf (c : Dev nD) : Vec Ideal S2x1024 .f32 := m ((c : Thread nD τ).loc main_arg4)
/-- The gain after the feed-forward. -/
abbrev argPff (c : Dev nD) : Vec Ideal S2x1024 .f32 := m ((c : Thread nD τ).loc main_arg5)
/-- The output projection. -/
abbrev argW (c : Dev nD) : Vec Ideal S1x1024x1024 .f32 := m ((c : Thread nD τ).loc main_arg6)
/-- The feed-forward's gate weights. -/
abbrev argG (c : Dev nD) : Vec Ideal S2x1024x2816 .f32 := m ((c : Thread nD τ).loc main_arg7)
/-- The feed-forward's up weights. -/
abbrev argU (c : Dev nD) : Vec Ideal S2x1024x2816 .f32 := m ((c : Thread nD τ).loc main_arg8)
/-- The feed-forward's down weights. -/
abbrev argD (c : Dev nD) : Vec Ideal S2x2816x1024 .f32 := m ((c : Thread nD τ).loc main_arg9)

/-- The arrays the kernel's windows read, as the host leaves them. -/
abbrev hostM (c : Dev nD) : Vec Ideal S32x1x6144 .f32 := V m c main_v0
abbrev hostO (c : Dev nD) : Vec Ideal S8x4096x1024 .bf16 := V m c main_v15
abbrev hostW (c : Dev nD) : Vec Ideal S1024x1024 .bf16 := V m c main_v5
abbrev hostPm (c : Dev nD) : Vec Ideal S1x1024 .f32 := V m c main_v8
abbrev hostPf (c : Dev nD) : Vec Ideal S1x1024 .f32 := V m c main_v11
abbrev hostPff (c : Dev nD) : Vec Ideal S1x1024 .f32 := V m c main_v14
abbrev hostG (c : Dev nD) : Vec Ideal S2x1024x2816 .bf16 := V m c main_v1
abbrev hostU (c : Dev nD) : Vec Ideal S2x1024x2816 .bf16 := V m c main_v2
abbrev hostD (c : Dev nD) : Vec Ideal S2x2816x1024 .bf16 := V m c main_v3

/-- The modulation's rows, the layers' one after the other. -/
theorem hostM_apply (c : Dev nD) (b : Fin 8) (k : Fin 6144) :
    hostM m c (ix3 ⟨16 + b.val, by omega⟩ 0 k) = argM m c (ix3 1 ⟨b.val, by omega⟩ k) := by
  have e : hostM m c = shapeCast S32x1x6144 (argM m c) shapeCasts_S2x16x6144_S32x1x6144 := by
    unfold hostM V
    after_results <;> rfl
  rw [e]
  pointwise
  exact congrArg₂ (fun i j => argM m c (ix3 i j k)) (Fin.ext (by show (16 + b.val) / 16 = 1; omega))
    (Fin.ext (by show (16 + b.val) % 16 = b.val; omega))

/-- The output projection. -/
theorem hostW_apply (c : Dev nD) (e d : Fin 1024) : hostW m c (ix2 e d) = argW m c (ix3 0 e d) := by
  have e : hostW m c = truncf (F := Ideal) .bf16
      (shapeCast S1024x1024 (argW m c) shapeCasts_S1x1024x1024_S1024x1024) bitsLt_bf16_f32 := by
    unfold hostW V
    after_results <;> rfl
  rw [e]
  pointwise

/-- The last layer's row of a gain. -/
abbrev gainRow (g : Vec Ideal S2x1024 .f32) : Vec Ideal S1x1024 .f32 :=
  shapeCast S1x1024 (shapeCast S1024 (extractStridedSlice S1x1024 ![1, 0] g slices_S2x1024_S1x1024_1_0)
    shapeCasts_S1x1024_S1024) shapeCasts_S1024_S1x1024

/-- The last layer's row of a gain at an entry. -/
theorem gainRow_apply (g : Vec Ideal S2x1024 .f32) (d : Fin 1024) : gainRow g (ix2 0 d) = g (ix2 1 d) := by
  unfold gainRow
  pointwise

theorem hostPm_eq (c : Dev nD) : hostPm m c = gainRow (argPm m c) := by
  unfold hostPm V
  after_results <;> rfl
theorem hostPf_eq (c : Dev nD) : hostPf m c = gainRow (argPf m c) := by
  unfold hostPf V
  after_results <;> rfl
theorem hostPff_eq (c : Dev nD) : hostPff m c = gainRow (argPff m c) := by
  unfold hostPff V
  after_results <;> rfl
theorem hostO_eq (c : Dev nD) : hostO m c = argO m c := by
  unfold hostO V
  after_results <;> rfl
theorem hostG_eq (c : Dev nD) : hostG m c = argG m c := by
  unfold hostG V
  after_results <;> rfl
theorem hostU_eq (c : Dev nD) : hostU m c = argU m c := by
  unfold hostU V
  after_results <;> rfl
theorem hostD_eq (c : Dev nD) : hostD m c = argD m c := by
  unfold hostD V
  after_results <;> rfl

/-- A point's batch. -/
def batch (t : Fin cfg0.N) : Fin 8 := ⟨t.val / 4, by
  have h : t.val < 32 := lt_of_lt_of_eq t.isLt N_0
  omega⟩

/-- The block indices of the windows, decided over the grid. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = 16 + t.val / 4 ∧ win0_1.index t (1 : Fin 3) = 0 ∧ win0_1.index t (2 : Fin 3) = 0)
    ∧ (win0_2.index t (0 : Fin 3) = t.val / 4 ∧ win0_2.index t (1 : Fin 3) = t.val % 4 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = 1 ∧ win0_7.index t (1 : Fin 3) = 0 ∧ win0_7.index t (2 : Fin 3) = 0)
    ∧ (win0_8.index t (0 : Fin 3) = 1 ∧ win0_8.index t (1 : Fin 3) = 0 ∧ win0_8.index t (2 : Fin 3) = 0)
    ∧ (win0_9.index t (0 : Fin 3) = 1 ∧ win0_9.index t (1 : Fin 3) = 0 ∧ win0_9.index t (2 : Fin 3) = 0)
    ∧ (win0_10.index t (0 : Fin 3) = t.val / 4 ∧ win0_10.index t (1 : Fin 3) = t.val % 4 ∧ win0_10.index t (2 : Fin 3) = 0) :=
  (by decide +kernel : ∀ t : Fin grid0.N, _)

/-- A row of a point's block of the stream. -/
theorem iblk_x (c : Dev nD) (t : Fin cfg0.N) (r d : Fin 1024) :
    (iblk m c 0 t : Vec Ideal S1x1024x1024 .f32) (ix3 0 r d)
      = argX m c (ix3 (batch t) ⟨1024 * (t.val % 4) + r.val, by omega⟩ d) := by
  obtain ⟨⟨h0, h1, h2⟩, -⟩ := idx_facts t
  refine (congrArg (V m c main_arg0 : Vec Ideal S8x4096x1024 .f32) (funext fun a => Fin.ext ?_)).trans
    (congrFun (V_main_arg0 m c) _)
  match a with
  | ⟨0, _⟩ => show win0_0.index t (0 : Fin 3) * 1 + 1 * 0 = t.val / 4; rw [h0]; omega
  | ⟨1, _⟩ => show win0_0.index t (1 : Fin 3) * 1024 + 1 * r.val = 1024 * (t.val % 4) + r.val; rw [h1]; omega
  | ⟨2, _⟩ => show win0_0.index t (2 : Fin 3) * 1024 + 1 * d.val = d.val; rw [h2]; omega

/-- A row of a point's block of the mixer's output. -/
theorem iblk_o (c : Dev nD) (t : Fin cfg0.N) (r d : Fin 1024) :
    (iblk m c 2 t : Vec Ideal S1x1024x1024 .bf16) (ix3 0 r d)
      = argO m c (ix3 (batch t) ⟨1024 * (t.val % 4) + r.val, by omega⟩ d) := by
  obtain ⟨-, -, ⟨h0, h1, h2⟩, -⟩ := idx_facts t
  refine (congrArg (hostO m c) (funext fun a => Fin.ext ?_)).trans (congrFun (hostO_eq m c) _)
  match a with
  | ⟨0, _⟩ => show win0_2.index t (0 : Fin 3) * 1 + 1 * 0 = t.val / 4; rw [h0]; omega
  | ⟨1, _⟩ => show win0_2.index t (1 : Fin 3) * 1024 + 1 * r.val = 1024 * (t.val % 4) + r.val; rw [h1]; omega
  | ⟨2, _⟩ => show win0_2.index t (2 : Fin 3) * 1024 + 1 * d.val = d.val; rw [h2]; omega

/-- A point's modulation row: its batch's row of the last layer. -/
theorem iblk_m (c : Dev nD) (t : Fin cfg0.N) (k : Fin 6144) :
    (iblk m c 1 t : Vec Ideal S1x1x6144 .f32) (ix3 0 0 k)
      = argM m c (ix3 1 ⟨(batch t).val, by have h := (batch t).isLt; omega⟩ k) := by
  obtain ⟨-, ⟨h0, h1, h2⟩, -⟩ := idx_facts t
  refine (congrArg (hostM m c) (funext fun a => Fin.ext ?_)).trans (hostM_apply m c (batch t) k)
  match a with
  | ⟨0, _⟩ => show win0_1.index t (0 : Fin 3) * 1 + 1 * 0 = 16 + t.val / 4; rw [h0]; omega
  | ⟨1, _⟩ => show win0_1.index t (1 : Fin 3) * 1 + 1 * 0 = 0; rw [h1]
  | ⟨2, _⟩ => show win0_1.index t (2 : Fin 3) * 6144 + 1 * k.val = k.val; rw [h2]; omega

/-- The output projection's block. -/
theorem iblk_w (c : Dev nD) (t : Fin cfg0.N) (e d : Fin 1024) :
    (iblk m c 3 t : Vec Ideal S1024x1024 .bf16) (ix2 e d) = argW m c (ix3 0 e d) := by
  obtain ⟨-, -, -, ⟨h0, h1⟩, -⟩ := idx_facts t
  refine (congrArg (hostW m c) (funext fun a => Fin.ext ?_)).trans (hostW_apply m c e d)
  match a with
  | ⟨0, _⟩ => show win0_3.index t (0 : Fin 2) * 1024 + 1 * e.val = e.val; rw [h0]; omega
  | ⟨1, _⟩ => show win0_3.index t (1 : Fin 2) * 1024 + 1 * d.val = d.val; rw [h1]; omega

/-- The blocks of the three gains. -/
theorem iblk_gains (c : Dev nD) (t : Fin cfg0.N) (d : Fin 1024) :
    (iblk m c 4 t : Vec Ideal S1x1024 .f32) (ix2 0 d) = argPm m c (ix2 1 d)
    ∧ (iblk m c 5 t : Vec Ideal S1x1024 .f32) (ix2 0 d) = argPf m c (ix2 1 d)
    ∧ (iblk m c 6 t : Vec Ideal S1x1024 .f32) (ix2 0 d) = argPff m c (ix2 1 d) := by
  obtain ⟨-, -, -, -, ⟨h0, h1⟩, ⟨k0, k1⟩, ⟨l0, l1⟩, -⟩ := idx_facts t
  refine ⟨(congrArg (hostPm m c) (funext fun a => Fin.ext ?_)).trans
      ((congrFun (hostPm_eq m c) (ix2 0 d)).trans (gainRow_apply _ d)),
    (congrArg (hostPf m c) (funext fun a => Fin.ext ?_)).trans
      ((congrFun (hostPf_eq m c) (ix2 0 d)).trans (gainRow_apply _ d)),
    (congrArg (hostPff m c) (funext fun a => Fin.ext ?_)).trans
      ((congrFun (hostPff_eq m c) (ix2 0 d)).trans (gainRow_apply _ d))⟩
  · match a with
    | ⟨0, _⟩ => show win0_4.index t (0 : Fin 2) * 1 + 1 * 0 = 0; rw [h0]
    | ⟨1, _⟩ => show win0_4.index t (1 : Fin 2) * 1024 + 1 * d.val = d.val; rw [h1]; omega
  · match a with
    | ⟨0, _⟩ => show win0_5.index t (0 : Fin 2) * 1 + 1 * 0 = 0; rw [k0]
    | ⟨1, _⟩ => show win0_5.index t (1 : Fin 2) * 1024 + 1 * d.val = d.val; rw [k1]; omega
  · match a with
    | ⟨0, _⟩ => show win0_6.index t (0 : Fin 2) * 1 + 1 * 0 = 0; rw [l0]
    | ⟨1, _⟩ => show win0_6.index t (1 : Fin 2) * 1024 + 1 * d.val = d.val; rw [l1]; omega

/-- The blocks of the feed-forward's first two weights: the last layer's. -/
theorem iblk_up (c : Dev nD) (t : Fin cfg0.N) (e : Fin 1024) (k : Fin 2816) :
    (iblk m c 7 t : Vec Ideal S1x1024x2816 .bf16) (ix3 0 e k) = argG m c (ix3 1 e k)
    ∧ (iblk m c 8 t : Vec Ideal S1x1024x2816 .bf16) (ix3 0 e k) = argU m c (ix3 1 e k) := by
  obtain ⟨-, -, -, -, -, -, -, ⟨h0, h1, h2⟩, ⟨k0, k1, k2⟩, -⟩ := idx_facts t
  refine ⟨(congrArg (hostG m c) (funext fun a => Fin.ext ?_)).trans (congrFun (hostG_eq m c) _),
    (congrArg (hostU m c) (funext fun a => Fin.ext ?_)).trans (congrFun (hostU_eq m c) _)⟩
  · match a with
    | ⟨0, _⟩ => show win0_7.index t (0 : Fin 3) * 1 + 1 * 0 = 1; rw [h0]
    | ⟨1, _⟩ => show win0_7.index t (1 : Fin 3) * 1024 + 1 * e.val = e.val; rw [h1]; omega
    | ⟨2, _⟩ => show win0_7.index t (2 : Fin 3) * 2816 + 1 * k.val = k.val; rw [h2]; omega
  · match a with
    | ⟨0, _⟩ => show win0_8.index t (0 : Fin 3) * 1 + 1 * 0 = 1; rw [k0]
    | ⟨1, _⟩ => show win0_8.index t (1 : Fin 3) * 1024 + 1 * e.val = e.val; rw [k1]; omega
    | ⟨2, _⟩ => show win0_8.index t (2 : Fin 3) * 2816 + 1 * k.val = k.val; rw [k2]; omega

/-- The block of the feed-forward's last weight: the last layer's. -/
theorem iblk_down (c : Dev nD) (t : Fin cfg0.N) (k : Fin 2816) (d : Fin 1024) :
    (iblk m c 9 t : Vec Ideal S1x2816x1024 .bf16) (ix3 0 k d) = argD m c (ix3 1 k d) := by
  obtain ⟨-, -, -, -, -, -, -, -, -, ⟨h0, h1, h2⟩, -⟩ := idx_facts t
  refine (congrArg (hostD m c) (funext fun a => Fin.ext ?_)).trans (congrFun (hostD_eq m c) _)
  match a with
  | ⟨0, _⟩ => show win0_9.index t (0 : Fin 3) * 1 + 1 * 0 = 1; rw [h0]
  | ⟨1, _⟩ => show win0_9.index t (1 : Fin 3) * 2816 + 1 * k.val = k.val; rw [h1]; omega
  | ⟨2, _⟩ => show win0_9.index t (2 : Fin 3) * 1024 + 1 * d.val = d.val; rw [h2]; omega

/-- The mixer's rows through the output projection. -/
def projected (c : Dev nD) (b : Fin 8) (t : Fin 4096) : Fin 1024 → EReal := fun d =>
  ∑ e : Fin 1024, argO m c (ix3 b t e) * argW m c (ix3 0 e d)

/-- The stream after the layer. -/
def result (c : Dev nD) : Vec Ideal S8x4096x1024 .f32 := fun i =>
  stream 1 (argX m c) (argM m c) (projected m c) (argPm m c) (argPf m c) (argPff m c) (argG m c) (argU m c) (argD m c)
    (i 0) (i 1) (i 2)

/-- A point's output block holds its rows of the stream after the layer. -/
theorem out_apply (c : Dev nD) (t : Fin cfg0.N) (r d : Fin 1024) :
    out0_10 (F := Ideal) (iblk m c 0 t) (iblk m c 1 t) (iblk m c 2 t) (iblk m c 3 t) (iblk m c 4 t) (iblk m c 5 t)
        (iblk m c 6 t) (iblk m c 7 t) (iblk m c 8 t) (iblk m c 9 t) (ix3 0 r d)
      = result m c (ix3 (batch t) ⟨1024 * (t.val % 4) + r.val, by omega⟩ d) := by
  rw [out_eq]
  exact blockRows_apply (iblk_x m c t r) (iblk_m m c t)
    (fun d => sum_mul_congr (iblk_o m c t r) fun e => iblk_w m c t e d) (fun d => (iblk_gains m c t d).1) (fun d => (iblk_gains m c t d).2.1) (fun d => (iblk_gains m c t d).2.2)
    (fun e k => (iblk_up m c t e k).1) (fun e k => (iblk_up m c t e k).2) (iblk_down m c t) d

/-- An entry of the array lies in the block of its batch and row tile. -/
theorem covered (i : S8x4096x1024.Idx) :
    ∃ t : Fin cfg0.N, (cfg0.win 10).flush t = true ∧ i ∈ ((cfg0.win 10).blk t).view.set := by
  have flushes : ∀ t : Fin cfg0.N, (cfg0.win 10).flush t = true := (by decide +kernel : ∀ t : Fin grid0.N, _)
  have h0 : (i 0).val < 8 := (i 0).isLt
  have h1 : (i 1).val < 4096 := (i 1).isLt
  have h2 : (i 2).val < 1024 := (i 2).isLt
  refine ⟨⟨4 * (i 0).val + (i 1).val / 1024, lt_of_lt_of_eq (by omega) N_0.symm⟩, flushes _, ?_⟩
  generalize ht : (⟨4 * (i 0).val + (i 1).val / 1024, lt_of_lt_of_eq (by omega) N_0.symm⟩ : Fin cfg0.N) = t
  have hv : t.val = 4 * (i 0).val + (i 1).val / 1024 := (congrArg Fin.val ht).symm
  obtain ⟨-, -, -, -, -, -, -, -, -, -, k0, k1, k2⟩ := idx_facts t
  show i ∈ ((View.whole main_v16).slice (win0_10.rect t)).set
  rw [View.set_slice_whole, Rect.mem_set_unit]
  intro a
  match a with
  | ⟨0, _⟩ => show win0_10.index t (0 : Fin 3) * 1 ≤ (i 0).val ∧ (i 0).val < win0_10.index t (0 : Fin 3) * 1 + 1; omega
  | ⟨1, _⟩ =>
    show win0_10.index t (1 : Fin 3) * 1024 ≤ (i 1).val ∧ (i 1).val < win0_10.index t (1 : Fin 3) * 1024 + 1024; omega
  | ⟨2, _⟩ =>
    show win0_10.index t (2 : Fin 3) * 1024 ≤ (i 2).val ∧ (i 2).val < win0_10.index t (2 : Fin 3) * 1024 + 1024; omega

/-- The array after the run is the stream after the layer. -/
theorem array_eq (c : Dev nD) : (dats m 0 c).arrAt 10 cfg0.N = result m c := by
  refine (dats m 0 c).arrAt_eq_of_cover 10 (result m c) (fun t _ => ?_) covered
  rw [flushed10]
  obtain ⟨-, -, -, -, -, -, -, -, -, -, k0, k1, k2⟩ := idx_facts t
  funext y
  obtain ⟨r, d, rfl⟩ : ∃ r d : Fin 1024, y = ix3 0 r d :=
    ⟨y 1, y 2, (eq_ix3 y).trans (by rw [Subsingleton.elim (α := Fin 1) (y 0) 0])⟩
  refine (out_apply m c t r d).trans (congrArg (result m c) (funext fun a => Fin.ext ?_))
  match a with
  | ⟨0, _⟩ => show t.val / 4 = win0_10.index t (0 : Fin 3) * 1 + 1 * 0; omega
  | ⟨1, _⟩ => show 1024 * (t.val % 4) + r.val = win0_10.index t (1 : Fin 3) * 1024 + 1 * r.val; omega
  | ⟨2, _⟩ => show d.val = win0_10.index t (2 : Fin 3) * 1024 + 1 * d.val; omega

end Post.Last

end
-- ==== Proof.LastEquation.lean ====
module

public import proofs.«01_k».proof.Defs
public import proofs.«01_k».proof.Proof.HostLayer
public import proofs.«01_k».proof.Proof.LastLayer

@[expose] public section

/-! The two programs of what follows the last mixer leave the same array. -/

set_option maxRecDepth 16384

noncomputable section

namespace Post.Last

open Idealize.ShloMosaic Idealize.ShloMosaic.TcCoe Idealize.ShloMosaic.StableHlo

section Reference

open Cert.Reference2Ideal Cert.Reference2Ideal.Gen Cert.Reference2Ideal.Value

/-- The modulation rows of layer 1, one for each batch. -/
def refMods (M : Vec Ideal S2x16x6144 .f32) : Vec Ideal S8x1x6144 .f32 :=
  broadcastInDim S8x1x6144 ![0, 2] bcast_S8x6144_S8x1x6144_0_2
    (shapeCast S8x6144 (extractStridedSlice S1x8x6144 ![1, 0, 0] M slices_S2x16x6144_S1x8x6144_1_0_0)
      shapeCasts_S1x8x6144_S8x6144)

/-- A gain of layer 1. -/
def refGain (g : Vec Ideal S2x1024 .f32) : Vec Ideal S1024 .f32 :=
  shapeCast S1024 (extractStridedSlice S1x1024 ![1, 0] g slices_S2x1024_S1x1024_1_0) shapeCasts_S1x1024_S1024

/-- One of the first two feed-forward matrices of layer 1. -/
def refUp (w : Vec Ideal S2x1024x2816 .f32) : Vec Ideal S1024x2816 .f32 :=
  shapeCast S1024x2816 (extractStridedSlice S1x1024x2816 ![1, 0, 0] w slices_S2x1024x2816_S1x1024x2816_1_0_0)
    shapeCasts_S1x1024x2816_S1024x2816

/-- The last feed-forward matrix of layer 1. -/
def refDown (w : Vec Ideal S2x2816x1024 .f32) : Vec Ideal S2816x1024 .f32 :=
  shapeCast S2816x1024 (extractStridedSlice S1x2816x1024 ![1, 0, 0] w slices_S2x2816x1024_S1x2816x1024_1_0_0)
    shapeCasts_S1x2816x1024_S2816x1024

/-- The mixer's result through the output projection. -/
def refProject (o : Vec Ideal S8x4096x1024 .f32) (w : Vec Ideal S1x1024x1024 .f32) : Vec Ideal S8x4096x1024 .f32 :=
  Host.dotGeneral (F := Ideal) (φ₁ := .f32) (φ₂ := .f32) dot_S8x4096x1024_S1024x1024_S8x4096x1024_2_0_01_1_n_n none
    (o : FVec Ideal S8x4096x1024 .f32)
    (shapeCast S1024x1024 w shapeCasts_S1x1024x1024_S1024x1024 : FVec Ideal S1024x1024 .f32)

/-- The reference's result as its operations compose it. -/
theorem res_eq (m : (ℓ : Loc nD τ sig) → Buf (Elt Ideal) ℓ) (c : Dev nD) :
    res_out0 m c = hostPost (refMods (m ((c.tc : Thread nD τ).loc main_arg1)))
      (refGain (m ((c.tc : Thread nD τ).loc main_arg3))) (refGain (m ((c.tc : Thread nD τ).loc main_arg4)))
      (refGain (m ((c.tc : Thread nD τ).loc main_arg5))) (refUp (m ((c.tc : Thread nD τ).loc main_arg7)))
      (refUp (m ((c.tc : Thread nD τ).loc main_arg8))) (refDown (m ((c.tc : Thread nD τ).loc main_arg9)))
      (m ((c.tc : Thread nD τ).loc main_arg0))
      (refProject (m ((c.tc : Thread nD τ).loc main_arg2)) (m ((c.tc : Thread nD τ).loc main_arg6))) := rfl

/-- A modulation row's entry. -/
theorem refMods_apply (M : Vec Ideal S2x16x6144 .f32) (b : Fin 8) (k : Fin 6144) :
    refMods M (ix3 b 0 k) = M (ix3 1 ⟨b.val, by omega⟩ k) := by
  unfold refMods
  pointwise

/-- A gain's entry. -/
theorem refGain_apply (g : Vec Ideal S2x1024 .f32) (d : Fin 1024) : refGain g (ix1 d) = g (ix2 1 d) := by
  unfold refGain
  pointwise

/-- An entry of a feed-forward matrix. -/
theorem refUp_apply (w : Vec Ideal S2x1024x2816 .f32) (e : Fin 1024) (k : Fin 2816) :
    refUp w (ix2 e k) = w (ix3 1 e k) := by
  unfold refUp
  pointwise

@[inherit_doc refUp_apply] theorem refDown_apply (w : Vec Ideal S2x2816x1024 .f32) (k : Fin 2816) (d : Fin 1024) :
    refDown w (ix2 k d) = w (ix3 1 k d) := by
  unfold refDown
  pointwise

/-- A projected entry. -/
theorem refProject_apply (o : Vec Ideal S8x4096x1024 .f32) (w : Vec Ideal S1x1024x1024 .f32) (b : Fin 8) (t : Fin 4096)
    (d : Fin 1024) : refProject o w (ix3 b t d) = ∑ e, o (ix3 b t e) * w (ix3 0 e d) := by
  unfold refProject
  pointwise

end Reference

open Cert.Kernel2Ideal in
/-- The kernel's array is the reference's term of the same arguments. -/
theorem result_eq (m : (ℓ : Loc nD τ sig) → Buf (Elt Ideal) ℓ) (c : Dev nD) :
    result m c = hostPost (refMods (argM m c)) (refGain (argPm m c)) (refGain (argPf m c)) (refGain (argPff m c))
      (refUp (argG m c)) (refUp (argU m c)) (refDown (argD m c)) (argX m c) (refProject (argO m c) (argW m c)) := by
  funext i
  obtain ⟨b, t, d, rfl⟩ : ∃ (b : Fin 8) (t : Fin 4096) (d : Fin 1024), i = ix3 b t d := ⟨i 0, i 1, i 2, eq_ix3 i⟩
  rw [hostPost_apply]
  simp only [refMods_apply, refGain_apply, refUp_apply, refDown_apply, refProject_apply]
  rfl

end Post.Last

end
-- ==== Proof.FirstBlock.lean ====
module

public import proofs.«01_k».proof.Proof.Block
public import proofs.«01_k».proof.Proof.Gen.Kernel3Ideal.Frame

@[expose] public section

/-! What a grid point of the kernel after the first mixers leaves in its output block. -/

set_option maxRecDepth 16384

noncomputable section

namespace Post.First

open Cert.Kernel3Ideal Cert.Kernel3Ideal.Gen Idealize.ShloMosaic Idealize.ShloMosaic.StableHlo

section Stores

variable {F : FTy → Type} [FloatOps F] [Named F] (x0 : Vec F S1x1024x1024 .f32) (x1 : Vec F S1x1x6144 .f32)
  (x2 x3 : Vec F S1x1024x512 .bf16) (x4 x5 : Vec F S512x1024 .bf16) (x6 x7 x8 : Vec F S1x1024 .f32)
  (x9 x10 : Vec F S1x1024x2816 .bf16) (x11 : Vec F S1x2816x1024 .bf16)

/-- A store of the body, from 256 rows of the stream and of the two mixers' outputs. -/
abbrev storeOf (x : Vec F S1x256x1024 .f32) (a b : Vec F S1x256x512 .bf16) : FVec F S1x256x1024 .f32 :=
  store x1 x6 x7 x8 x9 x10 x11 (k0_pay2 a (View.ld x4 r0_2) b (View.ld x5 r0_2)) x

/-- The output block as the stores of its four sub-tiles. -/
theorem out_stores : out0_12 x0 x1 x2 x3 x4 x5 x6 x7 x8 x9 x10 x11
    = View.canon [
      ⟨r0_10, storeOf x1 x4 x5 x6 x7 x8 x9 x10 x11 (View.ld x0 r0_10) (View.ld x2 r0_5) (View.ld x3 r0_5)⟩,
      ⟨r0_9, storeOf x1 x4 x5 x6 x7 x8 x9 x10 x11 (View.ld x0 r0_9) (View.ld x2 r0_4) (View.ld x3 r0_4)⟩,
      ⟨r0_8, storeOf x1 x4 x5 x6 x7 x8 x9 x10 x11 (View.ld x0 r0_8) (View.ld x2 r0_3) (View.ld x3 r0_3)⟩,
      ⟨r0_6, storeOf x1 x4 x5 x6 x7 x8 x9 x10 x11 (View.ld x0 r0_6) (View.ld x2 r0_1) (View.ld x3 r0_1)⟩] := rfl

end Stores

/-- The projection of 256 rows of the two mixers' outputs. -/
theorem project_apply (x2 x3 : Vec Ideal S1x1024x512 .bf16) (x4 x5 : Vec Ideal S512x1024 .bf16) (o : Nat) (inb)
    (ho : o + 256 ≤ 1024) (r : Fin 256) (d : Fin 1024) :
    k0_pay2 (F := Ideal) (View.ld x2 (Rect.unit ![0, o, 0] ![1, 256, 512] inb)) (View.ld x4 r0_2)
        (View.ld x3 (Rect.unit ![0, o, 0] ![1, 256, 512] inb)) (View.ld x5 r0_2) (ix2 r d)
      = (∑ e : Fin 512, x2 (ix3 0 ⟨o + r.val, by omega⟩ e) * x4 (ix2 e d))
        + ∑ e : Fin 512, x3 (ix3 0 ⟨o + r.val, by omega⟩ e) * x5 (ix2 e d) := by
  have ha := ld_rows x2 o inb ho
  have hb := ld_rows x3 o inb ho
  rw [ld_all2, ld_all2]
  generalize View.ld x2 (Rect.unit ![0, o, 0] ![1, 256, 512] inb) = a at ha ⊢
  generalize View.ld x3 (Rect.unit ![0, o, 0] ![1, 256, 512] inb) = b at hb ⊢
  unfold k0_pay2
  pointwise
  simp only [ha, hb]

/-- The output block of a grid point. -/
theorem out_eq (x0 : Vec Ideal S1x1024x1024 .f32) (x1 : Vec Ideal S1x1x6144 .f32) (x2 x3 : Vec Ideal S1x1024x512 .bf16)
    (x4 x5 : Vec Ideal S512x1024 .bf16) (x6 x7 x8 : Vec Ideal S1x1024 .f32) (x9 x10 : Vec Ideal S1x1024x2816 .bf16)
    (x11 : Vec Ideal S1x2816x1024 .bf16) :
    out0_12 x0 x1 x2 x3 x4 x5 x6 x7 x8 x9 x10 x11
      = blockRows x0 x1 (fun r d => (∑ e : Fin 512, x2 (ix3 0 r e) * x4 (ix2 e d))
          + ∑ e : Fin 512, x3 (ix3 0 r e) * x5 (ix2 e d)) x6 x7 x8 x9 x10 x11 := by
  rw [out_stores]
  funext y
  refine View.canon_apply_of_pieces _ _ (fun p hp j => ?_) y (cover0_12 _ _ _ _ y)
  simp only [List.mem_cons, List.not_mem_nil, or_false] at hp
  rcases hp with rfl | rfl | rfl | rfl <;>
    exact store_apply x0 x1 x6 x7 x8 x9 x10 x11 _ _ _ _ (fun ho r d => project_apply x2 x3 x4 x5 _ _ ho r d) j

end Post.First

end
-- ==== Proof.FirstLayer.lean ====
module

public import proofs.«01_k».proof.Proof.Gen.Kernel3Ideal.Value
public import proofs.«01_k».proof.Proof.FirstBlock
public import Idealize.ShloMosaic.Lib.Routing.Ops

@[expose] public section

/-! What the kernel after the first layer's mixers leaves: every row of the stream after the layer. -/

set_option maxRecDepth 16384

noncomputable section

namespace Post.First

open Cert.Kernel3Ideal Cert.Kernel3Ideal.Gen Cert.Kernel3Ideal.Value Idealize.ShloMosaic Idealize.ShloMosaic.TcCoe
  Idealize.ShloMosaic.StableHlo

variable (m : (ℓ : Loc nD τ sig) → Buf (Elt Ideal) ℓ)

/-- The stream before the layer. -/
abbrev argX (c : Dev nD) : Vec Ideal S8x4096x1024 .f32 := m ((c : Thread nD τ).loc main_arg0)
/-- The modulation's rows by layer. -/
abbrev argM (c : Dev nD) : Vec Ideal S2x16x6144 .f32 := m ((c : Thread nD τ).loc main_arg1)
/-- The mixers' outputs, side by side. -/
abbrev argO (c : Dev nD) : Vec Ideal S8x4096x1024 .f32 := m ((c : Thread nD τ).loc main_arg2)
/-- The gain after the mixer. -/
abbrev argPm (c : Dev nD) : Vec Ideal S2x1024 .f32 := m ((c : Thread nD τ).loc main_arg3)
/-- The gain before the feed-forward. -/
abbrev argPf (c : Dev nD) : Vec Ideal S2x1024 .f32 := m ((c : Thread nD τ).loc main_arg4)
/-- The gain after the feed-forward. -/
abbrev argPff (c : Dev nD) : Vec Ideal S2x1024 .f32 := m ((c : Thread nD τ).loc main_arg5)
/-- The output projection. -/
abbrev argW (c : Dev nD) : Vec Ideal S1x1024x1024 .f32 := m ((c : Thread nD τ).loc main_arg6)
/-- The feed-forward's gate weights. -/
abbrev argG (c : Dev nD) : Vec Ideal S2x1024x2816 .f32 := m ((c : Thread nD τ).loc main_arg7)
/-- The feed-forward's up weights. -/
abbrev argU (c : Dev nD) : Vec Ideal S2x1024x2816 .f32 := m ((c : Thread nD τ).loc main_arg8)
/-- The feed-forward's down weights. -/
abbrev argD (c : Dev nD) : Vec Ideal S2x2816x1024 .f32 := m ((c : Thread nD τ).loc main_arg9)

/-- The arrays the kernel's windows read, as the host leaves them. -/
abbrev hostM (c : Dev nD) : Vec Ideal S32x1x6144 .f32 := V m c main_v0
abbrev hostA (c : Dev nD) : Vec Ideal S8x4096x512 .bf16 := V m c main_v5
abbrev hostB (c : Dev nD) : Vec Ideal S8x4096x512 .bf16 := V m c main_v10
abbrev hostWa (c : Dev nD) : Vec Ideal S512x1024 .bf16 := V m c main_v13
abbrev hostWb (c : Dev nD) : Vec Ideal S512x1024 .bf16 := V m c main_v20
abbrev hostPm (c : Dev nD) : Vec Ideal S1x1024 .f32 := V m c main_v23
abbrev hostPf (c : Dev nD) : Vec Ideal S1x1024 .f32 := V m c main_v26
abbrev hostPff (c : Dev nD) : Vec Ideal S1x1024 .f32 := V m c main_v29
abbrev hostG (c : Dev nD) : Vec Ideal S2x1024x2816 .bf16 := V m c main_v1
abbrev hostU (c : Dev nD) : Vec Ideal S2x1024x2816 .bf16 := V m c main_v2
abbrev hostD (c : Dev nD) : Vec Ideal S2x2816x1024 .bf16 := V m c main_v3

/-- The attention's column that position `k` of its group order holds: `k` is query head `k / 128` of its group, key
    head `k % 128 / 64` and entry `k % 64`; the columns go by key head first. -/
def column (k : Fin 512) : Fin 512 := ⟨k.val % 128 / 64 * 256 + k.val / 128 * 64 + k.val % 64, by omega⟩

/-- The columns and their positions in group order are one to one. -/
def columns : Fin 512 ≃ Fin 512 where
  toFun := column
  invFun k := ⟨k.val % 256 / 64 * 128 + k.val / 256 * 64 + k.val % 64, by omega⟩
  left_inv k := Fin.ext (by simp only [column]; omega)
  right_inv k := Fin.ext (by simp only [column]; omega)

/-- A column of the first 512. -/
abbrev lo (k : Fin 512) : Fin 1024 := ⟨k.val, by omega⟩
/-- A column of the last 512. -/
abbrev hi (k : Fin 512) : Fin 1024 := ⟨512 + k.val, by omega⟩

/-- A sum over the columns, with the last 512 in group order. -/
theorem sum_columns (f : Fin 1024 → EReal) : ∑ e, f e = (∑ k, f (lo k)) + ∑ k, f (hi (column k)) := by
  refine (Fin.sum_univ_add (a := 512) (b := 512) f).trans (congrArg₂ (· + ·) rfl ?_)
  exact (Equiv.sum_comp columns (fun k => f (hi k))).symm

/-- The modulation's rows, the layers' one after the other. -/
theorem hostM_apply (c : Dev nD) (b : Fin 8) (k : Fin 6144) :
    hostM m c (ix3 ⟨b.val, by omega⟩ 0 k) = argM m c (ix3 0 ⟨b.val, by omega⟩ k) := by
  have e : hostM m c = shapeCast S32x1x6144 (argM m c) shapeCasts_S2x16x6144_S32x1x6144 := by
    unfold hostM V
    after_results <;> rfl
  rw [e]
  pointwise
  exact congrArg₂ (fun i j => argM m c (ix3 i j k)) (Fin.ext (by show b.val / 16 = 0; omega))
    (Fin.ext (by show b.val % 16 = b.val; omega))

/-- The scan's columns. -/
theorem hostA_apply (c : Dev nD) (b : Fin 8) (t : Fin 4096) (k : Fin 512) :
    hostA m c (ix3 b t k) = argO m c (ix3 b t (lo k)) := by
  have e : hostA m c = truncf (F := Ideal) .bf16
      (extractStridedSlice S8x4096x512 ![0, 0, 0] (argO m c) slices_S8x4096x1024_S8x4096x512_0_0_0) bitsLt_bf16_f32 := by
    unfold hostA V
    after_results <;> rfl
  rw [e]
  pointwise

/-- The attention's columns, in group order. -/
theorem hostB_apply (c : Dev nD) (b : Fin 8) (t : Fin 4096) (k : Fin 512) :
    hostB m c (ix3 b t k) = argO m c (ix3 b t (hi (column k))) := by
  have e : hostB m c = truncf (F := Ideal) .bf16 (shapeCast S8x4096x512 (transpose S8x4096x4x2x64 [0, 1, 3, 2, 4]
      (shapeCast S8x4096x2x4x64
        (extractStridedSlice S8x4096x512 ![0, 0, 512] (argO m c) slices_S8x4096x1024_S8x4096x512_0_0_512)
        shapeCasts_S8x4096x512_S8x4096x2x4x64) transposes_S8x4096x2x4x64_S8x4096x4x2x64_0_1_3_2_4)
      shapeCasts_S8x4096x4x2x64_S8x4096x512) bitsLt_bf16_f32 := by
    unfold hostB V
    after_results <;> rfl
  rw [e]
  pointwise
  exact congrArg (fun e => argO m c (ix3 b t e)) (Fin.ext (by simp only [column]; omega))

/-- The output projection's rows of the scan. -/
theorem hostWa_apply (c : Dev nD) (k : Fin 512) (d : Fin 1024) : hostWa m c (ix2 k d) = argW m c (ix3 0 (lo k) d) := by
  have e : hostWa m c = truncf (F := Ideal) .bf16 (extractStridedSlice S512x1024 ![0, 0]
      (shapeCast S1024x1024 (argW m c) shapeCasts_S1x1024x1024_S1024x1024) slices_S1024x1024_S512x1024_0_0)
      bitsLt_bf16_f32 := by
    unfold hostWa V
    after_results <;> rfl
  rw [e]
  pointwise

/-- The row numbers the host lists: the attention's rows in group order. -/
theorem rows_listed : ∀ k : Fin 512, lit0 k = BitVec.ofNat 32 (hi (column k)).val := by
  decide +kernel

/-- The row numbers, one for each row, as the gather reads them. -/
abbrev rowNumbers : IVec S512x1 32 := broadcastInDim S512x1 ![0] bcast_S512_S512x1_0
  (select (constantI S512 1 0#1) (addi (fun i => lit0 (S512.rowMajor i))
    (broadcastInDim S512 ![] bcast_S_S512 (constantI S_ 32 1024#32))) (fun i => lit0 (S512.rowMajor i)))

/-- A row number. -/
theorem rowNumbers_apply (k : Fin 512) : rowNumbers (ix2 k 0) = BitVec.ofNat 32 (hi (column k)).val := by
  have e : S512.rowMajor (ix1 k) = k := Fin.ext (Shape.rowMajor_val_one _)
  exact (congrArg lit0 e).trans (rows_listed k)

/-- The output projection's rows of the attention, in group order. -/
theorem hostWb_apply (c : Dev nD) (k : Fin 512) (d : Fin 1024) :
    hostWb m c (ix2 k d) = argW m c (ix3 0 (hi (column k)) d) := by
  have e : hostWb m c = truncf (F := Ideal) .bf16 (Host.gather gather_S1024x1024_S512x1_S512x1024_1_0_n_n_0_1_11024
      (shapeCast S1024x1024 (argW m c) shapeCasts_S1x1024x1024_S1024x1024) rowNumbers) bitsLt_bf16_f32 := by
    unfold hostWb V
    after_results <;> rfl
  have g := Routing.gather_row gather_S1024x1024_S512x1_S512x1024_1_0_n_n_0_1_11024 rfl rfl rfl rfl rfl
    (shapeCast S1024x1024 (argW m c) shapeCasts_S1x1024x1024_S1024x1024) rowNumbers k d (hi (column k))
    (rowNumbers_apply k) (by decide)
  rw [e]
  refine g.trans ?_
  pointwise

/-- The first layer's row of a gain. -/
abbrev gainRow (g : Vec Ideal S2x1024 .f32) : Vec Ideal S1x1024 .f32 :=
  shapeCast S1x1024 (shapeCast S1024 (extractStridedSlice S1x1024 ![0, 0] g slices_S2x1024_S1x1024_0_0)
    shapeCasts_S1x1024_S1024) shapeCasts_S1024_S1x1024

/-- The first layer's row of a gain at an entry. -/
theorem gainRow_apply (g : Vec Ideal S2x1024 .f32) (d : Fin 1024) : gainRow g (ix2 0 d) = g (ix2 0 d) := by
  unfold gainRow
  pointwise

theorem hostPm_eq (c : Dev nD) : hostPm m c = gainRow (argPm m c) := by
  unfold hostPm V
  after_results <;> rfl
theorem hostPf_eq (c : Dev nD) : hostPf m c = gainRow (argPf m c) := by
  unfold hostPf V
  after_results <;> rfl
theorem hostPff_eq (c : Dev nD) : hostPff m c = gainRow (argPff m c) := by
  unfold hostPff V
  after_results <;> rfl
theorem hostG_eq (c : Dev nD) : hostG m c = argG m c := by
  unfold hostG V
  after_results <;> rfl
theorem hostU_eq (c : Dev nD) : hostU m c = argU m c := by
  unfold hostU V
  after_results <;> rfl
theorem hostD_eq (c : Dev nD) : hostD m c = argD m c := by
  unfold hostD V
  after_results <;> rfl

/-- A point's batch. -/
def batch (t : Fin cfg0.N) : Fin 8 := ⟨t.val / 4, by
  have h : t.val < 32 := lt_of_lt_of_eq t.isLt N_0
  omega⟩

/-- The block indices of the windows, decided over the grid. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = t.val % 4 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 3) = 0 ∧ win0_9.index t (1 : Fin 3) = 0 ∧ win0_9.index t (2 : Fin 3) = 0)
    ∧ (win0_10.index t (0 : Fin 3) = 0 ∧ win0_10.index t (1 : Fin 3) = 0 ∧ win0_10.index t (2 : Fin 3) = 0)
    ∧ (win0_11.index t (0 : Fin 3) = 0 ∧ win0_11.index t (1 : Fin 3) = 0 ∧ win0_11.index t (2 : Fin 3) = 0)
    ∧ (win0_12.index t (0 : Fin 3) = t.val / 4 ∧ win0_12.index t (1 : Fin 3) = t.val % 4 ∧ win0_12.index t (2 : Fin 3) = 0) :=
  (by decide +kernel : ∀ t : Fin grid0.N, _)

/-- A row of a point's block of the stream. -/
theorem iblk_x (c : Dev nD) (t : Fin cfg0.N) (r d : Fin 1024) :
    (iblk m c 0 t : Vec Ideal S1x1024x1024 .f32) (ix3 0 r d)
      = argX m c (ix3 (batch t) ⟨1024 * (t.val % 4) + r.val, by omega⟩ d) := by
  obtain ⟨⟨h0, h1, h2⟩, -⟩ := idx_facts t
  refine (congrArg (V m c main_arg0 : Vec Ideal S8x4096x1024 .f32) (funext fun a => Fin.ext ?_)).trans
    (congrFun (V_main_arg0 m c) _)
  match a with
  | ⟨0, _⟩ => show win0_0.index t (0 : Fin 3) * 1 + 1 * 0 = t.val / 4; rw [h0]; omega
  | ⟨1, _⟩ => show win0_0.index t (1 : Fin 3) * 1024 + 1 * r.val = 1024 * (t.val % 4) + r.val; rw [h1]; omega
  | ⟨2, _⟩ => show win0_0.index t (2 : Fin 3) * 1024 + 1 * d.val = d.val; rw [h2]; omega

/-- A row of a point's block of the scan's output. -/
theorem iblk_a (c : Dev nD) (t : Fin cfg0.N) (r : Fin 1024) (k : Fin 512) :
    (iblk m c 2 t : Vec Ideal S1x1024x512 .bf16) (ix3 0 r k)
      = argO m c (ix3 (batch t) ⟨1024 * (t.val % 4) + r.val, by omega⟩ (lo k)) := by
  obtain ⟨-, -, ⟨h0, h1, h2⟩, -⟩ := idx_facts t
  refine (congrArg (hostA m c) (funext fun a => Fin.ext ?_)).trans (hostA_apply m c _ _ k)
  match a with
  | ⟨0, _⟩ => show win0_2.index t (0 : Fin 3) * 1 + 1 * 0 = t.val / 4; rw [h0]; omega
  | ⟨1, _⟩ => show win0_2.index t (1 : Fin 3) * 1024 + 1 * r.val = 1024 * (t.val % 4) + r.val; rw [h1]; omega
  | ⟨2, _⟩ => show win0_2.index t (2 : Fin 3) * 512 + 1 * k.val = k.val; rw [h2]; omega

/-- A row of a point's block of the attention's output. -/
theorem iblk_b (c : Dev nD) (t : Fin cfg0.N) (r : Fin 1024) (k : Fin 512) :
    (iblk m c 3 t : Vec Ideal S1x1024x512 .bf16) (ix3 0 r k)
      = argO m c (ix3 (batch t) ⟨1024 * (t.val % 4) + r.val, by omega⟩ (hi (column k))) := by
  obtain ⟨-, -, -, ⟨h0, h1, h2⟩, -⟩ := idx_facts t
  refine (congrArg (hostB m c) (funext fun a => Fin.ext ?_)).trans (hostB_apply m c _ _ k)
  match a with
  | ⟨0, _⟩ => show win0_3.index t (0 : Fin 3) * 1 + 1 * 0 = t.val / 4; rw [h0]; omega
  | ⟨1, _⟩ => show win0_3.index t (1 : Fin 3) * 1024 + 1 * r.val = 1024 * (t.val % 4) + r.val; rw [h1]; omega
  | ⟨2, _⟩ => show win0_3.index t (2 : Fin 3) * 512 + 1 * k.val = k.val; rw [h2]; omega

/-- A point's modulation row: its batch's row of the first layer. -/
theorem iblk_m (c : Dev nD) (t : Fin cfg0.N) (k : Fin 6144) :
    (iblk m c 1 t : Vec Ideal S1x1x6144 .f32) (ix3 0 0 k)
      = argM m c (ix3 0 ⟨(batch t).val, by have h := (batch t).isLt; omega⟩ k) := by
  obtain ⟨-, ⟨h0, h1, h2⟩, -⟩ := idx_facts t
  refine (congrArg (hostM m c) (funext fun a => Fin.ext ?_)).trans (hostM_apply m c (batch t) k)
  match a with
  | ⟨0, _⟩ => show win0_1.index t (0 : Fin 3) * 1 + 1 * 0 = t.val / 4; rw [h0]; omega
  | ⟨1, _⟩ => show win0_1.index t (1 : Fin 3) * 1 + 1 * 0 = 0; rw [h1]
  | ⟨2, _⟩ => show win0_1.index t (2 : Fin 3) * 6144 + 1 * k.val = k.val; rw [h2]; omega

/-- The block of the output projection's rows of the scan. -/
theorem iblk_wa (c : Dev nD) (t : Fin cfg0.N) (k : Fin 512) (d : Fin 1024) :
    (iblk m c 4 t : Vec Ideal S512x1024 .bf16) (ix2 k d) = argW m c (ix3 0 (lo k) d) := by
  obtain ⟨-, -, -, -, ⟨h0, h1⟩, -⟩ := idx_facts t
  refine (congrArg (hostWa m c) (funext fun a => Fin.ext ?_)).trans (hostWa_apply m c k d)
  match a with
  | ⟨0, _⟩ => show win0_4.index t (0 : Fin 2) * 512 + 1 * k.val = k.val; rw [h0]; omega
  | ⟨1, _⟩ => show win0_4.index t (1 : Fin 2) * 1024 + 1 * d.val = d.val; rw [h1]; omega

/-- The block of the output projection's rows of the attention. -/
theorem iblk_wb (c : Dev nD) (t : Fin cfg0.N) (k : Fin 512) (d : Fin 1024) :
    (iblk m c 5 t : Vec Ideal S512x1024 .bf16) (ix2 k d) = argW m c (ix3 0 (hi (column k)) d) := by
  obtain ⟨-, -, -, -, -, ⟨h0, h1⟩, -⟩ := idx_facts t
  refine (congrArg (hostWb m c) (funext fun a => Fin.ext ?_)).trans (hostWb_apply m c k d)
  match a with
  | ⟨0, _⟩ => show win0_5.index t (0 : Fin 2) * 512 + 1 * k.val = k.val; rw [h0]; omega
  | ⟨1, _⟩ => show win0_5.index t (1 : Fin 2) * 1024 + 1 * d.val = d.val; rw [h1]; omega

/-- The blocks of the three gains. -/
theorem iblk_gains (c : Dev nD) (t : Fin cfg0.N) (d : Fin 1024) :
    (iblk m c 6 t : Vec Ideal S1x1024 .f32) (ix2 0 d) = argPm m c (ix2 0 d)
    ∧ (iblk m c 7 t : Vec Ideal S1x1024 .f32) (ix2 0 d) = argPf m c (ix2 0 d)
    ∧ (iblk m c 8 t : Vec Ideal S1x1024 .f32) (ix2 0 d) = argPff m c (ix2 0 d) := by
  obtain ⟨-, -, -, -, -, -, ⟨h0, h1⟩, ⟨k0, k1⟩, ⟨l0, l1⟩, -⟩ := idx_facts t
  refine ⟨(congrArg (hostPm m c) (funext fun a => Fin.ext ?_)).trans
      ((congrFun (hostPm_eq m c) (ix2 0 d)).trans (gainRow_apply _ d)),
    (congrArg (hostPf m c) (funext fun a => Fin.ext ?_)).trans
      ((congrFun (hostPf_eq m c) (ix2 0 d)).trans (gainRow_apply _ d)),
    (congrArg (hostPff m c) (funext fun a => Fin.ext ?_)).trans
      ((congrFun (hostPff_eq m c) (ix2 0 d)).trans (gainRow_apply _ d))⟩
  · match a with
    | ⟨0, _⟩ => show win0_6.index t (0 : Fin 2) * 1 + 1 * 0 = 0; rw [h0]
    | ⟨1, _⟩ => show win0_6.index t (1 : Fin 2) * 1024 + 1 * d.val = d.val; rw [h1]; omega
  · match a with
    | ⟨0, _⟩ => show win0_7.index t (0 : Fin 2) * 1 + 1 * 0 = 0; rw [k0]
    | ⟨1, _⟩ => show win0_7.index t (1 : Fin 2) * 1024 + 1 * d.val = d.val; rw [k1]; omega
  · match a with
    | ⟨0, _⟩ => show win0_8.index t (0 : Fin 2) * 1 + 1 * 0 = 0; rw [l0]
    | ⟨1, _⟩ => show win0_8.index t (1 : Fin 2) * 1024 + 1 * d.val = d.val; rw [l1]; omega

/-- The blocks of the feed-forward's first two weights: the first layer's. -/
theorem iblk_up (c : Dev nD) (t : Fin cfg0.N) (e : Fin 1024) (k : Fin 2816) :
    (iblk m c 9 t : Vec Ideal S1x1024x2816 .bf16) (ix3 0 e k) = argG m c (ix3 0 e k)
    ∧ (iblk m c 10 t : Vec Ideal S1x1024x2816 .bf16) (ix3 0 e k) = argU m c (ix3 0 e k) := by
  obtain ⟨-, -, -, -, -, -, -, -, -, ⟨h0, h1, h2⟩, ⟨k0, k1, k2⟩, -⟩ := idx_facts t
  refine ⟨(congrArg (hostG m c) (funext fun a => Fin.ext ?_)).trans (congrFun (hostG_eq m c) _),
    (congrArg (hostU m c) (funext fun a => Fin.ext ?_)).trans (congrFun (hostU_eq m c) _)⟩
  · match a with
    | ⟨0, _⟩ => show win0_9.index t (0 : Fin 3) * 1 + 1 * 0 = 0; rw [h0]
    | ⟨1, _⟩ => show win0_9.index t (1 : Fin 3) * 1024 + 1 * e.val = e.val; rw [h1]; omega
    | ⟨2, _⟩ => show win0_9.index t (2 : Fin 3) * 2816 + 1 * k.val = k.val; rw [h2]; omega
  · match a with
    | ⟨0, _⟩ => show win0_10.index t (0 : Fin 3) * 1 + 1 * 0 = 0; rw [k0]
    | ⟨1, _⟩ => show win0_10.index t (1 : Fin 3) * 1024 + 1 * e.val = e.val; rw [k1]; omega
    | ⟨2, _⟩ => show win0_10.index t (2 : Fin 3) * 2816 + 1 * k.val = k.val; rw [k2]; omega

/-- The block of the feed-forward's last weight: the first layer's. -/
theorem iblk_down (c : Dev nD) (t : Fin cfg0.N) (k : Fin 2816) (d : Fin 1024) :
    (iblk m c 11 t : Vec Ideal S1x2816x1024 .bf16) (ix3 0 k d) = argD m c (ix3 0 k d) := by
  obtain ⟨-, -, -, -, -, -, -, -, -, -, -, ⟨h0, h1, h2⟩, -⟩ := idx_facts t
  refine (congrArg (hostD m c) (funext fun a => Fin.ext ?_)).trans (congrFun (hostD_eq m c) _)
  match a with
  | ⟨0, _⟩ => show win0_11.index t (0 : Fin 3) * 1 + 1 * 0 = 0; rw [h0]
  | ⟨1, _⟩ => show win0_11.index t (1 : Fin 3) * 2816 + 1 * k.val = k.val; rw [h1]; omega
  | ⟨2, _⟩ => show win0_11.index t (2 : Fin 3) * 1024 + 1 * d.val = d.val; rw [h2]; omega

/-- The mixers' rows through the output projection. -/
def projected (c : Dev nD) (b : Fin 8) (t : Fin 4096) : Fin 1024 → EReal := fun d =>
  ∑ e : Fin 1024, argO m c (ix3 b t e) * argW m c (ix3 0 e d)

/-- The stream after the layer. -/
def result (c : Dev nD) : Vec Ideal S8x4096x1024 .f32 := fun i =>
  stream 0 (argX m c) (argM m c) (projected m c) (argPm m c) (argPf m c) (argPff m c) (argG m c) (argU m c) (argD m c)
    (i 0) (i 1) (i 2)

/-- A projected row, by the two mixers' columns. -/
theorem projected_apply (c : Dev nD) (b : Fin 8) (t : Fin 4096) (d : Fin 1024) :
    projected m c b t d = (∑ k, argO m c (ix3 b t (lo k)) * argW m c (ix3 0 (lo k) d))
      + ∑ k, argO m c (ix3 b t (hi (column k))) * argW m c (ix3 0 (hi (column k)) d) :=
  sum_columns fun e => argO m c (ix3 b t e) * argW m c (ix3 0 e d)

/-- A point's output block holds its rows of the stream after the layer. -/
theorem out_apply (c : Dev nD) (t : Fin cfg0.N) (r d : Fin 1024) :
    out0_12 (F := Ideal) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (ix3 0 r d)
      = result m c (ix3 (batch t) ⟨1024 * (t.val % 4) + r.val, by omega⟩ d) := by
  rw [out_eq]
  exact blockRows_apply (iblk_x m c t r) (iblk_m m c t)
    (fun d => (congrArg₂ (· + ·) (sum_mul_congr (iblk_a m c t r) fun k => iblk_wa m c t k d)
      (sum_mul_congr (iblk_b m c t r) fun k => iblk_wb m c t k d)).trans (projected_apply m c _ _ d).symm)
    (fun d => (iblk_gains m c t d).1) (fun d => (iblk_gains m c t d).2.1) (fun d => (iblk_gains m c t d).2.2)
    (fun e k => (iblk_up m c t e k).1) (fun e k => (iblk_up m c t e k).2) (iblk_down m c t) d

/-- An entry of the array lies in the block of its batch and row tile. -/
theorem covered (i : S8x4096x1024.Idx) :
    ∃ t : Fin cfg0.N, (cfg0.win 12).flush t = true ∧ i ∈ ((cfg0.win 12).blk t).view.set := by
  have flushes : ∀ t : Fin cfg0.N, (cfg0.win 12).flush t = true := (by decide +kernel : ∀ t : Fin grid0.N, _)
  have h0 : (i 0).val < 8 := (i 0).isLt
  have h1 : (i 1).val < 4096 := (i 1).isLt
  have h2 : (i 2).val < 1024 := (i 2).isLt
  refine ⟨⟨4 * (i 0).val + (i 1).val / 1024, lt_of_lt_of_eq (by omega) N_0.symm⟩, flushes _, ?_⟩
  generalize ht : (⟨4 * (i 0).val + (i 1).val / 1024, lt_of_lt_of_eq (by omega) N_0.symm⟩ : Fin cfg0.N) = t
  have hv : t.val = 4 * (i 0).val + (i 1).val / 1024 := (congrArg Fin.val ht).symm
  obtain ⟨-, -, -, -, -, -, -, -, -, -, -, -, k0, k1, k2⟩ := idx_facts t
  show i ∈ ((View.whole main_v30).slice (win0_12.rect t)).set
  rw [View.set_slice_whole, Rect.mem_set_unit]
  intro a
  match a with
  | ⟨0, _⟩ => show win0_12.index t (0 : Fin 3) * 1 ≤ (i 0).val ∧ (i 0).val < win0_12.index t (0 : Fin 3) * 1 + 1; omega
  | ⟨1, _⟩ =>
    show win0_12.index t (1 : Fin 3) * 1024 ≤ (i 1).val ∧ (i 1).val < win0_12.index t (1 : Fin 3) * 1024 + 1024; omega
  | ⟨2, _⟩ =>
    show win0_12.index t (2 : Fin 3) * 1024 ≤ (i 2).val ∧ (i 2).val < win0_12.index t (2 : Fin 3) * 1024 + 1024; omega

/-- The array after the run is the stream after the layer. -/
theorem array_eq (c : Dev nD) : (dats m 0 c).arrAt 12 cfg0.N = result m c := by
  refine (dats m 0 c).arrAt_eq_of_cover 12 (result m c) (fun t _ => ?_) covered
  rw [flushed12]
  obtain ⟨-, -, -, -, -, -, -, -, -, -, -, -, k0, k1, k2⟩ := idx_facts t
  funext y
  obtain ⟨r, d, rfl⟩ : ∃ r d : Fin 1024, y = ix3 0 r d :=
    ⟨y 1, y 2, (eq_ix3 y).trans (by rw [Subsingleton.elim (α := Fin 1) (y 0) 0])⟩
  refine (out_apply m c t r d).trans (congrArg (result m c) (funext fun a => Fin.ext ?_))
  match a with
  | ⟨0, _⟩ => show t.val / 4 = win0_12.index t (0 : Fin 3) * 1 + 1 * 0; omega
  | ⟨1, _⟩ => show 1024 * (t.val % 4) + r.val = win0_12.index t (1 : Fin 3) * 1024 + 1 * r.val; omega
  | ⟨2, _⟩ => show d.val = win0_12.index t (2 : Fin 3) * 1024 + 1 * d.val; omega

end Post.First

end
-- ==== Proof.FirstEquation.lean ====
module

public import proofs.«01_k».proof.Defs
public import proofs.«01_k».proof.Proof.LastEquation
public import proofs.«01_k».proof.Proof.Gen.Reference3Ideal.Run
public import proofs.«01_k».proof.Proof.FirstLayer

@[expose] public section

/-! The two programs of what follows the first mixers leave the same array. -/

set_option maxRecDepth 16384

noncomputable section

namespace Post.First

open Idealize.ShloMosaic Idealize.ShloMosaic.TcCoe Idealize.ShloMosaic.StableHlo

section Reference

open Cert.Reference3Ideal Cert.Reference3Ideal.Gen Cert.Reference3Ideal.Value

/-- The modulation rows of layer 0, one for each batch. -/
def refMods (M : Vec Ideal S2x16x6144 .f32) : Vec Ideal S8x1x6144 .f32 :=
  broadcastInDim S8x1x6144 ![0, 2] bcast_S8x6144_S8x1x6144_0_2
    (shapeCast S8x6144 (extractStridedSlice S1x8x6144 ![0, 0, 0] M slices_S2x16x6144_S1x8x6144_0_0_0)
      shapeCasts_S1x8x6144_S8x6144)

/-- A gain of layer 0. -/
def refGain (g : Vec Ideal S2x1024 .f32) : Vec Ideal S1024 .f32 :=
  shapeCast S1024 (extractStridedSlice S1x1024 ![0, 0] g slices_S2x1024_S1x1024_0_0) shapeCasts_S1x1024_S1024

/-- One of the first two feed-forward matrices of layer 0. -/
def refUp (w : Vec Ideal S2x1024x2816 .f32) : Vec Ideal S1024x2816 .f32 :=
  shapeCast S1024x2816 (extractStridedSlice S1x1024x2816 ![0, 0, 0] w slices_S2x1024x2816_S1x1024x2816_0_0_0)
    shapeCasts_S1x1024x2816_S1024x2816

/-- The last feed-forward matrix of layer 0. -/
def refDown (w : Vec Ideal S2x2816x1024 .f32) : Vec Ideal S2816x1024 .f32 :=
  shapeCast S2816x1024 (extractStridedSlice S1x2816x1024 ![0, 0, 0] w slices_S2x2816x1024_S1x2816x1024_0_0_0)
    shapeCasts_S1x2816x1024_S2816x1024

/-- The reference's result as its operations compose it. -/
theorem res_eq (m : (ℓ : Loc nD τ sig) → Buf (Elt Ideal) ℓ) (c : Dev nD) :
    res_out0 m c = hostPost (refMods (m ((c.tc : Thread nD τ).loc main_arg1)))
      (refGain (m ((c.tc : Thread nD τ).loc main_arg3))) (refGain (m ((c.tc : Thread nD τ).loc main_arg4)))
      (refGain (m ((c.tc : Thread nD τ).loc main_arg5))) (refUp (m ((c.tc : Thread nD τ).loc main_arg7)))
      (refUp (m ((c.tc : Thread nD τ).loc main_arg8))) (refDown (m ((c.tc : Thread nD τ).loc main_arg9)))
      (m ((c.tc : Thread nD τ).loc main_arg0))
      (Last.refProject (m ((c.tc : Thread nD τ).loc main_arg2)) (m ((c.tc : Thread nD τ).loc main_arg6))) := rfl

/-- A modulation row's entry. -/
theorem refMods_apply (M : Vec Ideal S2x16x6144 .f32) (b : Fin 8) (k : Fin 6144) :
    refMods M (ix3 b 0 k) = M (ix3 0 ⟨b.val, by omega⟩ k) := by
  unfold refMods
  pointwise

/-- A gain's entry. -/
theorem refGain_apply (g : Vec Ideal S2x1024 .f32) (d : Fin 1024) : refGain g (ix1 d) = g (ix2 0 d) := by
  unfold refGain
  pointwise

/-- An entry of a feed-forward matrix. -/
theorem refUp_apply (w : Vec Ideal S2x1024x2816 .f32) (e : Fin 1024) (k : Fin 2816) :
    refUp w (ix2 e k) = w (ix3 0 e k) := by
  unfold refUp
  pointwise

@[inherit_doc refUp_apply] theorem refDown_apply (w : Vec Ideal S2x2816x1024 .f32) (k : Fin 2816) (d : Fin 1024) :
    refDown w (ix2 k d) = w (ix3 0 k d) := by
  unfold refDown
  pointwise

end Reference

open Cert.Kernel3Ideal in
/-- The kernel's array is the reference's term of the same arguments. -/
theorem result_eq (m : (ℓ : Loc nD τ sig) → Buf (Elt Ideal) ℓ) (c : Dev nD) :
    result m c = hostPost (refMods (argM m c)) (refGain (argPm m c)) (refGain (argPf m c)) (refGain (argPff m c))
      (refUp (argG m c)) (refUp (argU m c)) (refDown (argD m c)) (argX m c) (Last.refProject (argO m c) (argW m c)) := by
  funext i
  obtain ⟨b, t, d, rfl⟩ : ∃ (b : Fin 8) (t : Fin 4096) (d : Fin 1024), i = ix3 b t d := ⟨i 0, i 1, i 2, eq_ix3 i⟩
  rw [hostPost_apply]
  simp only [refMods_apply, refGain_apply, refUp_apply, refDown_apply, Last.refProject_apply]
  rfl

end Post.First

end
-- ==== Proof.Gate.lean ====
module

public import proofs.«01_k».proof.Proof.Softmax

@[expose] public section

/-! The forget gates of the last mixer: the kernel's form, from the sigmoid of the absolute value, and the reference's,
    from sums taken in logarithms, are the same numbers. -/

noncomputable section

namespace Odd

open Idealize.ShloMosaic

/-- The exponential of minus the absolute value. -/
def decay (x : EReal) : EReal := Ideal.exp (0 - max x (-x))

/-- The sigmoid, from the exponential of minus the absolute value. -/
def sigmoid (x : EReal) : EReal :=
  if 0 ≤ x then Ideal.div 1 (1 + decay x) else decay x * Ideal.div 1 (1 + decay x)

/-- The sigmoid of the negated entry, from the same numbers. -/
def sigmoidNeg (x : EReal) : EReal :=
  if 0 ≤ x then decay x * Ideal.div 1 (1 + decay x) else Ideal.div 1 (1 + decay x)

/-- The logarithm of a sum of exponentials, from the larger exponent. -/
def logAddExp (a b : EReal) : EReal := max a b + Ideal.log1p (Ideal.exp (-(max (a - b) (-(a - b)))))

/-- The logarithm of the sigmoid. -/
def logSig (x : EReal) : EReal := -logAddExp (-x) 0

/-- The logarithm of a gate with lower bound `b`. -/
def logGate (b x : EReal) : EReal := logAddExp (Ideal.log b) (Ideal.log1p (-b) + logSig x)

/-- The logarithm of a positive real number. -/
theorem log_coe {r : ℝ} (h : 0 < r) : Ideal.log (r : EReal) = (Real.log r : ℝ) := by
  show (if r ≤ 0 then (⊥ : EReal) else (Real.log r : EReal)) = _
  rw [if_neg (not_le.2 h)]

/-- The logarithm of one plus a real number. -/
theorem log1p_coe {r : ℝ} (h : 0 < 1 + r) : Ideal.log1p (r : EReal) = (Real.log (1 + r) : ℝ) := by
  unfold Ideal.log1p
  rw [← EReal.coe_one, ← EReal.coe_add, log_coe h]

/-- The exponential of a real number. -/
theorem exp_coe (r : ℝ) : Ideal.exp (r : EReal) = (Real.exp r : ℝ) := rfl

/-- A quotient of real numbers. -/
theorem div_coe (a : ℝ) {b : ℝ} (h : b ≠ 0) : Ideal.div (a : EReal) (b : EReal) = ((a / b : ℝ) : EReal) := by
  unfold Ideal.div
  rw [if_neg (by exact_mod_cast h), ← EReal.coe_inv, ← EReal.coe_mul, div_eq_mul_inv]

/-- The larger of two real numbers. -/
theorem max_coe (a b : ℝ) : max (a : EReal) (b : EReal) = ((max a b : ℝ) : EReal) :=
  (EReal.coe_strictMono.monotone.map_max).symm

/-- The logarithm of a sum of exponentials of real numbers. -/
theorem logAddExp_coe (a b : ℝ) : logAddExp a b = ((Real.log (Real.exp a + Real.exp b) : ℝ) : EReal) := by
  unfold logAddExp
  rw [← EReal.coe_sub, ← EReal.coe_neg, max_coe, max_coe, ← EReal.coe_neg, exp_coe,
    log1p_coe (by positivity), ← EReal.coe_add, EReal.coe_eq_coe_iff]
  have key : ∀ u v : ℝ, v ≤ u → u + Real.log (1 + Real.exp (v - u)) = Real.log (Real.exp u + Real.exp v) := by
    intro u v _
    have h : Real.exp u + Real.exp v = Real.exp u * (1 + Real.exp (v - u)) := by
      rw [mul_add, mul_one, ← Real.exp_add]
      congr 2
      ring
    rw [h, Real.log_mul (Real.exp_pos u).ne' (by positivity), Real.log_exp]
  rcases le_total b a with h | h
  · rw [max_eq_left h, max_eq_left (by linarith), neg_sub]
    exact key a b h
  · rw [max_eq_right h, max_eq_right (by linarith), neg_neg, add_comm (Real.exp a)]
    exact key b a h

/-- Nothing is added to a real number's exponential. -/
theorem logAddExp_bot (a : ℝ) : logAddExp a ⊥ = a := by
  unfold logAddExp
  rw [EReal.coe_sub_bot, max_eq_left bot_le, max_eq_left le_top, EReal.neg_top]
  show (a : EReal) + Ideal.log1p 0 = a
  rw [← EReal.coe_zero, log1p_coe (by norm_num)]
  simp

/-- The logarithm of a real number's sigmoid. -/
theorem logSig_coe (r : ℝ) : logSig r = ((-Real.log (1 + Real.exp (-r)) : ℝ) : EReal) := by
  unfold logSig
  rw [← EReal.coe_neg, ← EReal.coe_zero, logAddExp_coe, Real.exp_zero, add_comm (Real.exp _), EReal.coe_neg]

/-- The logarithm of the sigmoid at plus infinity. -/
theorem logSig_top : logSig ⊤ = 0 := by
  unfold logSig logAddExp
  rw [EReal.neg_top, max_eq_right bot_le, sub_zero, EReal.neg_bot, max_eq_right bot_le, EReal.neg_top]
  show -(0 + Ideal.log1p 0) = (0 : EReal)
  rw [← EReal.coe_zero, log1p_coe (by norm_num)]
  simp

/-- The logarithm of the sigmoid at minus infinity. -/
theorem logSig_bot : logSig ⊥ = ⊥ := by
  unfold logSig logAddExp
  rw [EReal.neg_bot, max_eq_left le_top, sub_zero, EReal.neg_top, max_eq_left bot_le, EReal.neg_top]
  show -(⊤ + Ideal.log1p 0) = (⊥ : EReal)
  rw [← EReal.coe_zero, log1p_coe (by norm_num)]
  simp

/-- The kernel's sigmoids of a real number. -/
theorem sigmoid_coe (r : ℝ) : sigmoid r = (((1 + Real.exp (-r))⁻¹ : ℝ) : EReal)
    ∧ sigmoidNeg r = ((1 - (1 + Real.exp (-r))⁻¹ : ℝ) : EReal) := by
  have e1 : 1 + Real.exp r ≠ 0 := by positivity
  have e2 : 1 + Real.exp (-r) ≠ 0 := by positivity
  have hr : Real.exp (-r) * Real.exp r = 1 := by rw [← Real.exp_add]; simp
  unfold sigmoid sigmoidNeg decay
  rw [zero_sub, ← EReal.coe_neg, max_coe, ← EReal.coe_neg, exp_coe, ← EReal.coe_one, ← EReal.coe_add,
    div_coe _ (by positivity), ← EReal.coe_mul, ← EReal.coe_zero]
  by_cases h : 0 ≤ r
  · rw [if_pos (by exact_mod_cast h), if_pos (by exact_mod_cast h), max_eq_left (by linarith)]
    refine ⟨?_, ?_⟩ <;> rw [EReal.coe_eq_coe_iff] <;> field_simp <;> ring
  · rw [if_neg (by exact_mod_cast h), if_neg (by exact_mod_cast h), max_eq_right (by linarith), neg_neg]
    refine ⟨?_, ?_⟩ <;> rw [EReal.coe_eq_coe_iff] <;> field_simp <;> nlinarith

/-- The kernel's sigmoids at plus infinity. -/
theorem sigmoid_top : sigmoid ⊤ = 1 ∧ sigmoidNeg ⊤ = 0 := by
  have d : decay ⊤ = 0 := by
    unfold decay
    rw [max_eq_left le_top, zero_sub, EReal.neg_top]
    rfl
  unfold sigmoid sigmoidNeg
  rw [d, if_pos le_top, if_pos le_top, add_zero, ← EReal.coe_one, div_coe _ one_ne_zero]
  simp

/-- The kernel's sigmoids at minus infinity. -/
theorem sigmoid_bot : sigmoid ⊥ = 0 ∧ sigmoidNeg ⊥ = 1 := by
  have d : decay ⊥ = 0 := by
    unfold decay
    rw [EReal.neg_bot, max_eq_right bot_le, zero_sub, EReal.neg_top]
    rfl
  unfold sigmoid sigmoidNeg
  rw [d, if_neg (by simp), if_neg (by simp), add_zero, ← EReal.coe_one, div_coe _ one_ne_zero]
  simp

/-- The reference's gate is the kernel's, and the part kept out of it is the kernel's key, for a lower bound strictly
    between nought and one. -/
theorem gate_eq {b : ℝ} (h0 : 0 < b) (h1 : b < 1) (x : EReal) :
    logGate b x = Ideal.log (b + (1 - b) * sigmoid x) ∧ -Ideal.expm1 (logGate b x) = (1 - b) * sigmoidNeg x := by
  have hb : Ideal.log1p (-(b : EReal)) = (Real.log (1 - b) : ℝ) := by
    rw [← EReal.coe_neg, log1p_coe (by linarith), ← sub_eq_add_neg]
  unfold logGate Ideal.expm1
  rw [log_coe h0, hb]
  induction x using EReal.rec with
  | bot =>
    rw [logSig_bot, sigmoid_bot.1, sigmoid_bot.2, EReal.add_bot, logAddExp_bot, exp_coe, Real.exp_log h0, mul_zero, add_zero,
      mul_one, log_coe h0]
    refine ⟨rfl, ?_⟩
    rw [← EReal.coe_one, ← EReal.coe_sub, ← EReal.coe_neg, ← EReal.coe_sub, neg_sub]
  | top =>
    rw [logSig_top, sigmoid_top.1, sigmoid_top.2, add_zero, logAddExp_coe, Real.exp_log h0, Real.exp_log (by linarith), mul_zero,
      mul_one, ← EReal.coe_one, ← EReal.coe_sub, ← EReal.coe_add, add_sub_cancel, log_coe one_pos, exp_coe, Real.log_one,
      Real.exp_zero]
    refine ⟨rfl, ?_⟩
    rw [← EReal.coe_sub, sub_self]
    simp
  | coe r =>
    have hs : 0 < (1 + Real.exp (-r))⁻¹ := by positivity
    have hp : 0 < b + (1 - b) * (1 + Real.exp (-r))⁻¹ := by
      have := mul_pos (sub_pos.2 h1) hs
      linarith
    have e : Real.exp (Real.log b) + Real.exp (Real.log (1 - b) + -Real.log (1 + Real.exp (-r)))
        = b + (1 - b) * (1 + Real.exp (-r))⁻¹ := by
      rw [Real.exp_add, Real.exp_log h0, Real.exp_log (by linarith), Real.exp_neg, Real.exp_log (by positivity)]
    rw [logSig_coe, (sigmoid_coe r).1, (sigmoid_coe r).2, ← EReal.coe_add, logAddExp_coe, e, exp_coe, Real.exp_log hp,
      ← EReal.coe_one, ← EReal.coe_sub, ← EReal.coe_mul, ← EReal.coe_mul, ← EReal.coe_add, log_coe hp]
    refine ⟨rfl, ?_⟩
    rw [← EReal.coe_sub, ← EReal.coe_neg, EReal.coe_eq_coe_iff]
    ring

end Odd

end
-- ==== Proof.OddHost.lean ====
module

public import proofs.«01_k».proof.Proof.Gen.Reference4Ideal.Run
public import proofs.«01_k».proof.Proof.LastEquation
public import proofs.«01_k».proof.Proof.Gate

@[expose] public section

/-! The reference's operations before the last mixer, each on whole arrays, and what they are at an entry. -/

set_option maxRecDepth 16384

noncomputable section

namespace Odd

open Cert.Reference4Ideal Cert.Reference4Ideal.Gen Idealize.ShloMosaic Idealize.ShloMosaic.TcCoe
  Idealize.ShloMosaic.StableHlo Post

/-- The stream normalised and modulated for the mixer. -/
def refNormed (X : Vec Ideal S8x4096x1024 .f32) (M : Vec Ideal S2x16x6144 .f32) (N : Vec Ideal S2x1024 .f32) :
    Vec Ideal S8x4096x1024 .f32 :=
  hostModulated (extractStridedSlice S8x1x1024 ![0, 0, 0] (Last.refMods M) slices_S8x1x6144_S8x1x1024_0_0_0)
    (extractStridedSlice S8x1x1024 ![0, 0, 1024] (Last.refMods M) slices_S8x1x6144_S8x1x1024_0_0_1024) X
    (Last.refGain N)

/-- The stream through the input projection. -/
def refProduct (X : Vec Ideal S8x4096x1024 .f32) (M : Vec Ideal S2x16x6144 .f32) (N : Vec Ideal S2x1024 .f32)
    (W : Vec Ideal S1x1024x5120 .f32) : Vec Ideal S8x4096x5120 .f32 :=
  Host.dotGeneral (F := Ideal) (φ₁ := .f32) (φ₂ := .f32) dot_S8x4096x1024_S1024x5120_S8x4096x5120_2_0_01_1_n_n none
    (refNormed X M N : FVec Ideal S8x4096x1024 .f32)
    (shapeCast S1024x5120 W shapeCasts_S1x1024x5120_S1024x5120 : FVec Ideal S1024x5120 .f32)

/-- An array times its sigmoid. -/
def refSilu (a : Vec Ideal S8x4096x1024 .f32) : Vec Ideal S8x4096x1024 .f32 :=
  mulf (F := Ideal) a (Host.divf (broadcastInDim S8x4096x1024 ![] bcast_S_S8x4096x1024 (constant S_ .f32 0x3F800000#32))
    (addf (broadcastInDim S8x4096x1024 ![] bcast_S_S8x4096x1024 (constant S_ .f32 0x3F800000#32))
      (Host.exp (Host.negf a))))

/-- The logarithm of one plus the exponential. -/
def refSoftplus (y : Vec Ideal S8x4096x1024 .f32) : Vec Ideal S8x4096x1024 .f32 :=
  let z := broadcastInDim S8x4096x1024 ![] bcast_S_S8x4096x1024 (constant (F := Ideal) S_ .f32 0x00000000#32)
  select (cmpf (F := Ideal) (φ := .f32) .une (subf (F := Ideal) (φ := .f32) y z) (subf (F := Ideal) (φ := .f32) y z))
    (addf (F := Ideal) (φ := .f32) y z)
    (addf (F := Ideal) (φ := .f32) (maximumf (F := Ideal) (φ := .f32) y z)
      (Host.log1p (Host.exp (Host.negf (Host.absf (subf (F := Ideal) (φ := .f32) y z))))))

/-- A vector on every row. -/
def refRows (b : Vec Ideal S1024 .f32) : Vec Ideal S8x4096x1024 .f32 :=
  broadcastInDim S8x4096x1024 ![0, 1, 2] bcast_S1x1x1024_S8x4096x1024_0_1_2
    (broadcastInDim S1x1x1024 ![2] bcast_S1024_S1x1x1024_2 b)

/-- The logarithm of a sum of exponentials. -/
def refLogAddExp (a b : Vec Ideal S8x4096x1024 .f32) : Vec Ideal S8x4096x1024 .f32 :=
  select (cmpf (F := Ideal) (φ := .f32) .une (subf (F := Ideal) (φ := .f32) a b) (subf (F := Ideal) (φ := .f32) a b))
    (addf (F := Ideal) (φ := .f32) a b)
    (addf (F := Ideal) (φ := .f32) (maximumf (F := Ideal) (φ := .f32) a b)
      (Host.log1p (Host.exp (Host.negf (Host.absf (subf (F := Ideal) (φ := .f32) a b))))))

/-- The logarithms of the gates with lower bounds `b`. -/
def refLogGate (b : Vec Ideal S1024 .f32) (f : Vec Ideal S8x4096x1024 .f32) : Vec Ideal S8x4096x1024 .f32 :=
  refLogAddExp (refRows (Host.log (F := Ideal) (φ := .f32) b))
    (addf (F := Ideal) (φ := .f32) (refRows (Host.log1p (F := Ideal) (φ := .f32) (Host.negf (F := Ideal) (φ := .f32) b)))
      (Host.negf (F := Ideal) (φ := .f32) (refSoftplus (Host.negf (F := Ideal) (φ := .f32) f))))

/-- The keys. -/
def refKey (b : Vec Ideal S1024 .f32) (f : Vec Ideal S8x4096x1024 .f32) : Vec Ideal S8x4096x1024 .f32 :=
  Host.negf (F := Ideal) (φ := .f32) (Host.expm1 (F := Ideal) (φ := .f32) (refLogGate b f))

/-- The gates as logarithms in base two. -/
def refGate (b : Vec Ideal S1024 .f32) (f : Vec Ideal S8x4096x1024 .f32) : Vec Ideal S8x4096x1024 .f32 :=
  Host.divf (F := Ideal) (φ := .f32) (refLogGate b f)
    (broadcastInDim S8x4096x1024 ![] bcast_S_S8x4096x1024 (Host.log (constant S_ .f32 0x40000000#32)))

/-- The larger of two entries, on both. -/
def refMax (B : Vec Ideal S2x2x1024 .f32) : Vec Ideal S2x2x1024 .f32 :=
  broadcastInDim S2x2x1024 ![0, 1, 2] bcast_S2x1x1024_S2x2x1024_0_1_2
    (broadcastInDim S2x1x1024 ![0, 2] bcast_S2x1024_S2x1x1024_0_2
      (maximumf (F := Ideal) (φ := .f32) (broadcastInDim S2x1024 ![] bcast_S_S2x1024 (constant S_ .f32 0xFF800000#32))
        (Host.reduce (FloatOps.maximumf (F := Ideal) (φ := .f32)) B (constant (F := Ideal) S_ .f32 0xFF800000#32)
          reducesTo_S2x2x1024_S2x1024_d1 h_S_)))

/-- The two entries' shares of their exponentials. -/
def refShares (B : Vec Ideal S2x2x1024 .f32) : Vec Ideal S2x2x1024 .f32 :=
  Host.divf (F := Ideal) (φ := .f32) (Host.exp (subf (F := Ideal) (φ := .f32) B (refMax B)))
    (broadcastInDim S2x2x1024 ![0, 1, 2] bcast_S2x1x1024_S2x2x1024_0_1_2
      (broadcastInDim S2x1x1024 ![0, 2] bcast_S2x1024_S2x1x1024_0_2
        (Host.reduceAdd (Host.exp (subf (F := Ideal) (φ := .f32) B (refMax B))) (constant S_ .f32 0x00000000#32)
          reducesTo_S2x2x1024_S2x1024_d1 h_S_)))

/-- Sums of the entries up to each. -/
def refCum (p : Vec Ideal S2x2x1024 .f32) : Vec Ideal S2x2x1024 .f32 :=
  Host.reduceWindowAdd (F := Ideal) (φ := .f32) ![1, 2, 1] ![1, 1, 1] ![0, 1, 0] ![0, 0, 0] p
    (broadcastInDim S_ ![] bcast_S_S_ (constant S_ .f32 0x00000000#32))
    reduceWindows_S2x2x1024_S2x2x1024_w1s1p0_0_w2s1p1_0_w1s1p0_0 h_S_

/-- The lower bounds of both directions. -/
def refBounds (p : Vec Ideal S2x2x1024 .f32) : Vec Ideal S2x1024 .f32 :=
  subf (F := Ideal) (φ := .f32)
    (shapeCast S2x1024 (extractStridedSlice S2x1x1024 ![0, 1, 0] (refCum p) slices_S2x2x1024_S2x1x1024_0_1_0)
      shapeCasts_S2x1x1024_S2x1024)
    (shapeCast S2x1024 (extractStridedSlice S2x1x1024 ![0, 0, 0] (refCum p) slices_S2x2x1024_S2x1x1024_0_0_0)
      shapeCasts_S2x1x1024_S2x1024)

/-- One direction's lower bounds. -/
def refBound (o : Nat) (h : S2x1024.Slices ![o, 0] S1x1024) (B : Vec Ideal S2x2x1024 .f32) : Vec Ideal S1024 .f32 :=
  shapeCast S1024 (extractStridedSlice S1x1024 ![o, 0] (refBounds (refShares B)) h) shapeCasts_S1x1024_S1024

/-- An array's entry times its sigmoid. -/
theorem refSilu_apply (a : Vec Ideal S8x4096x1024 .f32) (b : Fin 8) (t : Fin 4096) (d : Fin 1024) :
    refSilu a (ix3 b t d) = Ideal.div (a (ix3 b t d)) (1 + Ideal.exp (0 - a (ix3 b t d))) := by
  rw [← silu_eq]
  unfold refSilu
  pointwise

/-- The logarithm of a sum of exponentials, at an entry. -/
theorem refLogAddExp_apply (a y : Vec Ideal S8x4096x1024 .f32) (b : Fin 8) (t : Fin 4096) (d : Fin 1024) :
    refLogAddExp a y (ix3 b t d) = logAddExp (a (ix3 b t d)) (y (ix3 b t d)) := by
  unfold refLogAddExp logAddExp
  pointwise
  exact if_neg fun h => h rfl

/-- The logarithm of one plus the exponential, at an entry. -/
theorem refSoftplus_apply (y : Vec Ideal S8x4096x1024 .f32) (b : Fin 8) (t : Fin 4096) (d : Fin 1024) :
    refSoftplus y (ix3 b t d) = logAddExp (y (ix3 b t d)) 0 := by
  refine (refLogAddExp_apply y _ b t d).trans (congrArg (logAddExp _) ?_)
  pointwise

/-- The logarithm of a gate. -/
theorem refLogGate_apply (v : Vec Ideal S1024 .f32) (f : Vec Ideal S8x4096x1024 .f32) (b : Fin 8) (t : Fin 4096)
    (d : Fin 1024) : refLogGate v f (ix3 b t d) = logGate (v (ix1 d)) (f (ix3 b t d)) := by
  unfold refLogGate logGate logSig refRows
  rw [refLogAddExp_apply]
  pointwise
  rw [refSoftplus_apply]
  rfl

/-- A key. -/
theorem refKey_apply (v : Vec Ideal S1024 .f32) (f : Vec Ideal S8x4096x1024 .f32) (b : Fin 8) (t : Fin 4096)
    (d : Fin 1024) : refKey v f (ix3 b t d) = -Ideal.expm1 (logGate (v (ix1 d)) (f (ix3 b t d))) := by
  rw [← refLogGate_apply]
  rfl

/-- A gate as a logarithm in base two. -/
theorem refGate_apply (v : Vec Ideal S1024 .f32) (f : Vec Ideal S8x4096x1024 .f32) (b : Fin 8) (t : Fin 4096)
    (d : Fin 1024) : refGate v f (ix3 b t d)
      = logGate (v (ix1 d)) (f (ix3 b t d)) * (((Real.log 2)⁻¹ : ℝ) : EReal) := by
  have e : refGate v f (ix3 b t d)
      = Ideal.div (refLogGate v f (ix3 b t d)) (Ideal.log (Ideal.ofBits .f32 0x40000000#32)) := by
    unfold refGate
    pointwise
  have h2 : Ideal.ofBits .f32 0x40000000#32 = ((2 : ℝ) : EReal) := by
    simp [Ideal.ofBits, Ideal.ieee]
    rw [← EReal.coe_mul]
    norm_num
  have h0 : ((Real.log 2 : ℝ) : EReal) ≠ 0 := EReal.coe_ne_zero.2 (Real.log_pos one_lt_two).ne'
  rw [e, refLogGate_apply, h2, log_coe two_pos, Ideal.div, if_neg h0, EReal.coe_inv]

/-- A share of two exponentials, from the larger entry. -/
theorem refShares_apply (x : Vec Ideal S2x2x1024 .f32) (o i : Fin 2) (d : Fin 1024) :
    refShares x (ix3 o i d) = Ideal.div
      (Ideal.exp (x (ix3 o i d) - max (Ideal.ofBits .f32 0xFF800000#32)
        (Finset.univ.fold max (Ideal.ofBits .f32 0xFF800000#32) fun i => x (ix3 o i d))))
      (∑ i, Ideal.exp (x (ix3 o i d) - max (Ideal.ofBits .f32 0xFF800000#32)
        (Finset.univ.fold max (Ideal.ofBits .f32 0xFF800000#32) fun i => x (ix3 o i d)))) := by
  unfold refShares refMax
  pointwise

/-- The window of the sums. -/
abbrev sumWindow : Shape := ⟨3, ![1, 2, 1]⟩

/-- The window's positions. -/
theorem sumWindow_pos : ∀ n : Fin sumWindow.numel, (sumWindow.rowMajor.symm n (0 : Fin 3)).val = 0
    ∧ (sumWindow.rowMajor.symm n (1 : Fin 3)).val = n.val ∧ (sumWindow.rowMajor.symm n (2 : Fin 3)).val = 0 := by
  decide

/-- What a position of the window adds to a sum: an entry, or nought before the first one. -/
def sumTerm (x : S2x2x1024.Idx → EReal) (j : S2x2x1024.Idx) (n : Fin sumWindow.numel) : EReal :=
  let p : Fin 3 → Nat := fun a => (j a).val * (![1, 1, 1] : Fin 3 → Nat) a + (sumWindow.rowMajor.symm n a).val
  if h : ∀ a : Fin 3, (![0, 1, 0] : Fin 3 → Nat) a ≤ p a ∧ p a - (![0, 1, 0] : Fin 3 → Nat) a < S2x2x1024.size a then
    x (fun a => ⟨p a - (![0, 1, 0] : Fin 3 → Nat) a, (h a).2⟩) else 0

/-- A position after the first one holds an entry. -/
theorem sumTerm_of_le (x : S2x2x1024.Idx → EReal) (o i k : Fin 2) (d : Fin 1024) (n : Fin sumWindow.numel)
    (h : i.val + n.val = k.val + 1) : sumTerm x (ix3 o i d) n = x (ix3 o k d) := by
  obtain ⟨h0, h1, h2⟩ := sumWindow_pos n
  have e0 : o.val * 1 + (sumWindow.rowMajor.symm n (0 : Fin 3)).val - 0 = o.val := by rw [h0]; omega
  have e1 : i.val * 1 + (sumWindow.rowMajor.symm n (1 : Fin 3)).val - 1 = k.val := by rw [h1]; omega
  have e2 : d.val * 1 + (sumWindow.rowMajor.symm n (2 : Fin 3)).val - 0 = d.val := by rw [h2]; omega
  refine (dif_pos fun a => ?_).trans (congrArg x (funext fun a => Fin.ext ?_))
  · match a with
    | ⟨0, _⟩ => exact ⟨Nat.zero_le _, lt_of_eq_of_lt e0 o.isLt⟩
    | ⟨1, _⟩ => exact ⟨show 1 ≤ i.val * 1 + (sumWindow.rowMajor.symm n (1 : Fin 3)).val by rw [h1]; omega,
        lt_of_eq_of_lt e1 k.isLt⟩
    | ⟨2, _⟩ => exact ⟨Nat.zero_le _, lt_of_eq_of_lt e2 d.isLt⟩
  · match a with
    | ⟨0, _⟩ => exact e0
    | ⟨1, _⟩ => exact e1
    | ⟨2, _⟩ => exact e2

/-- The position before the first one adds nothing. -/
theorem sumTerm_zero (x : S2x2x1024.Idx → EReal) (o : Fin 2) (d : Fin 1024) :
    sumTerm x (ix3 o 0 d) (0 : Fin 2) = 0 := by
  refine dif_neg fun h => absurd (h (1 : Fin 3)).1 ?_
  show ¬ 1 ≤ 0 * 1 + (sumWindow.rowMajor.symm (0 : Fin 2) (1 : Fin 3)).val
  rw [(sumWindow_pos (0 : Fin 2)).2.1]
  decide

/-- A sum is what its window's two positions add. -/
theorem refCum_eq (x : Vec Ideal S2x2x1024 .f32) (j : S2x2x1024.Idx) :
    refCum x j = sumTerm x j (0 : Fin 2) + sumTerm x j (1 : Fin 2) := by
  have e : broadcastInDim S_ ![] bcast_S_S_ (constant (F := Ideal) S_ .f32 0x00000000#32) (Shape.Idx.first h_S_)
      = (0 : EReal) := by
    pointwise
  have : refCum x j = (0 + sumTerm x j (0 : Fin 2)) + sumTerm x j (1 : Fin 2) := by
    unfold refCum Host.reduceWindowAdd
    rw [e, Ideal.hostReduceWindowAdd_def]
    unfold Ideal.hostReduceWindowAdd Host.reduceWindow
    refine Eq.trans (b := (List.finRange sumWindow.numel).foldl (fun r n => r + sumTerm x j n) 0) ?_ (by rfl)
    refine congrArg (fun f => List.foldl f (0 : EReal) (List.finRange sumWindow.numel))
      (funext fun r => funext fun n => congrArg (r + ·) ?_)
    unfold sumTerm
    symm
    split
    · next h => exact dif_pos h
    · next h => exact dif_neg h
  rw [this, zero_add]

/-- The sums up to the first and the second entry. -/
theorem refCum_apply (x : Vec Ideal S2x2x1024 .f32) (o : Fin 2) (d : Fin 1024) :
    refCum x (ix3 o 0 d) = x (ix3 o 0 d) ∧ refCum x (ix3 o 1 d) = x (ix3 o 0 d) + x (ix3 o 1 d) := by
  rw [refCum_eq, refCum_eq, sumTerm_zero, sumTerm_of_le x o 0 0 d (1 : Fin 2) rfl,
    sumTerm_of_le x o 1 0 d (0 : Fin 2) rfl, sumTerm_of_le x o 1 1 d (1 : Fin 2) rfl, zero_add]
  exact ⟨rfl, rfl⟩

/-- A lower bound: the second sum less the first. -/
theorem refBounds_apply (x : Vec Ideal S2x2x1024 .f32) (o : Fin 2) (d : Fin 1024) :
    refBounds x (ix2 o d) = x (ix3 o 0 d) + x (ix3 o 1 d) - x (ix3 o 0 d) := by
  unfold refBounds
  pointwise
  rw [(refCum_apply x o d).1, (refCum_apply x o d).2]

/-- One direction's lower bounds, at an entry. -/
theorem refBound_apply (o : Fin 2) (h : S2x1024.Slices ![o.val, 0] S1x1024) (B : Vec Ideal S2x2x1024 .f32)
    (d : Fin 1024) : refBound o.val h B (ix1 d) = refShares B (ix3 o 0 d) + refShares B (ix3 o 1 d)
      - refShares B (ix3 o 0 d) := by
  rw [← refBounds_apply]
  unfold refBound
  pointwise

/-- An entry of the products. -/
theorem refProduct_apply (X : Vec Ideal S8x4096x1024 .f32) (M : Vec Ideal S2x16x6144 .f32) (N : Vec Ideal S2x1024 .f32)
    (W : Vec Ideal S1x1024x5120 .f32) (b : Fin 8) (t : Fin 4096) (k : Fin 5120) :
    refProduct X M N W (ix3 b t k) = ∑ e, modulated (fun d => M (ix3 1 ⟨b.val, by omega⟩ ⟨d.val, by omega⟩))
      (fun d => M (ix3 1 ⟨b.val, by omega⟩ ⟨1024 + d.val, by omega⟩)) (fun d => N (ix2 1 d)) (fun d => X (ix3 b t d)) e
        * W (ix3 0 e k) := by
  unfold refProduct refNormed
  pointwise
  refine Finset.sum_congr rfl fun e _ => congrArg (· * _) ?_
  rw [hostModulated_apply]
  pointwise
  simp only [Last.refMods_apply, Last.refGain_apply]

end Odd

end
-- ==== Proof.OddBlock.lean ====
module

public import proofs.«01_k».proof.Proof.Block
public import proofs.«01_k».proof.Proof.Gate
public import proofs.«01_k».proof.Proof.Gen.Kernel4Ideal.Frame

@[expose] public section

/-! What a grid point of the kernel before the last mixer leaves in its seven output blocks. -/

set_option maxRecDepth 16384

noncomputable section

namespace Odd

open Cert.Kernel4Ideal Cert.Kernel4Ideal.Gen Idealize.ShloMosaic Idealize.ShloMosaic.StableHlo Post

/-- A row normalised and modulated for the mixer. -/
def normed (m : Fin 6144 → EReal) (g x : Fin 1024 → EReal) : Fin 1024 → EReal :=
  modulated (part m 0 (by norm_num)) (part m 1 (by norm_num)) g x

/-- A product times its sigmoid. -/
def silu (s : EReal) : EReal := Ideal.div s (1 + Ideal.exp (0 - s))

/-- The key: what the gate with lower bound `b` keeps out. -/
def key (b s : EReal) : EReal := (1 - b) * sigmoidNeg s

/-- The gate with lower bound `b`, as a logarithm in base two. -/
def gate (b s : EReal) : EReal := Ideal.log (b + (1 - b) * sigmoid s) * (((Real.log 2)⁻¹ : ℝ) : EReal)

/-- The second entry's share of two exponentials, from the larger entry. -/
def share (x : Fin 2 → EReal) : EReal :=
  ∑ _u : Fin 1, Ideal.div (Ideal.exp (x 1 - Finset.univ.fold max (Ideal.ofBits .f32 0xFF800000#32) x))
    (∑ i, Ideal.exp (x i - Finset.univ.fold max (Ideal.ofBits .f32 0xFF800000#32) x))

/-- The rows of the stream, normalised and modulated. -/
theorem normed_apply (x : Vec Ideal S1x256x1024 .f32) (m : Vec Ideal S1x1x6144 .f32) (g : Vec Ideal S1x1024 .f32)
    (r : Fin 256) (d : Fin 1024) :
    k0_pay3 (F := Ideal) x m g (ix2 r d) = normed (row3 m 0) (fun d => g (ix2 0 d)) (row3 x r) d := by
  have e0 : part (row3 m 0) 0 (by norm_num) d = m (ix3 0 0 ⟨d.val, by omega⟩) :=
    congrArg (fun k => m (ix3 0 0 k)) (Fin.ext (Nat.zero_add _))
  have e1 : part (row3 m 0) 1 (by norm_num) d = m (ix3 0 0 ⟨1024 + d.val, by omega⟩) :=
    rfl
  unfold normed modulated
  rw [e0, e1]
  unfold k0_pay3
  pointwise
  rfl

/-- The product of a row with a column. -/
theorem product_apply (h : FVec Ideal S256x1024 .bf16) (w : Vec Ideal S1024x1024 .bf16) (r : Fin 256) (d : Fin 1024) :
    k0_pay30 (F := Ideal) h w (ix3 0 r d) = ∑ e, h (ix2 r e) * w (ix2 e d) := by
  unfold k0_pay30
  pointwise

/-- The product times its sigmoid. -/
theorem silu_apply (h : FVec Ideal S256x1024 .bf16) (w : Vec Ideal S1024x1024 .bf16) (r : Fin 256) (d : Fin 1024) :
    k0_pay13 (F := Ideal) h w (ix3 0 r d) = silu (∑ e, h (ix2 r e) * w (ix2 e d)) := by
  unfold k0_pay13
  pointwise
  rfl

/-- The key from the product and the lower bound. -/
theorem key_apply (b : FVec Ideal S1x1024 .f32) (h : FVec Ideal S256x1024 .bf16) (w : Vec Ideal S1024x1024 .bf16)
    (r : Fin 256) (d : Fin 1024) :
    k0_pay21 (F := Ideal) b (k0_pay18 h w) (ix3 0 r d) = key (b (ix2 0 d)) (∑ e, h (ix2 r e) * w (ix2 e d)) := by
  unfold k0_pay21 k0_pay18 k0_pay17 k0_pay16 k0_pay15 k0_pay14
  pointwise
  rfl

/-- The gate from the product and the lower bound. -/
theorem gate_apply (b : FVec Ideal S1x1024 .f32) (h : FVec Ideal S256x1024 .bf16) (w : Vec Ideal S1024x1024 .bf16)
    (r : Fin 256) (d : Fin 1024) :
    k0_pay20 (F := Ideal) (k0_pay19 h b w) (ix3 0 r d) = gate (b (ix2 0 d)) (∑ e, h (ix2 r e) * w (ix2 e d)) := by
  unfold k0_pay20 k0_pay19 k0_pay17 k0_pay16 k0_pay15 k0_pay14
  pointwise
  rfl

/-- The lower bound. -/
theorem share_apply (x : Vec Ideal S1x2x1024 .f32) (d : Fin 1024) :
    k0_pay11 (F := Ideal) x (ix2 0 d) = share (fun i => x (ix3 0 i d)) := by
  unfold k0_pay11
  pointwise
  rfl

/-- Two sub-tiles' stores, each of the product of its normalised rows. -/
def tiles {e : EltTy} (S : FVec Ideal S256x1024 .bf16 → Vec Ideal S1x256x1024 e) (x0 : Vec Ideal S1x512x1024 .f32)
    (x1 : Vec Ideal S1x1x6144 .f32) (x2 : Vec Ideal S1x1024 .f32) : Vec Ideal S1x512x1024 e :=
  View.canon [⟨r0_3, S (k0_pay3 (View.ld x0 r0_3) (View.ld x1 r0_1) (View.ld x2 r0_2))⟩,
    ⟨r0_0, S (k0_pay3 (View.ld x0 r0_0) (View.ld x1 r0_1) (View.ld x2 r0_2))⟩]

section Stores

variable (x0 : Vec Ideal S1x512x1024 .f32) (x1 : Vec Ideal S1x1x6144 .f32) (x2 : Vec Ideal S1x1024 .f32)
  (x3 : Vec Ideal S1024x5120 .bf16) (x4 : Vec Ideal S2x2x1024 .f32)

/-- The output blocks as the stores of their two sub-tiles. -/
theorem q_tiles : out0_5 x0 x1 x2 x3 x4 = tiles (fun h => k0_pay13 h (View.ld x3 r0_6)) x0 x1 x2 := rfl

@[inherit_doc q_tiles] theorem kf_tiles : out0_6 x0 x1 x2 x3 x4
    = tiles (fun h => k0_pay21 (k0_pay11 (View.ld x4 r0_4)) (k0_pay18 h (View.ld x3 r0_7))) x0 x1 x2 := rfl

@[inherit_doc q_tiles] theorem kb_tiles : out0_7 x0 x1 x2 x3 x4
    = tiles (fun h => k0_pay21 (k0_pay11 (View.ld x4 r0_5)) (k0_pay18 h (View.ld x3 r0_8))) x0 x1 x2 := rfl

@[inherit_doc q_tiles] theorem gf_tiles : out0_8 x0 x1 x2 x3 x4
    = tiles (fun h => k0_pay20 (k0_pay19 h (k0_pay11 (View.ld x4 r0_4)) (View.ld x3 r0_7))) x0 x1 x2 := rfl

@[inherit_doc q_tiles] theorem gb_tiles : out0_9 x0 x1 x2 x3 x4
    = tiles (fun h => k0_pay20 (k0_pay19 h (k0_pay11 (View.ld x4 r0_5)) (View.ld x3 r0_8))) x0 x1 x2 := rfl

@[inherit_doc q_tiles] theorem v_tiles : out0_10 x0 x1 x2 x3 x4
    = tiles (fun h => k0_pay30 h (View.ld x3 r0_9)) x0 x1 x2 := rfl

@[inherit_doc q_tiles] theorem og_tiles : out0_11 x0 x1 x2 x3 x4
    = tiles (fun h => k0_pay30 h (View.ld x3 r0_10)) x0 x1 x2 := rfl

end Stores

/-- A load of 256 rows of a block of 512, at an entry. -/
theorem ld_half (w : Vec Ideal S1x512x1024 .f32) (o : Nat) (inb) (ho : o + 256 ≤ 512) (r : Fin 256) (d : Fin 1024) :
    View.ld w (Rect.unit ![0, o, 0] ![1, 256, 1024] inb) (ix3 0 r d) = w (ix3 0 ⟨o + r.val, by omega⟩ d) := by
  refine congrArg w (funext fun a => Fin.ext ?_)
  match a with
  | ⟨0, _⟩ => rfl
  | ⟨1, _⟩ => exact congrArg (o + ·) (Nat.one_mul _)
  | ⟨2, _⟩ => exact (Nat.zero_add _).trans (Nat.one_mul _)

/-- A load of 1024 columns of the weights, at an entry. -/
theorem ld_cols (w : Vec Ideal S1024x5120 .bf16) (o : Nat) (inb) (ho : o + 1024 ≤ 5120) (e d : Fin 1024) :
    View.ld w (Rect.unit ![0, o] ![1024, 1024] inb) (ix2 e d) = w (ix2 e ⟨o + d.val, by omega⟩) := by
  refine congrArg w (funext fun a => Fin.ext ?_)
  match a with
  | ⟨0, _⟩ => exact (Nat.zero_add _).trans (Nat.one_mul _)
  | ⟨1, _⟩ => exact congrArg (o + ·) (Nat.one_mul _)

/-- A load of one direction's bounds, at an entry. -/
theorem ld_bounds (w : Vec Ideal S2x2x1024 .f32) (o : Fin 2) (inb) (i : Fin 2) (d : Fin 1024) :
    View.ld w (Rect.unit ![o.val, 0, 0] ![1, 2, 1024] inb) (ix3 0 i d) = w (ix3 o i d) := by
  refine congrArg w (funext fun a => Fin.ext ?_)
  match a with
  | ⟨0, _⟩ => rfl
  | ⟨1, _⟩ => exact (Nat.zero_add _).trans (Nat.one_mul _)
  | ⟨2, _⟩ => exact (Nat.zero_add _).trans (Nat.one_mul _)

/-- One store's entry is the value of its normalised row. -/
theorem piece_apply {e : EltTy} (S : FVec Ideal S256x1024 .bf16 → Vec Ideal S1x256x1024 e)
    (E : (Fin 1024 → EReal) → Fin 1024 → Elt Ideal e)
    (hS : ∀ h r d, S h (ix3 0 r d) = E (fun e => h (ix2 r e)) d) (x0 : Vec Ideal S1x512x1024 .f32)
    (x1 : Vec Ideal S1x1x6144 .f32) (x2 : Vec Ideal S1x1024 .f32) (o : Nat) (inb)
    (j : (Rect.unit (s := S1x512x1024) ![0, o, 0] ![1, 256, 1024] inb).shape.Idx) :
    S (k0_pay3 (View.ld x0 (Rect.unit ![0, o, 0] ![1, 256, 1024] inb)) (View.ld x1 r0_1) (View.ld x2 r0_2)) j
      = (fun i : S1x512x1024.Idx => E (normed (row3 x1 0) (fun d => x2 (ix2 0 d)) (row3 x0 (i 1))) (i 2))
          ((Rect.unit ![0, o, 0] ![1, 256, 1024] inb).emb j) := by
  obtain ⟨r, d, rfl⟩ : ∃ (r : Fin 256) (d : Fin 1024), j = ix3 0 r d :=
    ⟨j 1, j 2, (eq_ix3 j).trans (by rw [Subsingleton.elim (α := Fin 1) (j 0) 0])⟩
  have ho : o + 256 ≤ 512 := inb 1
  have e1 : ((Rect.unit (s := S1x512x1024) ![0, o, 0] ![1, 256, 1024] inb).emb (ix3 0 r d)) 1
      = (⟨o + r.val, by omega⟩ : Fin 512) := Fin.ext (congrArg (o + ·) (Nat.one_mul _))
  have e2 : ((Rect.unit (s := S1x512x1024) ![0, o, 0] ![1, 256, 1024] inb).emb (ix3 0 r d)) 2 = d :=
    Fin.ext ((Nat.zero_add _).trans (Nat.one_mul _))
  have ha := ld_half x0 o inb ho
  dsimp only
  rw [e1, e2]
  generalize View.ld x0 (Rect.unit ![0, o, 0] ![1, 256, 1024] inb) = a at ha ⊢
  rw [ld_all3, ld_all2, hS]
  refine congrArg (fun z => E z d) (funext fun e => ?_)
  rw [normed_apply]
  exact congrArg (fun z => normed _ _ z e) (funext (ha r))

/-- The two sub-tiles' stores fill the block: each entry is the value of its normalised row. -/
theorem tiles_apply {e : EltTy} (S : FVec Ideal S256x1024 .bf16 → Vec Ideal S1x256x1024 e)
    (E : (Fin 1024 → EReal) → Fin 1024 → Elt Ideal e)
    (hS : ∀ h r d, S h (ix3 0 r d) = E (fun e => h (ix2 r e)) d) (x0 : Vec Ideal S1x512x1024 .f32)
    (x1 : Vec Ideal S1x1x6144 .f32) (x2 : Vec Ideal S1x1024 .f32) (r : Fin 512) (d : Fin 1024) :
    tiles S x0 x1 x2 (ix3 0 r d) = E (normed (row3 x1 0) (fun d => x2 (ix2 0 d)) (row3 x0 r)) d := by
  unfold tiles
  refine View.canon_apply_of_pieces
    (fun i : S1x512x1024.Idx => E (normed (row3 x1 0) (fun d => x2 (ix2 0 d)) (row3 x0 (i 1))) (i 2)) _ (fun p hp j => ?_)
    (ix3 0 r d) (View.cover_of_tiled [⟨r0_3, S (k0_pay3 (View.ld x0 r0_3) (View.ld x1 r0_1) (View.ld x2 r0_2))⟩,
      ⟨r0_0, S (k0_pay3 (View.ld x0 r0_0) (View.ld x1 r0_1) (View.ld x2 r0_2))⟩] S1x256x1024.size (by rfl) _)
  simp only [List.mem_cons, List.not_mem_nil, or_false] at hp
  rcases hp with rfl | rfl <;> exact piece_apply S E hS x0 x1 x2 _ _ j

end Odd

end
-- ==== Proof.OddLayer.lean ====
module

public import proofs.«01_k».proof.Proof.Gen.Kernel4Ideal.Value
public import proofs.«01_k».proof.Proof.OddBlock

@[expose] public section

/-! What the kernel before the last layer's mixer leaves: the queries, keys, gates, values and output gates of every
    row. -/

set_option maxRecDepth 16384

noncomputable section

namespace Odd

open Cert.Kernel4Ideal Cert.Kernel4Ideal.Gen Cert.Kernel4Ideal.Value Idealize.ShloMosaic Idealize.ShloMosaic.TcCoe
  Idealize.ShloMosaic.StableHlo Post

variable (m : (ℓ : Loc nD τ sig) → Buf (Elt Ideal) ℓ)

/-- The stream before the layer. -/
abbrev argX (c : Dev nD) : Vec Ideal S8x4096x1024 .f32 := m ((c : Thread nD τ).loc main_arg0)
/-- The modulation's rows by layer. -/
abbrev argM (c : Dev nD) : Vec Ideal S2x16x6144 .f32 := m ((c : Thread nD τ).loc main_arg1)
/-- The gain before the mixer. -/
abbrev argN (c : Dev nD) : Vec Ideal S2x1024 .f32 := m ((c : Thread nD τ).loc main_arg2)
/-- The input projection. -/
abbrev argW (c : Dev nD) : Vec Ideal S1x1024x5120 .f32 := m ((c : Thread nD τ).loc main_arg3)
/-- The numbers the gates' lower bounds are made of. -/
abbrev argB (c : Dev nD) : Vec Ideal S2x2x1024 .f32 := m ((c : Thread nD τ).loc main_arg4)

/-- The arrays the kernel's windows read, as the host leaves them. -/
abbrev hostM (c : Dev nD) : Vec Ideal S32x1x6144 .f32 := V m c main_v0
abbrev hostN (c : Dev nD) : Vec Ideal S1x1024 .f32 := V m c main_v5
abbrev hostW (c : Dev nD) : Vec Ideal S1024x5120 .bf16 := V m c main_v2

/-- The modulation's rows, the layers' one after the other. -/
theorem hostM_apply (c : Dev nD) (b : Fin 8) (k : Fin 6144) :
    hostM m c (ix3 ⟨16 + b.val, by omega⟩ 0 k) = argM m c (ix3 1 ⟨b.val, by omega⟩ k) := by
  have e : hostM m c = shapeCast S32x1x6144 (argM m c) shapeCasts_S2x16x6144_S32x1x6144 := by
    unfold hostM V
    after_results <;> rfl
  rw [e]
  pointwise
  exact congrArg₂ (fun i j => argM m c (ix3 i j k)) (Fin.ext (by show (16 + b.val) / 16 = 1; omega))
    (Fin.ext (by show (16 + b.val) % 16 = b.val; omega))

/-- The input projection. -/
theorem hostW_apply (c : Dev nD) (e : Fin 1024) (d : Fin 5120) : hostW m c (ix2 e d) = argW m c (ix3 0 e d) := by
  have e : hostW m c = truncf (F := Ideal) .bf16
      (shapeCast S1024x5120 (argW m c) shapeCasts_S1x1024x5120_S1024x5120) bitsLt_bf16_f32 := by
    unfold hostW V
    after_results <;> rfl
  rw [e]
  pointwise

/-- The last layer's gain. -/
theorem hostN_apply (c : Dev nD) (d : Fin 1024) : hostN m c (ix2 0 d) = argN m c (ix2 1 d) := by
  have e : hostN m c = shapeCast S1x1024 (shapeCast S1024 (extractStridedSlice S1x1024 ![1, 0] (argN m c)
      slices_S2x1024_S1x1024_1_0) shapeCasts_S1x1024_S1024) shapeCasts_S1024_S1x1024 := by
    unfold hostN V
    after_results <;> rfl
  rw [e]
  pointwise

/-- A point's batch. -/
def batch (t : Fin cfg0.N) : Fin 8 := ⟨t.val / 8, by
  have h : t.val < 64 := lt_of_lt_of_eq t.isLt N_0
  omega⟩

/-- A row of a point's tile. -/
def tileRow (t : Fin cfg0.N) (r : Fin 512) : Fin 4096 := ⟨512 * (t.val % 8) + r.val, by omega⟩

/-- The block indices of the input windows, decided over the grid. -/
theorem in_index : ∀ t : Fin cfg0.N,
    (win0_0.index t (0 : Fin 3) = t.val / 8 ∧ win0_0.index t (1 : Fin 3) = t.val % 8 ∧ win0_0.index t (2 : Fin 3) = 0)
    ∧ (win0_1.index t (0 : Fin 3) = 16 + t.val / 8 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0) :=
  (by decide +kernel : ∀ t : Fin grid0.N, _)

/-- A row of a point's block of the stream. -/
theorem iblk_x (c : Dev nD) (t : Fin cfg0.N) (r : Fin 512) (d : Fin 1024) :
    (iblk m c 0 t : Vec Ideal S1x512x1024 .f32) (ix3 0 r d) = argX m c (ix3 (batch t) (tileRow t r) d) := by
  obtain ⟨⟨h0, h1, h2⟩, -⟩ := in_index t
  refine (congrArg (V m c main_arg0 : Vec Ideal S8x4096x1024 .f32) (funext fun a => Fin.ext ?_)).trans
    (congrFun (V_main_arg0 m c) _)
  match a with
  | ⟨0, _⟩ => show win0_0.index t (0 : Fin 3) * 1 + 1 * 0 = t.val / 8; rw [h0]; omega
  | ⟨1, _⟩ => show win0_0.index t (1 : Fin 3) * 512 + 1 * r.val = 512 * (t.val % 8) + r.val; rw [h1]; omega
  | ⟨2, _⟩ => show win0_0.index t (2 : Fin 3) * 1024 + 1 * d.val = d.val; rw [h2]; omega

/-- A point's modulation row: its batch's row of the last layer. -/
theorem iblk_m (c : Dev nD) (t : Fin cfg0.N) (k : Fin 6144) :
    (iblk m c 1 t : Vec Ideal S1x1x6144 .f32) (ix3 0 0 k)
      = argM m c (ix3 1 ⟨(batch t).val, by have h := (batch t).isLt; omega⟩ k) := by
  obtain ⟨-, ⟨h0, h1, h2⟩, -⟩ := in_index t
  refine (congrArg (hostM m c) (funext fun a => Fin.ext ?_)).trans (hostM_apply m c (batch t) k)
  match a with
  | ⟨0, _⟩ => show win0_1.index t (0 : Fin 3) * 1 + 1 * 0 = 16 + t.val / 8; rw [h0]; omega
  | ⟨1, _⟩ => show win0_1.index t (1 : Fin 3) * 1 + 1 * 0 = 0; rw [h1]
  | ⟨2, _⟩ => show win0_1.index t (2 : Fin 3) * 6144 + 1 * k.val = k.val; rw [h2]; omega

/-- The gain's block. -/
theorem iblk_n (c : Dev nD) (t : Fin cfg0.N) (d : Fin 1024) :
    (iblk m c 2 t : Vec Ideal S1x1024 .f32) (ix2 0 d) = argN m c (ix2 1 d) := by
  obtain ⟨-, -, ⟨h0, h1⟩, -⟩ := in_index t
  refine (congrArg (hostN m c) (funext fun a => Fin.ext ?_)).trans (hostN_apply m c d)
  match a with
  | ⟨0, _⟩ => show win0_2.index t (0 : Fin 2) * 1 + 1 * 0 = 0; rw [h0]
  | ⟨1, _⟩ => show win0_2.index t (1 : Fin 2) * 1024 + 1 * d.val = d.val; rw [h1]; omega

/-- The input projection's block. -/
theorem iblk_w (c : Dev nD) (t : Fin cfg0.N) (e : Fin 1024) (d : Fin 5120) :
    (iblk m c 3 t : Vec Ideal S1024x5120 .bf16) (ix2 e d) = argW m c (ix3 0 e d) := by
  obtain ⟨-, -, -, ⟨h0, h1⟩, -⟩ := in_index t
  refine (congrArg (hostW m c) (funext fun a => Fin.ext ?_)).trans (hostW_apply m c e d)
  match a with
  | ⟨0, _⟩ => show win0_3.index t (0 : Fin 2) * 1024 + 1 * e.val = e.val; rw [h0]; omega
  | ⟨1, _⟩ => show win0_3.index t (1 : Fin 2) * 5120 + 1 * d.val = d.val; rw [h1]; omega

/-- The block of the bounds' numbers. -/
theorem iblk_b (c : Dev nD) (t : Fin cfg0.N) (o i : Fin 2) (d : Fin 1024) :
    (iblk m c 4 t : Vec Ideal S2x2x1024 .f32) (ix3 o i d) = argB m c (ix3 o i d) := by
  obtain ⟨-, -, -, -, h0, h1, h2⟩ := in_index t
  refine (congrArg (V m c main_arg4 : Vec Ideal S2x2x1024 .f32) (funext fun a => Fin.ext ?_)).trans
    (congrFun (V_main_arg4 m c) _)
  match a with
  | ⟨0, _⟩ => show win0_4.index t (0 : Fin 3) * 2 + 1 * o.val = o.val; rw [h0]; omega
  | ⟨1, _⟩ => show win0_4.index t (1 : Fin 3) * 2 + 1 * i.val = i.val; rw [h1]; omega
  | ⟨2, _⟩ => show win0_4.index t (2 : Fin 3) * 1024 + 1 * d.val = d.val; rw [h2]; omega

/-- A row of the stream through the input projection, at a column. -/
def product (c : Dev nD) (b : Fin 8) (t : Fin 4096) (k : Fin 5120) : EReal :=
  ∑ e : Fin 1024, normed (fun k => argM m c (ix3 1 ⟨b.val, by omega⟩ k)) (fun d => argN m c (ix2 1 d))
    (fun d => argX m c (ix3 b t d)) e * argW m c (ix3 0 e k)

/-- The lower bound of a direction's gates. -/
def bound (c : Dev nD) (o : Fin 2) (d : Fin 1024) : EReal := share fun i => argB m c (ix3 o i d)

/-- The array of a function of the products with 1024 columns from column `o` on. -/
def entries (e : EltTy) (c : Dev nD) (o : Nat) (ho : o + 1024 ≤ 5120) (f : Fin 1024 → EReal → Elt Ideal e) :
    Vec Ideal S8x4096x1024 e := fun i =>
  f (i 2) (product m c (i 0) (i 1) ⟨o + (i 2).val, lt_of_lt_of_le (Nat.add_lt_add_left (i 2).isLt o) ho⟩)

/-- The queries. -/
def resQ (c : Dev nD) : Vec Ideal S8x4096x1024 .bf16 := entries m .bf16 c 0 (by norm_num) fun _ s => silu s
/-- The keys of a direction. -/
def resK (c : Dev nD) (o : Nat) (ho : o + 1024 ≤ 5120) (dir : Fin 2) : Vec Ideal S8x4096x1024 .bf16 :=
  entries m .bf16 c o ho fun d s => key (bound m c dir d) s
/-- The gates of a direction. -/
def resG (c : Dev nD) (o : Nat) (ho : o + 1024 ≤ 5120) (dir : Fin 2) : Vec Ideal S8x4096x1024 .f32 :=
  entries m .f32 c o ho fun d s => gate (bound m c dir d) s
/-- The values and the output gates. -/
def resV (c : Dev nD) (o : Nat) (ho : o + 1024 ≤ 5120) : Vec Ideal S8x4096x1024 .bf16 :=
  entries m .bf16 c o ho fun _ s => s

/-- What a point's input blocks hold. -/
structure Holds (c : Dev nD) (t : Fin cfg0.N) (x0 : Vec Ideal S1x512x1024 .f32) (x1 : Vec Ideal S1x1x6144 .f32)
    (x2 : Vec Ideal S1x1024 .f32) (x3 : Vec Ideal S1024x5120 .bf16) (x4 : Vec Ideal S2x2x1024 .f32) : Prop where
  x : ∀ r d, x0 (ix3 0 r d) = argX m c (ix3 (batch t) (tileRow t r) d)
  mods : ∀ k, x1 (ix3 0 0 k) = argM m c (ix3 1 ⟨(batch t).val, by have h := (batch t).isLt; omega⟩ k)
  gain : ∀ d, x2 (ix2 0 d) = argN m c (ix2 1 d)
  w : ∀ e d, x3 (ix2 e d) = argW m c (ix3 0 e d)
  b : ∀ o i d, x4 (ix3 o i d) = argB m c (ix3 o i d)

/-- A point's input blocks hold them. -/
theorem holds (c : Dev nD) (t : Fin cfg0.N) :
    Holds m c t (iblk m c 0 t) (iblk m c 1 t) (iblk m c 2 t) (iblk m c 3 t) (iblk m c 4 t) :=
  ⟨iblk_x m c t, iblk_m m c t, iblk_n m c t, iblk_w m c t, iblk_b m c t⟩

section Blocks

variable {m} {c : Dev nD} {t : Fin cfg0.N} {x0 : Vec Ideal S1x512x1024 .f32} {x1 : Vec Ideal S1x1x6144 .f32}
  {x2 : Vec Ideal S1x1024 .f32} {x3 : Vec Ideal S1024x5120 .bf16} {x4 : Vec Ideal S2x2x1024 .f32}

/-- The stores of a point hold the array's entries of its rows. -/
theorem block_apply (h : Holds m c t x0 x1 x2 x3 x4) {e : EltTy}
    (S : FVec Ideal S256x1024 .bf16 → Vec Ideal S1x256x1024 e) (f : Fin 1024 → EReal → Elt Ideal e) (o : Nat)
    (inb : ∀ a, ![0, o] a + ![1024, 1024] a ≤ S1024x5120.size a) (ho : o + 1024 ≤ 5120)
    (hS : ∀ y r d, S y (ix3 0 r d) = f d (∑ e : Fin 1024, y (ix2 r e)
      * View.ld x3 (Rect.unit ![0, o] ![1024, 1024] inb) (ix2 e d)))
    (r : Fin 512) (d : Fin 1024) :
    tiles S x0 x1 x2 (ix3 0 r d) = entries m e c o ho f (ix3 (batch t) (tileRow t r) d) := by
  rw [tiles_apply S (fun h d => f d (∑ e : Fin 1024, h e * View.ld x3 (Rect.unit ![0, o] ![1024, 1024] inb) (ix2 e d)))
    hS]
  refine congrArg (f d) (sum_mul_congr (fun e => ?_) fun e => (ld_cols _ o inb ho e d).trans (h.w e _))
  rw [show row3 x1 0 = _ from funext h.mods, funext h.gain, show row3 x0 r = _ from funext (h.x r)]
  rfl

/-- A direction's lower bound as the kernel computes it. -/
theorem bound_apply (h : Holds m c t x0 x1 x2 x3 x4) (o : Fin 2)
    (inb : ∀ a, ![o.val, 0, 0] a + ![1, 2, 1024] a ≤ S2x2x1024.size a) (d : Fin 1024) :
    k0_pay11 (F := Ideal) (View.ld x4 (Rect.unit ![o.val, 0, 0] ![1, 2, 1024] inb)) (ix2 0 d) = bound m c o d := by
  rw [share_apply]
  exact congrArg share (funext fun i => (ld_bounds _ o inb i d).trans (h.b o i d))

/-- A point's block of queries. -/
theorem out_q (h : Holds m c t x0 x1 x2 x3 x4) (r : Fin 512) (d : Fin 1024) :
    out0_5 x0 x1 x2 x3 x4 (ix3 0 r d) = resQ m c (ix3 (batch t) (tileRow t r) d) := by
  rw [q_tiles]
  exact block_apply h (e := .bf16) (fun y => k0_pay13 y (View.ld x3 r0_6)) (fun _ s => silu s) 0 inb_S1024x5120_S1024x1024_0_0
    (by norm_num) (fun y r d => silu_apply y _ r d) r d

/-- A point's blocks of keys. -/
theorem out_kf (h : Holds m c t x0 x1 x2 x3 x4) (r : Fin 512) (d : Fin 1024) :
    out0_6 x0 x1 x2 x3 x4 (ix3 0 r d) = resK m c 1024 (by norm_num) 0 (ix3 (batch t) (tileRow t r) d) := by
  rw [kf_tiles]
  exact block_apply h (e := .bf16) (fun y => k0_pay21 (k0_pay11 (View.ld x4 r0_4)) (k0_pay18 y (View.ld x3 r0_7)))
    (fun d s => key (bound m c 0 d) s) 1024 inb_S1024x5120_S1024x1024_0_1024 (by norm_num)
    (fun y r d => (key_apply _ y _ r d).trans
      (congrArg (fun b => key b _) (bound_apply h 0 inb_S2x2x1024_S1x2x1024_0_0_0 d))) r d

@[inherit_doc out_kf] theorem out_kb (h : Holds m c t x0 x1 x2 x3 x4) (r : Fin 512) (d : Fin 1024) :
    out0_7 x0 x1 x2 x3 x4 (ix3 0 r d) = resK m c 2048 (by norm_num) 1 (ix3 (batch t) (tileRow t r) d) := by
  rw [kb_tiles]
  exact block_apply h (e := .bf16) (fun y => k0_pay21 (k0_pay11 (View.ld x4 r0_5)) (k0_pay18 y (View.ld x3 r0_8)))
    (fun d s => key (bound m c 1 d) s) 2048 inb_S1024x5120_S1024x1024_0_2048 (by norm_num)
    (fun y r d => (key_apply _ y _ r d).trans
      (congrArg (fun b => key b _) (bound_apply h 1 inb_S2x2x1024_S1x2x1024_1_0_0 d))) r d

/-- A point's blocks of gates. -/
theorem out_gf (h : Holds m c t x0 x1 x2 x3 x4) (r : Fin 512) (d : Fin 1024) :
    out0_8 x0 x1 x2 x3 x4 (ix3 0 r d) = resG m c 1024 (by norm_num) 0 (ix3 (batch t) (tileRow t r) d) := by
  rw [gf_tiles]
  exact block_apply h (e := .f32) (fun y => k0_pay20 (k0_pay19 y (k0_pay11 (View.ld x4 r0_4)) (View.ld x3 r0_7)))
    (fun d s => gate (bound m c 0 d) s) 1024 inb_S1024x5120_S1024x1024_0_1024 (by norm_num)
    (fun y r d => (gate_apply _ y _ r d).trans
      (congrArg (fun b => gate b _) (bound_apply h 0 inb_S2x2x1024_S1x2x1024_0_0_0 d))) r d

@[inherit_doc out_gf] theorem out_gb (h : Holds m c t x0 x1 x2 x3 x4) (r : Fin 512) (d : Fin 1024) :
    out0_9 x0 x1 x2 x3 x4 (ix3 0 r d) = resG m c 2048 (by norm_num) 1 (ix3 (batch t) (tileRow t r) d) := by
  rw [gb_tiles]
  exact block_apply h (e := .f32) (fun y => k0_pay20 (k0_pay19 y (k0_pay11 (View.ld x4 r0_5)) (View.ld x3 r0_8)))
    (fun d s => gate (bound m c 1 d) s) 2048 inb_S1024x5120_S1024x1024_0_2048 (by norm_num)
    (fun y r d => (gate_apply _ y _ r d).trans
      (congrArg (fun b => gate b _) (bound_apply h 1 inb_S2x2x1024_S1x2x1024_1_0_0 d))) r d

/-- A point's block of values. -/
theorem out_v (h : Holds m c t x0 x1 x2 x3 x4) (r : Fin 512) (d : Fin 1024) :
    out0_10 x0 x1 x2 x3 x4 (ix3 0 r d) = resV m c 3072 (by norm_num) (ix3 (batch t) (tileRow t r) d) := by
  rw [v_tiles]
  exact block_apply h (e := .bf16) (fun y => k0_pay30 y (View.ld x3 r0_9)) (fun _ s => s) 3072 inb_S1024x5120_S1024x1024_0_3072
    (by norm_num) (fun y r d => product_apply y _ r d) r d

/-- A point's block of output gates. -/
theorem out_og (h : Holds m c t x0 x1 x2 x3 x4) (r : Fin 512) (d : Fin 1024) :
    out0_11 x0 x1 x2 x3 x4 (ix3 0 r d) = resV m c 4096 (by norm_num) (ix3 (batch t) (tileRow t r) d) := by
  rw [og_tiles]
  exact block_apply h (e := .bf16) (fun y => k0_pay30 y (View.ld x3 r0_10)) (fun _ s => s) 4096 inb_S1024x5120_S1024x1024_0_4096
    (by norm_num) (fun y r d => product_apply y _ r d) r d

end Blocks

/-- The block indices of the output windows, decided over the grid. -/
theorem out_index : ∀ t : Fin cfg0.N,
    win0_5.index t = ![t.val / 8, t.val % 8, 0] ∧ win0_6.index t = ![t.val / 8, t.val % 8, 0]
    ∧ win0_7.index t = ![t.val / 8, t.val % 8, 0] ∧ win0_8.index t = ![t.val / 8, t.val % 8, 0]
    ∧ win0_9.index t = ![t.val / 8, t.val % 8, 0] ∧ win0_10.index t = ![t.val / 8, t.val % 8, 0]
    ∧ win0_11.index t = ![t.val / 8, t.val % 8, 0] :=
  (by decide +kernel : ∀ t : Fin grid0.N, _)

/-- Every point writes its output blocks. -/
theorem flushes : ∀ t : Fin cfg0.N, (cfg0.win 5).flush t = true ∧ (cfg0.win 6).flush t = true
    ∧ (cfg0.win 7).flush t = true ∧ (cfg0.win 8).flush t = true ∧ (cfg0.win 9).flush t = true
    ∧ (cfg0.win 10).flush t = true ∧ (cfg0.win 11).flush t = true :=
  (by decide +kernel : ∀ t : Fin grid0.N, _)

/-- The point that writes an entry. -/
def writer (i : S8x4096x1024.Idx) : Fin cfg0.N :=
  ⟨8 * (i 0).val + (i 1).val / 512, lt_of_lt_of_eq (by
    have h0 : (i 0).val < 8 := (i 0).isLt
    have h1 : (i 1).val < 4096 := (i 1).isLt
    omega) N_0.symm⟩

/-- An entry lies in the block of its writer. -/
theorem in_block (i : S8x4096x1024.Idx) {k : Fin 3 → Nat} (hk : k = ![(writer i).val / 8, (writer i).val % 8, 0])
    (a : Fin 3) : k a * (![1, 512, 1024] : Fin 3 → Nat) a ≤ (i a).val
      ∧ (i a).val < k a * (![1, 512, 1024] : Fin 3 → Nat) a + (![1, 512, 1024] : Fin 3 → Nat) a := by
  have h1 : (i 1).val < 4096 := (i 1).isLt
  have h2 : (i 2).val < 1024 := (i 2).isLt
  have hw : (writer i).val = 8 * (i 0).val + (i 1).val / 512 := rfl
  subst hk
  match a with
  | ⟨0, _⟩ => show (writer i).val / 8 * 1 ≤ (i 0).val ∧ (i 0).val < (writer i).val / 8 * 1 + 1; omega
  | ⟨1, _⟩ => show (writer i).val % 8 * 512 ≤ (i 1).val ∧ (i 1).val < (writer i).val % 8 * 512 + 512; omega
  | ⟨2, _⟩ => show 0 * 1024 ≤ (i 2).val ∧ (i 2).val < 0 * 1024 + 1024; omega

/-- What holds of each of three axes holds of all. -/
theorem all_axes {p : Fin 3 → Prop} (h0 : p 0) (h1 : p 1) (h2 : p 2) (a : Fin 3) : p a :=
  match a with
  | ⟨0, _⟩ => h0
  | ⟨1, _⟩ => h1
  | ⟨2, _⟩ => h2

/-- The place in the array of an entry of a point's block. -/
theorem place (t : Fin cfg0.N) (y : S1x512x1024.Idx) {k : Fin 3 → Nat} (hk : k = ![t.val / 8, t.val % 8, 0])
    (i : S8x4096x1024.Idx) (hi : ∀ a : Fin 3, (i a).val = k a * (![1, 512, 1024] : Fin 3 → Nat) a + 1 * (y a).val) :
    y = ix3 0 (y 1) (y 2) ∧ i = ix3 (batch t) (tileRow t (y 1)) (y 2) := by
  subst hk
  have y0 : (y 0).val = 0 := by have h : (y 0).val < 1 := (y 0).isLt; omega
  refine ⟨(eq_ix3 y).trans (congrArg (fun z => ix3 z (y 1) (y 2)) (Fin.ext y0)),
    funext fun a => Fin.ext ((hi a).trans ?_)⟩
  match a with
  | ⟨0, _⟩ => show t.val / 8 * 1 + 1 * (y 0).val = t.val / 8; omega
  | ⟨1, _⟩ => show t.val % 8 * 512 + 1 * (y 1).val = 512 * (t.val % 8) + (y 1).val; omega
  | ⟨2, _⟩ => show 0 * 1024 + 1 * (y 2).val = (y 2).val; omega

/-- A block whose entries are those of an array, read at the array's places. -/
theorem block_eq {e : EltTy} (t : Fin cfg0.N) {o : Vec Ideal S1x512x1024 e} {G : Vec Ideal S8x4096x1024 e}
    (h : ∀ r d, o (ix3 0 r d) = G (ix3 (batch t) (tileRow t r) d)) {k : Fin 3 → Nat}
    (hk : k = ![t.val / 8, t.val % 8, 0]) (y : S1x512x1024.Idx) (i : S8x4096x1024.Idx)
    (hi : ∀ a : Fin 3, (i a).val = k a * (![1, 512, 1024] : Fin 3 → Nat) a + 1 * (y a).val) : o y = G i := by
  obtain ⟨ey, ei⟩ := place t y hk i hi
  rw [ei]
  exact (congrArg o ey).trans (h _ _)

/-- The queries' array after the run. -/
theorem array_q (c : Dev nD) : (dats m 0 c).arrAt 5 cfg0.N = resQ m c := by
  refine (dats m 0 c).arrAt_eq_of_cover 5 (resQ m c) (fun t _ => ?_) fun i =>
    ⟨writer i, (flushes _).1, ?_⟩
  · rw [flushed5]
    funext y
    exact block_eq t (out_q (holds m c t)) (out_index t).1 y _ (all_axes rfl rfl rfl)
  · show i ∈ ((View.whole main_v6_0).slice (win0_5.rect (writer i))).set
    rw [View.set_slice_whole, Rect.mem_set_unit]
    exact in_block i (out_index _).1

/-- The forward keys' array after the run. -/
theorem array_kf (c : Dev nD) : (dats m 0 c).arrAt 6 cfg0.N = resK m c 1024 (by norm_num) 0 := by
  refine (dats m 0 c).arrAt_eq_of_cover 6 (resK m c 1024 (by norm_num) 0) (fun t _ => ?_) fun i =>
    ⟨writer i, (flushes _).2.1, ?_⟩
  · rw [flushed6]
    funext y
    exact block_eq t (out_kf (holds m c t)) (out_index t).2.1 y _ (all_axes rfl rfl rfl)
  · show i ∈ ((View.whole main_v6_1).slice (win0_6.rect (writer i))).set
    rw [View.set_slice_whole, Rect.mem_set_unit]
    exact in_block i (out_index _).2.1

/-- The backward keys' array after the run. -/
theorem array_kb (c : Dev nD) : (dats m 0 c).arrAt 7 cfg0.N = resK m c 2048 (by norm_num) 1 := by
  refine (dats m 0 c).arrAt_eq_of_cover 7 (resK m c 2048 (by norm_num) 1) (fun t _ => ?_) fun i =>
    ⟨writer i, (flushes _).2.2.1, ?_⟩
  · rw [flushed7]
    funext y
    exact block_eq t (out_kb (holds m c t)) (out_index t).2.2.1 y _ (all_axes rfl rfl rfl)
  · show i ∈ ((View.whole main_v6_2).slice (win0_7.rect (writer i))).set
    rw [View.set_slice_whole, Rect.mem_set_unit]
    exact in_block i (out_index _).2.2.1

/-- The forward gates' array after the run. -/
theorem array_gf (c : Dev nD) : (dats m 0 c).arrAt 8 cfg0.N = resG m c 1024 (by norm_num) 0 := by
  refine (dats m 0 c).arrAt_eq_of_cover 8 (resG m c 1024 (by norm_num) 0) (fun t _ => ?_) fun i =>
    ⟨writer i, (flushes _).2.2.2.1, ?_⟩
  · rw [flushed8]
    funext y
    exact block_eq t (out_gf (holds m c t)) (out_index t).2.2.2.1 y _ (all_axes rfl rfl rfl)
  · show i ∈ ((View.whole main_v6_3).slice (win0_8.rect (writer i))).set
    rw [View.set_slice_whole, Rect.mem_set_unit]
    exact in_block i (out_index _).2.2.2.1

/-- The backward gates' array after the run. -/
theorem array_gb (c : Dev nD) : (dats m 0 c).arrAt 9 cfg0.N = resG m c 2048 (by norm_num) 1 := by
  refine (dats m 0 c).arrAt_eq_of_cover 9 (resG m c 2048 (by norm_num) 1) (fun t _ => ?_) fun i =>
    ⟨writer i, (flushes _).2.2.2.2.1, ?_⟩
  · rw [flushed9]
    funext y
    exact block_eq t (out_gb (holds m c t)) (out_index t).2.2.2.2.1 y _ (all_axes rfl rfl rfl)
  · show i ∈ ((View.whole main_v6_4).slice (win0_9.rect (writer i))).set
    rw [View.set_slice_whole, Rect.mem_set_unit]
    exact in_block i (out_index _).2.2.2.2.1

/-- The values' array after the run. -/
theorem array_v (c : Dev nD) : (dats m 0 c).arrAt 10 cfg0.N = resV m c 3072 (by norm_num) := by
  refine (dats m 0 c).arrAt_eq_of_cover 10 (resV m c 3072 (by norm_num)) (fun t _ => ?_) fun i =>
    ⟨writer i, (flushes _).2.2.2.2.2.1, ?_⟩
  · rw [flushed10]
    funext y
    exact block_eq t (out_v (holds m c t)) (out_index t).2.2.2.2.2.1 y _ (all_axes rfl rfl rfl)
  · show i ∈ ((View.whole main_v6_5).slice (win0_10.rect (writer i))).set
    rw [View.set_slice_whole, Rect.mem_set_unit]
    exact in_block i (out_index _).2.2.2.2.2.1

/-- The output gates' array after the run. -/
theorem array_og (c : Dev nD) : (dats m 0 c).arrAt 11 cfg0.N = resV m c 4096 (by norm_num) := by
  refine (dats m 0 c).arrAt_eq_of_cover 11 (resV m c 4096 (by norm_num)) (fun t _ => ?_) fun i =>
    ⟨writer i, (flushes _).2.2.2.2.2.2, ?_⟩
  · rw [flushed11]
    funext y
    exact block_eq t (out_og (holds m c t)) (out_index t).2.2.2.2.2.2 y _ (all_axes rfl rfl rfl)
  · show i ∈ ((View.whole main_v6_6).slice (win0_11.rect (writer i))).set
    rw [View.set_slice_whole, Rect.mem_set_unit]
    exact in_block i (out_index _).2.2.2.2.2.2

end Odd

end
-- ==== Proof.OddEquation.lean ====
module

public import proofs.«01_k».proof.Defs
public import proofs.«01_k».proof.Proof.Gen.Pre_finite_bounds
public import proofs.«01_k».proof.Proof.Equation
public import proofs.«01_k».proof.Proof.OddHost
public import proofs.«01_k».proof.Proof.OddLayer

@[expose] public section

/-! The two programs before the last mixer leave the same arrays. -/

set_option maxRecDepth 16384

noncomputable section

namespace Odd

open Idealize.ShloMosaic Idealize.ShloMosaic.TcCoe Idealize.ShloMosaic.StableHlo

section Reference

open Cert.Reference4Ideal Cert.Reference4Ideal.Gen Cert.Reference4Ideal.Value

/-- The reference's queries. -/
def refQ (P : Vec Ideal S8x4096x5120 .f32) : Vec Ideal S8x4096x1024 .bf16 :=
  truncf (F := Ideal) (φ := .f32) .bf16
    (refSilu (extractStridedSlice S8x4096x1024 ![0, 0, 0] P slices_S8x4096x5120_S8x4096x1024_0_0_0)) bitsLt_bf16_f32

/-- The reference's keys of a direction, its products from column `o` on. -/
def refK (o : Nat) (h : S8x4096x5120.Slices ![0, 0, o] S8x4096x1024) (v : Vec Ideal S1024 .f32)
    (P : Vec Ideal S8x4096x5120 .f32) : Vec Ideal S8x4096x1024 .bf16 :=
  truncf (F := Ideal) (φ := .f32) .bf16 (refKey v (extractStridedSlice S8x4096x1024 ![0, 0, o] P h)) bitsLt_bf16_f32

/-- The reference's gates of a direction. -/
def refG (o : Nat) (h : S8x4096x5120.Slices ![0, 0, o] S8x4096x1024) (v : Vec Ideal S1024 .f32)
    (P : Vec Ideal S8x4096x5120 .f32) : Vec Ideal S8x4096x1024 .f32 :=
  refGate v (extractStridedSlice S8x4096x1024 ![0, 0, o] P h)

/-- The reference's values and output gates. -/
def refV (o : Nat) (h : S8x4096x5120.Slices ![0, 0, o] S8x4096x1024) (P : Vec Ideal S8x4096x5120 .f32) :
    Vec Ideal S8x4096x1024 .bf16 :=
  truncf (F := Ideal) (φ := .f32) .bf16 (extractStridedSlice S8x4096x1024 ![0, 0, o] P h) bitsLt_bf16_f32

section Results

variable (m : (ℓ : Loc nD τ sig) → Buf (Elt Ideal) ℓ) (c : Dev nD)

/-- The reference's products as its operations compose them. -/
abbrev refP : Vec Ideal S8x4096x5120 .f32 :=
  refProduct (m ((c.tc : Thread nD τ).loc main_arg0)) (m ((c.tc : Thread nD τ).loc main_arg1))
    (m ((c.tc : Thread nD τ).loc main_arg2)) (m ((c.tc : Thread nD τ).loc main_arg3))

/-- The forward lower bounds. -/
abbrev refBf : Vec Ideal S1024 .f32 := refBound 0 slices_S2x1024_S1x1024_0_0 (m ((c.tc : Thread nD τ).loc main_arg4))
/-- The backward lower bounds. -/
abbrev refBb : Vec Ideal S1024 .f32 := refBound 1 slices_S2x1024_S1x1024_1_0 (m ((c.tc : Thread nD τ).loc main_arg4))

/-- The reference's results as its operations compose them. -/
theorem res_eq : res_out0 m c = refQ (refP m c)
    ∧ res_out1 m c = refK 1024 slices_S8x4096x5120_S8x4096x1024_0_0_1024 (refBf m c) (refP m c)
    ∧ res_out2 m c = refK 2048 slices_S8x4096x5120_S8x4096x1024_0_0_2048 (refBb m c) (refP m c)
    ∧ res_out3 m c = refG 1024 slices_S8x4096x5120_S8x4096x1024_0_0_1024 (refBf m c) (refP m c)
    ∧ res_out4 m c = refG 2048 slices_S8x4096x5120_S8x4096x1024_0_0_2048 (refBb m c) (refP m c) :=
  ⟨rfl, rfl, rfl, rfl, rfl⟩

end Results

/-- A slice's entry is the array's. -/
theorem slice_apply (o : Nat) (h : S8x4096x5120.Slices ![0, 0, o] S8x4096x1024) (ho : o + 1024 ≤ 5120)
    (P : Vec Ideal S8x4096x5120 .f32) (b : Fin 8) (t : Fin 4096) (d : Fin 1024) :
    extractStridedSlice S8x4096x1024 ![0, 0, o] P h (ix3 b t d)
      = P (ix3 b t ⟨o + d.val, lt_of_lt_of_le (Nat.add_lt_add_left d.isLt o) ho⟩) := by
  pointwise

end Reference

/-- For two real numbers the sum of both shares less the first is the second, strictly between nought and one. -/
theorem share_real {x : Fin 2 → EReal} (h : ∀ i, ∃ r : ℝ, x i = r) : ∃ q : ℝ, 0 < q ∧ q < 1 ∧ share x = q
    ∧ ∀ s : Fin 2 → EReal, (∀ i, s i = Ideal.div
      (Ideal.exp (x i - max (Ideal.ofBits .f32 0xFF800000#32)
        (Finset.univ.fold max (Ideal.ofBits .f32 0xFF800000#32) x)))
      (∑ i, Ideal.exp (x i - max (Ideal.ofBits .f32 0xFF800000#32)
        (Finset.univ.fold max (Ideal.ofBits .f32 0xFF800000#32) x)))) → s 0 + s 1 - s 0 = q := by
  have hbot : Ideal.ofBits .f32 0xFF800000#32 = (⊥ : EReal) := by
    simp [Ideal.ofBits, Ideal.ieee]
  choose r hr using h
  obtain rfl : x = fun i => (r i : EReal) := funext hr
  obtain ⟨M, hM, -⟩ := Attention.exists_real_max two_pos r
  have he : ∀ i, Ideal.exp ((r i : EReal) - M) = ((Real.exp (r i - M) : ℝ) : EReal) := fun i => by
    rw [← EReal.coe_sub, exp_coe]
  have p0 := Real.exp_pos (r 0 - M)
  have p1 := Real.exp_pos (r 1 - M)
  have hs : ∑ i, Ideal.exp ((r i : EReal) - M) = ((Real.exp (r 0 - M) + Real.exp (r 1 - M) : ℝ) : EReal) := by
    rw [Fin.sum_univ_two, he, he, EReal.coe_add]
  refine ⟨Real.exp (r 1 - M) / (Real.exp (r 0 - M) + Real.exp (r 1 - M)), by positivity,
    (div_lt_one (by positivity)).2 (by linarith), ?_, fun s h => ?_⟩
  · unfold share
    rw [hbot, hM, hs, he, div_coe _ (by positivity)]
    simp
  · rw [h 0, h 1, hbot, hM, max_eq_right bot_le, hs, he, he, div_coe _ (by positivity), div_coe _ (by positivity),
      ← EReal.coe_add, ← EReal.coe_sub, add_sub_cancel_left]

section Kernel

open Cert.Kernel4Ideal

variable (m : (ℓ : Loc nD τ sig) → Buf (Elt Ideal) ℓ) (c : Dev nD)

/-- The reference's products of the kernel's arguments. -/
abbrev kerP : Vec Ideal Cert.Reference4Ideal.S8x4096x5120 .f32 :=
  refProduct (argX m c) (argM m c) (argN m c) (argW m c)

/-- The products are the kernel's. -/
theorem kerP_apply (b : Fin 8) (t : Fin 4096) (k : Fin 5120) : kerP m c (ix3 b t k) = product m c b t k := by
  refine (refProduct_apply _ _ _ _ b t k).trans ?_
  refine Finset.sum_congr rfl fun e _ => congrArg (· * _) ?_
  unfold normed
  refine congrArg₂ (fun u v => Post.modulated u v _ _ e) (funext fun d => ?_) (funext fun d => rfl)
  exact congrArg (fun k => argM m c (ix3 1 _ k)) (Fin.ext (Nat.zero_add _).symm)

/-- The precondition's content: the numbers the lower bounds are made of are real. -/
theorem bounds_real (h : Cert.Pre_Kernel4Ideal_finite_bounds m) (o i : Fin 2) (d : Fin 1024) :
    ∃ r : ℝ, argB m c (ix3 o i d) = r :=
  Attention.real_of_abs_lt (Host.reduce_andi_all _ _ _ _ _ (congrFun (h c)
    (Shape.Idx.first Cert.Pre_finite_bounds.Gen.h_S_)) (ix3 o i d))

/-- An array whose entries are those of the products is the kernel's. -/
theorem eq_entries {e : EltTy} {o : Nat} {ho : o + 1024 ≤ 5120} {f : Fin 1024 → EReal → Elt Ideal e}
    {R : Vec Ideal S8x4096x1024 e} (h : ∀ (b : Fin 8) (t : Fin 4096) (d : Fin 1024), R (ix3 b t d)
      = f d (kerP m c (ix3 b t ⟨o + d.val, lt_of_lt_of_le (Nat.add_lt_add_left d.isLt o) ho⟩))) :
    R = entries m e c o ho f := by
  funext i
  obtain ⟨b, t, d, rfl⟩ : ∃ (b : Fin 8) (t : Fin 4096) (d : Fin 1024), i = ix3 b t d := ⟨i 0, i 1, i 2, eq_ix3 i⟩
  rw [h, kerP_apply]
  rfl

/-- The queries. -/
theorem refQ_eq : refQ (kerP m c) = resQ m c := by
  refine eq_entries m c (e := .bf16) (o := 0) (ho := by norm_num) (f := fun _ s => silu s) fun b t d => ?_
  refine (refSilu_apply _ b t d).trans ?_
  rw [slice_apply 0 _ (by norm_num)]
  rfl

/-- The values and the output gates. -/
theorem refV_eq (o : Nat) (h : Cert.Reference4Ideal.S8x4096x5120.Slices ![0, 0, o] S8x4096x1024)
    (ho : o + 1024 ≤ 5120) : refV o h (kerP m c) = resV m c o ho :=
  eq_entries m c (e := .bf16) (f := fun _ s => s) fun b t d => slice_apply o h ho (kerP m c) b t d

/-- The lower bounds of a direction are the kernel's, strictly between nought and one. -/
theorem refBound_real (h : Cert.Pre_Kernel4Ideal_finite_bounds m) (o : Fin 2)
    (hs : Cert.Reference4Ideal.S2x1024.Slices ![o.val, 0] Cert.Reference4Ideal.S1x1024) (d : Fin 1024) :
    ∃ q : ℝ, 0 < q ∧ q < 1 ∧ bound m c o d = q ∧ refBound o.val hs (argB m c) (ix1 d) = q := by
  obtain ⟨q, h0, h1, e, k⟩ := share_real (bounds_real m c h o · d)
  refine ⟨q, h0, h1, e, ?_⟩
  rw [refBound_apply]
  exact k (fun i => refShares (argB m c) (ix3 o i d)) fun i => refShares_apply _ o i d

/-- The keys of a direction. -/
theorem refK_eq (hp : Cert.Pre_Kernel4Ideal_finite_bounds m) (o : Nat)
    (h : Cert.Reference4Ideal.S8x4096x5120.Slices ![0, 0, o] S8x4096x1024) (ho : o + 1024 ≤ 5120) (dir : Fin 2)
    (hs : Cert.Reference4Ideal.S2x1024.Slices ![dir.val, 0] Cert.Reference4Ideal.S1x1024) :
    refK o h (refBound dir.val hs (argB m c)) (kerP m c) = resK m c o ho dir := by
  refine eq_entries m c (e := .bf16) (f := fun d s => key (bound m c dir d) s) fun b t d => ?_
  obtain ⟨q, h0, h1, e, k⟩ := refBound_real m c hp dir hs d
  refine (refKey_apply _ _ b t d).trans ?_
  rw [slice_apply o h ho, k, e, (gate_eq h0 h1 _).2]
  rfl

/-- The gates of a direction. -/
theorem refG_eq (hp : Cert.Pre_Kernel4Ideal_finite_bounds m) (o : Nat)
    (h : Cert.Reference4Ideal.S8x4096x5120.Slices ![0, 0, o] S8x4096x1024) (ho : o + 1024 ≤ 5120) (dir : Fin 2)
    (hs : Cert.Reference4Ideal.S2x1024.Slices ![dir.val, 0] Cert.Reference4Ideal.S1x1024) :
    refG o h (refBound dir.val hs (argB m c)) (kerP m c) = resG m c o ho dir := by
  refine eq_entries m c (e := .f32) (f := fun d s => gate (bound m c dir d) s) fun b t d => ?_
  obtain ⟨q, h0, h1, e, k⟩ := refBound_real m c hp dir hs d
  refine (refGate_apply _ _ b t d).trans ?_
  rw [slice_apply o h ho, k, e, (gate_eq h0 h1 _).1]
  rfl

end Kernel

end Odd

end
-- ==== Proof.EvenBlock.lean ====
module

public import proofs.«01_k».proof.Proof.Block
public import proofs.«01_k».proof.Proof.Gate
public import proofs.«01_k».proof.Proof.Gen.Kernel5Ideal.Frame

@[expose] public section

/-! What a grid point of the kernel before the first layer's mixers leaves in its nine output blocks. -/

set_option maxRecDepth 16384

noncomputable section

namespace Even

open Cert.Kernel5Ideal Cert.Kernel5Ideal.Gen Idealize.ShloMosaic Idealize.ShloMosaic.StableHlo Post

/-- A row normalised and modulated for the mixers. -/
def normed (m : Fin 6144 → EReal) (g x : Fin 1024 → EReal) : Fin 1024 → EReal :=
  modulated (part m 0 (by norm_num)) (part m 1 (by norm_num)) g x

/-- A row's product with a column of the weights. -/
def prod (w : Vec Ideal S1024x2336 .bf16) (h : Fin 1024 → EReal) (k : Fin 2336) : EReal := ∑ e, h e * w (ix2 e k)

/-- A row over the root of its weighted squares, with a gain. -/
def headNorm {n : Nat} (bd : Fin n → Fin n → EReal) (g y : Fin n → EReal) (d : Fin n) : EReal :=
  y d * Ideal.rsqrt ((∑ e, y e * y e * bd e d) + Ideal.ofBits .f32 0x358637BD#32) * g d

/-- The lane that holds the other half of a lane's pair. -/
def other {n : Nat} (hn : 64 ∣ n) (d : Fin n) : Fin n :=
  if d.val % 64 < 32 then ⟨(d.val + 32) % n, Nat.mod_lt _ (by have h := d.isLt; omega)⟩
  else ⟨d.val - 32, lt_of_le_of_lt (Nat.sub_le _ _) d.isLt⟩

/-- A lane's place in the tables. -/
abbrev lane {n : Nat} (d : Fin n) : Fin 128 := ⟨d.val % 128, Nat.mod_lt _ (by norm_num)⟩

/-- A row with its pairs rotated. -/
def rotate {n : Nat} (hn : 64 ∣ n) (cs sn : Fin 128 → EReal) (y : Fin n → EReal) (d : Fin n) : EReal :=
  y d * cs (lane d) + y (other hn d) * sn (lane d)

/-- The gate, as a logarithm in base two over the temperature. -/
def gate (s : EReal) : EReal :=
  (min s 0 - Ideal.log1p (Ideal.exp (0 - max s (-s)))) * (((16 * Real.log 2)⁻¹ : ℝ) : EReal)

/-- The rows of the stream, normalised and modulated. -/
theorem normed_apply (x : Vec Ideal S1x256x1024 .f32) (m : Vec Ideal S1x1x6144 .f32) (g : Vec Ideal S1x1024 .f32)
    (r : Fin 256) (d : Fin 1024) :
    k0_pay4 (F := Ideal) x m g (ix2 r d) = normed (row3 m 0) (fun d => g (ix2 0 d)) (row3 x r) d := by
  have e0 : part (row3 m 0) 0 (by norm_num) d = m (ix3 0 0 ⟨d.val, by omega⟩) :=
    congrArg (fun k => m (ix3 0 0 k)) (Fin.ext (Nat.zero_add _))
  have e1 : part (row3 m 0) 1 (by norm_num) d = m (ix3 0 0 ⟨1024 + d.val, by omega⟩) :=
    rfl
  unfold normed modulated
  rw [e0, e1]
  unfold k0_pay4
  pointwise
  rfl

/-- The scan's queries. -/
theorem gq_apply (h : FVec Ideal S256x1024 .bf16) (w : Vec Ideal S1024x512 .bf16) (r d : Fin 256) :
    k0_pay13 (F := Ideal) h w (ix3 0 r d)
      = (∑ e, h (ix2 r e) * w (ix2 e ⟨d.val, by omega⟩)) * Ideal.ofBits .f32 0x3E000000#32 := by
  unfold k0_pay13 k0_pay12
  pointwise

/-- The scan's keys. -/
theorem gk_apply (h : FVec Ideal S256x1024 .bf16) (w : Vec Ideal S1024x512 .bf16) (r d : Fin 256) :
    k0_pay14 (F := Ideal) h w (ix3 0 r d) = ∑ e, h (ix2 r e) * w (ix2 e ⟨256 + d.val, by omega⟩) := by
  unfold k0_pay14 k0_pay12
  pointwise

/-- The scan's values. -/
theorem gv_apply (h : FVec Ideal S256x1024 .bf16) (w : Vec Ideal S1024x512 .bf16) (r : Fin 256) (d : Fin 512) :
    k0_pay15 (F := Ideal) h w (ix3 0 r d) = ∑ e, h (ix2 r e) * w (ix2 e d) := by
  unfold k0_pay15
  pointwise

/-- The attention's queries, normalised. -/
theorem qnorm_apply (h : FVec Ideal S256x1024 .bf16) (w : Vec Ideal S1024x512 .bf16) (bd : Vec Ideal S512x512 .bf16)
    (g : Vec Ideal S1x512 .f32) (r : Fin 256) (d : Fin 512) :
    k0_pay17 (F := Ideal) h w bd g (ix2 r d) = headNorm (fun e d => bd (ix2 e d)) (fun d => g (ix2 0 d))
      (fun k => ∑ e, h (ix2 r e) * w (ix2 e k)) d := by
  unfold k0_pay17 headNorm
  pointwise

/-- The attention's keys, values and gates' inputs, side by side. -/
theorem tail_apply (h : FVec Ideal S256x1024 .bf16) (w : Vec Ideal S1024x288 .bf16) (r : Fin 256) (d : Fin 288) :
    k0_pay18 (F := Ideal) h w (ix2 r d) = ∑ e, h (ix2 r e) * w (ix2 e d) := by
  unfold k0_pay18
  pointwise

/-- The attention's keys, normalised. -/
theorem knorm_apply (h : FVec Ideal S256x1024 .bf16) (w : Vec Ideal S1024x288 .bf16) (bd : Vec Ideal S128x128 .bf16)
    (g : Vec Ideal S1x128 .f32) (r : Fin 256) (d : Fin 128) :
    k0_pay20 (F := Ideal) (k0_pay19 h w bd) g (ix2 r d) = headNorm (fun e d => bd (ix2 e d)) (fun d => g (ix2 0 d))
      (fun k => ∑ e, h (ix2 r e) * w (ix2 e ⟨k.val, by omega⟩)) d := by
  unfold k0_pay20 k0_pay19 k0_pay18 headNorm
  pointwise

/-- The gates of both directions. -/
theorem gates_apply (a : FVec Ideal S256x288 .f32) (wg : Vec Ideal S32x512 .bf16) (b : Vec Ideal S1x512 .f32)
    (r : Fin 256) (d : Fin 512) :
    k0_pay30 (F := Ideal) a wg b (ix2 r d)
      = gate ((∑ z : Fin 32, a (ix2 r ⟨256 + z.val, by omega⟩) * wg (ix2 z d)) + b (ix2 0 d)) := by
  unfold k0_pay30 gate
  pointwise
  rfl

/-- The forward gates. -/
theorem gf_apply (a : FVec Ideal S256x288 .f32) (wg : Vec Ideal S32x512 .bf16) (b : Vec Ideal S1x512 .f32)
    (r : Fin 256) (d : Fin 256) :
    k0_pay31 (F := Ideal) a wg b (ix3 0 r d) = k0_pay30 (F := Ideal) a wg b (ix2 r ⟨d.val, by omega⟩) := by
  unfold k0_pay31
  pointwise

/-- The backward gates. -/
theorem gb_apply (a : FVec Ideal S256x288 .f32) (wg : Vec Ideal S32x512 .bf16) (b : Vec Ideal S1x512 .f32)
    (r : Fin 256) (d : Fin 256) :
    k0_pay32 (F := Ideal) a wg b (ix3 0 r d) = k0_pay30 (F := Ideal) a wg b (ix2 r ⟨256 + d.val, by omega⟩) := by
  unfold k0_pay32
  pointwise

/-- Whether a lane is in the first half of its head, as the kernel computes it. -/
def firstHalf (k : BitVec 32) : BitVec 1 :=
  let n : BitVec 32 := Scalar.select (Scalar.cmpi .eq 64#32 0#32) 1#32 64#32
  let q : BitVec 32 := IntOp.remsi .vector k n
  IntOp.cmpi .slt (Scalar.select (IntOp.andi (IntOp.xori (IntOp.cmpi .slt q 0#32) (Scalar.cmpi .slt n 0#32))
    (IntOp.cmpi .ne q 0#32)) (IntOp.addi q n) q) 32#32

/-- It is what it says, of every lane. -/
theorem firstHalf_eq : ∀ d : Fin 512, firstHalf (BitVec.ofNat 32 d.val) = if d.val % 64 < 32 then 1#1 else 0#1 := by
  decide +kernel

/-- A rotated lane from its parts. -/
theorem rotate_of {n : Nat} (hn : 64 ∣ n) (hl : n ≤ 512) (cs sn : Fin 128 → EReal) (y : Fin n → EReal) (d u v : Fin n)
    (hu : d.val % 64 < 32 → u.val = (d.val + 32) % n) (hv : ¬ d.val % 64 < 32 → v.val = d.val - 32) {c s : EReal}
    (hc : c = cs (lane d)) (hs : s = sn (lane d)) :
    y d * c + Scalar.select (firstHalf (BitVec.ofNat 32 d.val)) (y u) (y v) * s = rotate hn cs sn y d := by
  have e := firstHalf_eq ⟨d.val, lt_of_lt_of_le d.isLt hl⟩
  unfold rotate other
  rw [hc, hs, e]
  by_cases h : d.val % 64 < 32
  · rw [if_pos h, if_pos h]
    exact congrArg (fun k => _ + y k * _) (Fin.ext (hu h))
  · rw [if_neg h, if_neg h]
    exact congrArg (fun k => _ + y k * _) (Fin.ext (hv h))

/-- A table repeated four times, at a lane. -/
theorem repeated (t : Fin 128 → EReal) (d : Fin 512) :
    (if h : d.val < 128 then t ⟨d.val, h⟩ else if h : d.val - 128 < 128 then t ⟨d.val - 128, h⟩
      else if h : d.val - 128 - 128 < 128 then t ⟨d.val - 128 - 128, h⟩
      else t ⟨d.val - 128 - 128 - 128, by have h := d.isLt; omega⟩) = t (lane d) := by
  split_ifs <;> exact congrArg t (Fin.ext (by have h := d.isLt; dsimp only; omega))

/-- The queries, rotated. -/
theorem qrot_apply (y : FVec Ideal S256x512 .f32) (cs sn : Vec Ideal S256x128 .f32) (r : Fin 256) (d : Fin 512) :
    k0_pay21 (F := Ideal) y cs sn (ix2 r d)
      = rotate (by norm_num) (fun k => cs (ix2 r k)) (fun k => sn (ix2 r k)) (fun k => y (ix2 r k)) d := by
  unfold k0_pay21
  pointwise
  exact rotate_of _ le_rfl (fun k => cs (ix2 r k)) (fun k => sn (ix2 r k)) (fun k => y (ix2 r k)) d _ _
    (fun _ => by show (d.val + 512 - 480) % 512 = _; omega) (fun _ => by show (d.val + 512 - 32) % 512 = _; omega)
    (repeated (fun k => cs (ix2 r k)) d) (repeated (fun k => sn (ix2 r k)) d)

/-- The queries, scaled. -/
theorem aq_apply (y : FVec Ideal S256x512 .f32) (r : Fin 256) (d : Fin 512) :
    k0_pay24 (F := Ideal) y (ix3 0 r d) = y (ix2 r d) * (((8 * Real.log 2)⁻¹ : ℝ) : EReal) := by
  unfold k0_pay24
  pointwise
  rfl

/-- The keys, rotated. -/
theorem ak_apply (y : FVec Ideal S256x128 .f32) (g : Vec Ideal S1x128 .f32) (cs sn : Vec Ideal S256x128 .f32)
    (r : Fin 256) (d : Fin 128) :
    k0_pay25 (F := Ideal) (k0_pay20 y g) (k0_pay22 sn) (k0_pay23 y g cs)
        (iota .tc S256x128 32 [1] iota_S256x128_d1_w32) (ix3 0 r d)
      = rotate (by norm_num) (fun k => cs (ix2 r k)) (fun k => sn (ix2 r k)) (fun k => k0_pay20 (F := Ideal) y g (ix2 r k)) d := by
  unfold k0_pay25 k0_pay23 k0_pay22
  pointwise
  exact rotate_of _ (by norm_num) (fun k => cs (ix2 r k)) (fun k => sn (ix2 r k))
    (fun k => k0_pay20 (F := Ideal) y g (ix2 r k)) d _ _
    (fun _ => by show (d.val + 128 - 96) % 128 = _; omega) (fun _ => by show (d.val + 128 - 32) % 128 = _; omega)
    (congrArg (fun k => cs (ix2 r k)) (Fin.ext (Nat.mod_eq_of_lt d.isLt).symm))
    (congrArg (fun k => sn (ix2 r k)) (Fin.ext (Nat.mod_eq_of_lt d.isLt).symm))

/-- Which column of the values a lane holds; the other lanes are ones. -/
def valueAt (v : Fin 128 → EReal) (d : Fin 256) : EReal :=
  if d.val < 64 then v ⟨d.val % 128, Nat.mod_lt _ (by norm_num)⟩
  else if d.val < 192 then 1 else v ⟨d.val % 128, Nat.mod_lt _ (by norm_num)⟩

/-- Whether a lane is in the first head, as the kernel computes it. -/
theorem firstHead_eq : ∀ d : Fin 128, IntOp.cmpi .slt (BitVec.ofNat 32 d.val) 64#32 = if d.val < 64 then 1#1 else 0#1 := by
  decide +kernel

/-- The values beside ones. -/
theorem av_apply (a : FVec Ideal S256x288 .f32) (r : Fin 256) (d : Fin 256) :
    k0_pay52 (F := Ideal) a (ix3 0 r d) = valueAt (fun k => a (ix2 r ⟨128 + k.val, by omega⟩)) d := by
  unfold k0_pay52 valueAt
  pointwise
  by_cases h0 : d.val < 128
  · rw [dif_pos h0, firstHead_eq ⟨d.val, h0⟩]
    by_cases h1 : d.val < 64
    · rw [if_pos h1, if_pos h1]
      exact congrArg (fun k => a (ix2 r k)) (Fin.ext (by show 128 + d.val = 128 + d.val % 128; omega))
    · rw [if_neg h1, if_neg h1, if_pos (by omega)]
      rfl
  · rw [dif_neg h0, firstHead_eq ⟨d.val - 128, by omega⟩, if_neg (by omega : ¬ d.val < 64)]
    by_cases h1 : d.val < 192
    · rw [if_pos (by show d.val - 128 < 64; omega), if_pos h1]
      rfl
    · rw [if_neg (by show ¬ d.val - 128 < 64; omega), if_neg h1]
      exact congrArg (fun k => a (ix2 r k)) (Fin.ext (by show 128 + (d.val - 128) = 128 + d.val % 128; omega))

section Stores

variable {w : Nat} {e : EltTy}
  (S : FVec Ideal S256x1024 .bf16 → Vec Ideal S256x128 .f32 → Vec Ideal S256x128 .f32 → Vec Ideal ⟨3, ![1, 256, w]⟩ e)
  (x0 : Vec Ideal S1x512x1024 .f32) (x1 : Vec Ideal S1x1x6144 .f32) (x2 x3 : Vec Ideal S512x128 .f32)
  (x4 : Vec Ideal S1x1024 .f32)

/-- The inequalities of the two sub-tiles of a block. -/
theorem inb_half {o : Nat} (ho : o + 256 ≤ 512) (w : Nat) (a : Fin 3) :
    (![0, o, 0] : Fin 3 → Nat) a + (![1, 256, w] : Fin 3 → Nat) a ≤ (⟨3, ![1, 512, w]⟩ : Shape).size a :=
  match a with
  | ⟨0, _⟩ => le_rfl
  | ⟨1, _⟩ => ho
  | ⟨2, _⟩ => (Nat.zero_add w).le

/-- The inequalities of the two halves of a table's block. -/
theorem inb_table {o : Nat} (ho : o + 256 ≤ 512) (a : Fin 2) :
    (![o, 0] : Fin 2 → Nat) a + (![256, 128] : Fin 2 → Nat) a ≤ S512x128.size a :=
  match a with
  | ⟨0, _⟩ => ho
  | ⟨1, _⟩ => le_rfl

/-- What a sub-tile stores: a function of its normalised rows and of its rows of the tables. -/
abbrev stored (o : Nat) (ho : o + 256 ≤ 512) : Vec Ideal ⟨3, ![1, 256, w]⟩ e :=
  S (k0_pay4 (View.ld x0 (Rect.unit (s := S1x512x1024) ![0, o, 0] ![1, 256, 1024] (inb_half ho 1024))) (View.ld x1 r0_1) (View.ld x4 r0_2))
    (View.ld x2 (Rect.unit (s := S512x128) ![o, 0] ![256, 128] (inb_table ho)))
    (View.ld x3 (Rect.unit (s := S512x128) ![o, 0] ![256, 128] (inb_table ho)))

/-- Two sub-tiles' stores. -/
abbrev pieces : List (View.Piece (Elt Ideal) ⟨3, ![1, 512, w]⟩ e) :=
  [⟨Rect.unit ![0, 256, 0] ![1, 256, w] (inb_half le_rfl w), stored S x0 x1 x2 x3 x4 256 le_rfl⟩,
    ⟨Rect.unit ![0, 0, 0] ![1, 256, w] (inb_half (by norm_num) w),
      stored S x0 x1 x2 x3 x4 0 (by norm_num)⟩]

/-- The block they fill. -/
def tiles : Vec Ideal ⟨3, ![1, 512, w]⟩ e := View.canon (pieces S x0 x1 x2 x3 x4)

/-- A load of 256 rows of a block of 512, at an entry. -/
theorem ld_half (x : Vec Ideal S1x512x1024 .f32) (o : Nat) (inb) (ho : o + 256 ≤ 512) (r : Fin 256) (d : Fin 1024) :
    View.ld x (Rect.unit ![0, o, 0] ![1, 256, 1024] inb) (ix3 0 r d) = x (ix3 0 ⟨o + r.val, by omega⟩ d) := by
  refine congrArg x (funext fun a => Fin.ext ?_)
  match a with
  | ⟨0, _⟩ => rfl
  | ⟨1, _⟩ => exact congrArg (o + ·) (Nat.one_mul _)
  | ⟨2, _⟩ => exact (Nat.zero_add _).trans (Nat.one_mul _)

/-- A load of 256 rows of a table's block, at an entry. -/
theorem ld_table (x : Vec Ideal S512x128 .f32) (o : Nat) (inb) (ho : o + 256 ≤ 512) (r : Fin 256) (d : Fin 128) :
    View.ld x (Rect.unit ![o, 0] ![256, 128] inb) (ix2 r d) = x (ix2 ⟨o + r.val, by omega⟩ d) := by
  refine congrArg x (funext fun a => Fin.ext ?_)
  match a with
  | ⟨0, _⟩ => exact congrArg (o + ·) (Nat.one_mul _)
  | ⟨1, _⟩ => exact (Nat.zero_add _).trans (Nat.one_mul _)

/-- A load of some columns of the weights, at an entry. -/
theorem ld_cols (x : Vec Ideal S1024x2336 .bf16) (o n : Nat) (inb) (ho : o + n ≤ 2336) (e : Fin 1024) (d : Fin n) :
    View.ld x (Rect.unit (s := S1024x2336) ![0, o] ![1024, n] inb) (ix2 e d) = x (ix2 e ⟨o + d.val, by omega⟩) := by
  refine congrArg x (funext fun a => Fin.ext ?_)
  match a with
  | ⟨0, _⟩ => exact (Nat.zero_add _).trans (Nat.one_mul _)
  | ⟨1, _⟩ => exact congrArg (o + ·) (Nat.one_mul _)

variable (E : (Fin 1024 → EReal) → (Fin 128 → EReal) → (Fin 128 → EReal) → Fin w → Elt Ideal e)
  (hS : ∀ h cs sn r d, S h cs sn (ix3 0 r d) = E (fun k => h (ix2 r k)) (fun k => cs (ix2 r k)) (fun k => sn (ix2 r k)) d)

include hS

/-- One store's entry is the value of its row. -/
theorem piece_apply (o : Nat) (ho : o + 256 ≤ 512) (inb)
    (j : (Rect.unit (s := ⟨3, ![1, 512, w]⟩) ![0, o, 0] ![1, 256, w] inb).shape.Idx) :
    stored S x0 x1 x2 x3 x4 o ho j
      = (fun i : (⟨3, ![1, 512, w]⟩ : Shape).Idx => E (normed (row3 x1 0) (fun d => x4 (ix2 0 d)) (row3 x0 (i 1)))
          (fun k => x2 (ix2 (i 1) k)) (fun k => x3 (ix2 (i 1) k)) (i 2))
          ((Rect.unit ![0, o, 0] ![1, 256, w] inb).emb j) := by
  obtain ⟨r, d, rfl⟩ : ∃ (r : Fin 256) (d : Fin w), j = ix3 0 r d :=
    ⟨j 1, j 2, (eq_ix3 j).trans (by rw [Subsingleton.elim (α := Fin 1) (j 0) 0])⟩
  have e1 : ((Rect.unit (s := ⟨3, ![1, 512, w]⟩) ![0, o, 0] ![1, 256, w] inb).emb (ix3 0 r d)) 1
      = (⟨o + r.val, by omega⟩ : Fin 512) := Fin.ext (congrArg (o + ·) (Nat.one_mul _))
  have e2 : ((Rect.unit (s := ⟨3, ![1, 512, w]⟩) ![0, o, 0] ![1, 256, w] inb).emb (ix3 0 r d)) 2 = d :=
    Fin.ext ((Nat.zero_add _).trans (Nat.one_mul _))
  have ha := ld_half x0 o (inb_half ho 1024) ho
  have hc := ld_table x2 o (inb_table ho) ho
  have hs := ld_table x3 o (inb_table ho) ho
  dsimp only [stored]
  rw [e1, e2]
  generalize View.ld x0 (Rect.unit ![0, o, 0] ![1, 256, 1024] (inb_half ho 1024)) = a at ha ⊢
  rw [ld_all3, ld_all2, hS, funext (hc r), funext (hs r)]
  refine congrArg (fun z => E z _ _ d) (funext fun e => ?_)
  rw [normed_apply]
  exact congrArg (fun z => normed _ _ z e) (funext (ha r))

/-- The two sub-tiles' stores fill the block: each entry is the value of its row. -/
theorem tiles_apply (hc : ∀ y, ∃ p ∈ pieces S x0 x1 x2 x3 x4, y ∈ p.1.set) (r : Fin 512) (d : Fin w) :
    tiles S x0 x1 x2 x3 x4 (ix3 0 r d) = E (normed (row3 x1 0) (fun d => x4 (ix2 0 d)) (row3 x0 r))
      (fun k => x2 (ix2 r k)) (fun k => x3 (ix2 r k)) d := by
  unfold tiles
  refine View.canon_apply_of_pieces
    (fun i : (⟨3, ![1, 512, w]⟩ : Shape).Idx => E (normed (row3 x1 0) (fun d => x4 (ix2 0 d)) (row3 x0 (i 1)))
      (fun k => x2 (ix2 (i 1) k)) (fun k => x3 (ix2 (i 1) k)) (i 2)) _ (fun p hp j => ?_) (ix3 0 r d) (hc _)
  simp only [pieces, List.mem_cons, List.not_mem_nil, or_false] at hp
  rcases hp with rfl | rfl
  · exact piece_apply S x0 x1 x2 x3 x4 E hS 256 le_rfl (inb_half le_rfl w) j
  · exact piece_apply S x0 x1 x2 x3 x4 E hS 0 (by norm_num) (inb_half (by norm_num) w) j

end Stores

section Outputs

variable (x0 : Vec Ideal S1x512x1024 .f32) (x1 : Vec Ideal S1x1x6144 .f32) (x2 x3 : Vec Ideal S512x128 .f32)
  (x4 : Vec Ideal S1x1024 .f32) (x5 : Vec Ideal S1024x2336 .bf16) (x6 : Vec Ideal S32x512 .bf16)
  (x7 x8 : Vec Ideal S1x512 .f32) (x9 : Vec Ideal S1x128 .f32) (x10 : Vec Ideal S512x512 .bf16)
  (x11 : Vec Ideal S128x128 .bf16)

/-- The output blocks as the stores of their two sub-tiles. -/
theorem gq_tiles : out0_12 x0 x1 x2 x3 x4 x5 x6 x7 x8 x9 x10 x11
    = tiles (fun h _ _ => k0_pay13 h (View.ld x5 r0_4)) x0 x1 x2 x3 x4 := rfl

@[inherit_doc gq_tiles] theorem gk_tiles : out0_13 x0 x1 x2 x3 x4 x5 x6 x7 x8 x9 x10 x11
    = tiles (fun h _ _ => k0_pay14 h (View.ld x5 r0_4)) x0 x1 x2 x3 x4 := rfl

@[inherit_doc gq_tiles] theorem gv_tiles : out0_14 x0 x1 x2 x3 x4 x5 x6 x7 x8 x9 x10 x11
    = tiles (fun h _ _ => k0_pay15 h (View.ld x5 r0_6)) x0 x1 x2 x3 x4 := rfl

@[inherit_doc gq_tiles] theorem gog_tiles : out0_15 x0 x1 x2 x3 x4 x5 x6 x7 x8 x9 x10 x11
    = tiles (fun h _ _ => k0_pay15 h (View.ld x5 r0_8)) x0 x1 x2 x3 x4 := rfl

@[inherit_doc gq_tiles] theorem gf_tiles : out0_16 x0 x1 x2 x3 x4 x5 x6 x7 x8 x9 x10 x11
    = tiles (fun h _ _ => k0_pay31 (k0_pay18 h (View.ld x5 r0_12)) (View.ld x6 r0_17) (View.ld x7 r0_11))
      x0 x1 x2 x3 x4 := rfl

@[inherit_doc gq_tiles] theorem gb_tiles : out0_17 x0 x1 x2 x3 x4 x5 x6 x7 x8 x9 x10 x11
    = tiles (fun h _ _ => k0_pay32 (k0_pay18 h (View.ld x5 r0_12)) (View.ld x6 r0_17) (View.ld x7 r0_11))
      x0 x1 x2 x3 x4 := rfl

@[inherit_doc gq_tiles] theorem aq_tiles : out0_18 x0 x1 x2 x3 x4 x5 x6 x7 x8 x9 x10 x11
    = tiles (fun h cs sn => k0_pay24 (k0_pay21 (k0_pay17 h (View.ld x5 r0_9) (View.ld x10 r0_10) (View.ld x8 r0_11)) cs sn))
      x0 x1 x2 x3 x4 := rfl

@[inherit_doc gq_tiles] theorem ak_tiles : out0_19 x0 x1 x2 x3 x4 x5 x6 x7 x8 x9 x10 x11
    = tiles (fun h cs sn => k0_pay25 (k0_pay20 (k0_pay19 h (View.ld x5 r0_12) (View.ld x11 r0_13)) (View.ld x9 r0_14))
      (k0_pay22 sn) (k0_pay23 (k0_pay19 h (View.ld x5 r0_12) (View.ld x11 r0_13)) (View.ld x9 r0_14) cs)
      (iota .tc S256x128 32 [1] iota_S256x128_d1_w32)) x0 x1 x2 x3 x4 := rfl

@[inherit_doc gq_tiles] theorem av_tiles : out0_20 x0 x1 x2 x3 x4 x5 x6 x7 x8 x9 x10 x11
    = tiles (fun h _ _ => k0_pay52 (k0_pay18 h (View.ld x5 r0_12))) x0 x1 x2 x3 x4 := rfl

end Outputs

end Even

end
-- ==== Proof.EvenLayer.lean ====
module

public import proofs.«01_k».proof.Proof.Gen.Kernel5Ideal.Value
public import proofs.«01_k».proof.Proof.EvenBlock

@[expose] public section

/-! What the kernel before the first layer's mixers leaves: the scan's and the attention's inputs of every row. -/

set_option maxRecDepth 16384

noncomputable section

namespace Even

open Cert.Kernel5Ideal Cert.Kernel5Ideal.Gen Cert.Kernel5Ideal.Value Idealize.ShloMosaic Idealize.ShloMosaic.TcCoe
  Idealize.ShloMosaic.StableHlo Post

variable (m : (ℓ : Loc nD τ sig) → Buf (Elt Ideal) ℓ)

/-- The stream before the layer. -/
abbrev argX (c : Dev nD) : Vec Ideal S8x4096x1024 .f32 := m ((c : Thread nD τ).loc main_arg0)

/-- The arrays the kernel's windows read, as the host leaves them. -/
abbrev hostM (c : Dev nD) : Vec Ideal S32x1x6144 .f32 := V m c main_v0
abbrev hostCos (c : Dev nD) : Vec Ideal S4096x128 .f32 := V m c main_v4
abbrev hostSin (c : Dev nD) : Vec Ideal S4096x128 .f32 := V m c main_v9
abbrev hostN (c : Dev nD) : Vec Ideal S1x1024 .f32 := V m c main_v55
abbrev hostW (c : Dev nD) : Vec Ideal S1024x2336 .bf16 := V m c main_v16
abbrev hostG (c : Dev nD) : Vec Ideal S32x512 .bf16 := V m c main_v26
abbrev hostB (c : Dev nD) : Vec Ideal S1x512 .f32 := V m c main_v28
abbrev hostQn (c : Dev nD) : Vec Ideal S1x512 .f32 := V m c main_v38
abbrev hostKn (c : Dev nD) : Vec Ideal S1x128 .f32 := V m c main_v48
abbrev hostBq (c : Dev nD) : Vec Ideal S512x512 .bf16 := V m c main_v50
abbrev hostBk (c : Dev nD) : Vec Ideal S128x128 .bf16 := V m c main_v52

/-- A point's batch. -/
def batch (t : Fin cfg0.N) : Fin 8 := ⟨t.val / 8, by
  have h : t.val < 64 := lt_of_lt_of_eq t.isLt N_0
  omega⟩

/-- A row of a point's tile. -/
def tileRow (t : Fin cfg0.N) (r : Fin 512) : Fin 4096 := ⟨512 * (t.val % 8) + r.val, by omega⟩

/-- The block indices of the input windows that move, decided over the grid. -/
theorem in_index : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 2) = t.val % 8 ∧ win0_2.index t (1 : Fin 2) = 0)
    ∧ (win0_3.index t (0 : Fin 2) = t.val % 8 ∧ win0_3.index t (1 : Fin 2) = 0) :=
  (by decide +kernel : ∀ t : Fin grid0.N, _)

/-- The block indices of the input windows that do not, decided over the grid. -/
theorem still_index : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] :=
  (by decide +kernel : ∀ t : Fin grid0.N, _)

/-- A row of a point's block of the stream. -/
theorem iblk_x (c : Dev nD) (t : Fin cfg0.N) (r : Fin 512) (d : Fin 1024) :
    (iblk m c 0 t : Vec Ideal S1x512x1024 .f32) (ix3 0 r d) = argX m c (ix3 (batch t) (tileRow t r) d) := by
  obtain ⟨⟨h0, h1, h2⟩, -⟩ := in_index t
  refine (congrArg (V m c main_arg0 : Vec Ideal S8x4096x1024 .f32) (funext fun a => Fin.ext ?_)).trans
    (congrFun (V_main_arg0 m c) _)
  match a with
  | ⟨0, _⟩ => show win0_0.index t (0 : Fin 3) * 1 + 1 * 0 = t.val / 8; rw [h0]; omega
  | ⟨1, _⟩ => show win0_0.index t (1 : Fin 3) * 512 + 1 * r.val = 512 * (t.val % 8) + r.val; rw [h1]; omega
  | ⟨2, _⟩ => show win0_0.index t (2 : Fin 3) * 1024 + 1 * d.val = d.val; rw [h2]; omega

/-- A point's modulation row: its batch's row of the first layer. -/
theorem iblk_m (c : Dev nD) (t : Fin cfg0.N) (k : Fin 6144) :
    (iblk m c 1 t : Vec Ideal S1x1x6144 .f32) (ix3 0 0 k)
      = hostM m c (ix3 ⟨(batch t).val, by have h := (batch t).isLt; omega⟩ 0 k) := by
  obtain ⟨-, ⟨h0, h1, h2⟩, -⟩ := in_index t
  refine congrArg (hostM m c) (funext fun a => Fin.ext ?_)
  match a with
  | ⟨0, _⟩ => show win0_1.index t (0 : Fin 3) * 1 + 1 * 0 = t.val / 8; rw [h0]; omega
  | ⟨1, _⟩ => show win0_1.index t (1 : Fin 3) * 1 + 1 * 0 = 0; rw [h1]
  | ⟨2, _⟩ => show win0_1.index t (2 : Fin 3) * 6144 + 1 * k.val = k.val; rw [h2]; omega

/-- A point's rows of the cosines. -/
theorem iblk_cos (c : Dev nD) (t : Fin cfg0.N) (r : Fin 512) (k : Fin 128) :
    (iblk m c 2 t : Vec Ideal S512x128 .f32) (ix2 r k) = hostCos m c (ix2 (tileRow t r) k) := by
  obtain ⟨-, -, ⟨h0, h1⟩, -⟩ := in_index t
  refine congrArg (hostCos m c) (funext fun a => Fin.ext ?_)
  match a with
  | ⟨0, _⟩ => show win0_2.index t (0 : Fin 2) * 512 + 1 * r.val = 512 * (t.val % 8) + r.val; rw [h0]; omega
  | ⟨1, _⟩ => show win0_2.index t (1 : Fin 2) * 128 + 1 * k.val = k.val; rw [h1]; omega

/-- A point's rows of the sines. -/
theorem iblk_sin (c : Dev nD) (t : Fin cfg0.N) (r : Fin 512) (k : Fin 128) :
    (iblk m c 3 t : Vec Ideal S512x128 .f32) (ix2 r k) = hostSin m c (ix2 (tileRow t r) k) := by
  obtain ⟨-, -, -, h0, h1⟩ := in_index t
  refine congrArg (hostSin m c) (funext fun a => Fin.ext ?_)
  match a with
  | ⟨0, _⟩ => show win0_3.index t (0 : Fin 2) * 512 + 1 * r.val = 512 * (t.val % 8) + r.val; rw [h0]; omega
  | ⟨1, _⟩ => show win0_3.index t (1 : Fin 2) * 128 + 1 * k.val = k.val; rw [h1]; omega

/-- A place in a block that is the whole matrix. -/
theorem whole_place {a b : Nat} {k : Fin 2 → Nat} (hk : k = ![0, 0]) (y i : (⟨2, ![a, b]⟩ : Shape).Idx)
    (h0 : (i 0).val = k 0 * a + 1 * (y 0).val) (h1 : (i 1).val = k 1 * b + 1 * (y 1).val) : i = y := by
  subst hk
  refine funext fun x => Fin.ext ?_
  match x with
  | ⟨0, _⟩ => exact h0.trans (by show 0 * a + 1 * (y 0).val = (y 0).val; omega)
  | ⟨1, _⟩ => exact h1.trans (by show 0 * b + 1 * (y 1).val = (y 1).val; omega)

/-- The blocks that are whole arrays. -/
theorem iblk_n (c : Dev nD) (t : Fin cfg0.N) : (iblk m c 4 t : Vec Ideal S1x1024 .f32) = hostN m c :=
  funext fun y => congrArg (hostN m c) (whole_place (still_index t).1 y _ rfl rfl)

@[inherit_doc iblk_n] theorem iblk_w (c : Dev nD) (t : Fin cfg0.N) :
    (iblk m c 5 t : Vec Ideal S1024x2336 .bf16) = hostW m c :=
  funext fun y => congrArg (hostW m c) (whole_place (still_index t).2.1 y _ rfl rfl)

@[inherit_doc iblk_n] theorem iblk_g (c : Dev nD) (t : Fin cfg0.N) :
    (iblk m c 6 t : Vec Ideal S32x512 .bf16) = hostG m c :=
  funext fun y => congrArg (hostG m c) (whole_place (still_index t).2.2.1 y _ rfl rfl)

@[inherit_doc iblk_n] theorem iblk_b (c : Dev nD) (t : Fin cfg0.N) : (iblk m c 7 t : Vec Ideal S1x512 .f32) = hostB m c :=
  funext fun y => congrArg (hostB m c) (whole_place (still_index t).2.2.2.1 y _ rfl rfl)

@[inherit_doc iblk_n] theorem iblk_qn (c : Dev nD) (t : Fin cfg0.N) :
    (iblk m c 8 t : Vec Ideal S1x512 .f32) = hostQn m c :=
  funext fun y => congrArg (hostQn m c) (whole_place (still_index t).2.2.2.2.1 y _ rfl rfl)

@[inherit_doc iblk_n] theorem iblk_kn (c : Dev nD) (t : Fin cfg0.N) :
    (iblk m c 9 t : Vec Ideal S1x128 .f32) = hostKn m c :=
  funext fun y => congrArg (hostKn m c) (whole_place (still_index t).2.2.2.2.2.1 y _ rfl rfl)

@[inherit_doc iblk_n] theorem iblk_bq (c : Dev nD) (t : Fin cfg0.N) :
    (iblk m c 10 t : Vec Ideal S512x512 .bf16) = hostBq m c :=
  funext fun y => congrArg (hostBq m c) (whole_place (still_index t).2.2.2.2.2.2.1 y _ rfl rfl)

@[inherit_doc iblk_n] theorem iblk_bk (c : Dev nD) (t : Fin cfg0.N) :
    (iblk m c 11 t : Vec Ideal S128x128 .bf16) = hostBk m c :=
  funext fun y => congrArg (hostBk m c) (whole_place (still_index t).2.2.2.2.2.2.2 y _ rfl rfl)

/-- A row of the stream, normalised and modulated. -/
def row (c : Dev nD) (b : Fin 8) (t : Fin 4096) : Fin 1024 → EReal :=
  normed (fun k => hostM m c (ix3 ⟨b.val, by omega⟩ 0 k)) (fun d => hostN m c (ix2 0 d)) (fun d => argX m c (ix3 b t d))

/-- What a row's entry of an output is, of the normalised row and the row's cosines and sines. -/
abbrev Entry (w : Nat) (e : EltTy) := (Fin 1024 → EReal) → (Fin 128 → EReal) → (Fin 128 → EReal) → Fin w → Elt Ideal e

/-- The array of an output. -/
def entries {w : Nat} (e : EltTy) (c : Dev nD) (E : Entry w e) : Vec Ideal ⟨3, ![8, 4096, w]⟩ e := fun i =>
  E (row m c (i 0) (i 1)) (fun k => hostCos m c (ix2 (i 1) k)) (fun k => hostSin m c (ix2 (i 1) k)) (i 2)

/-- The scan's queries. -/
def entryGq (c : Dev nD) : Entry 256 .bf16 := fun h _ _ d =>
  prod (hostW m c) h ⟨d.val, by omega⟩ * Ideal.ofBits .f32 0x3E000000#32
/-- The scan's keys. -/
def entryGk (c : Dev nD) : Entry 256 .bf16 := fun h _ _ d => prod (hostW m c) h ⟨256 + d.val, by omega⟩
/-- The scan's values. -/
def entryGv (c : Dev nD) : Entry 512 .bf16 := fun h _ _ d => prod (hostW m c) h ⟨512 + d.val, by omega⟩
/-- The scan's output gates. -/
def entryGog (c : Dev nD) : Entry 512 .bf16 := fun h _ _ d => prod (hostW m c) h ⟨1024 + d.val, by omega⟩
/-- The scan's gates, both directions' side by side. -/
def entryG (c : Dev nD) (h : Fin 1024 → EReal) (d : Fin 512) : EReal :=
  gate ((∑ z : Fin 32, prod (hostW m c) h ⟨2304 + z.val, by omega⟩ * hostG m c (ix2 z d)) + hostB m c (ix2 0 d))
/-- The scan's forward gates. -/
def entryGf (c : Dev nD) : Entry 256 .f32 := fun h _ _ d => entryG m c h ⟨d.val, by omega⟩
/-- The scan's backward gates. -/
def entryGb (c : Dev nD) : Entry 256 .f32 := fun h _ _ d => entryG m c h ⟨256 + d.val, by omega⟩
/-- The attention's queries. -/
def entryAq (c : Dev nD) : Entry 512 .bf16 := fun h cs sn d =>
  rotate (by norm_num) cs sn (headNorm (fun e d => hostBq m c (ix2 e d)) (fun d => hostQn m c (ix2 0 d))
    (fun k => prod (hostW m c) h ⟨1536 + k.val, by omega⟩)) d * (((8 * Real.log 2)⁻¹ : ℝ) : EReal)
/-- The attention's keys. -/
def entryAk (c : Dev nD) : Entry 128 .bf16 := fun h cs sn d =>
  rotate (by norm_num) cs sn (headNorm (fun e d => hostBk m c (ix2 e d)) (fun d => hostKn m c (ix2 0 d))
    (fun k => prod (hostW m c) h ⟨2048 + k.val, by omega⟩)) d
/-- The attention's values, each head's beside ones. -/
def entryAv (c : Dev nD) : Entry 256 .bf16 := fun h _ _ d =>
  valueAt (fun k => prod (hostW m c) h ⟨2176 + k.val, by omega⟩) d

/-- The attention's keys, values and gates' inputs from the last 288 columns. -/
theorem tail_prod (w : Vec Ideal S1024x2336 .bf16) (h : FVec Ideal S256x1024 .bf16) (r : Fin 256) (d : Fin 288) :
    k0_pay18 (F := Ideal) h (View.ld w r0_12) (ix2 r d) = prod w (fun e => h (ix2 r e)) ⟨2048 + d.val, by omega⟩ := by
  rw [tail_apply]
  exact sum_mul_congr (fun _ => rfl) fun e => ld_cols w 2048 288 inb_S1024x2336_S1024x288_0_2048 (by norm_num) e d

section Outputs

variable (c : Dev nD) (h : FVec Ideal S256x1024 .bf16) (cs sn : Vec Ideal S256x128 .f32) (r : Fin 256)

/-- What each store holds. -/
theorem store_gq (d : Fin 256) : k0_pay13 (F := Ideal) h (View.ld (hostW m c) r0_4) (ix3 0 r d)
    = entryGq m c (fun e => h (ix2 r e)) (fun k => cs (ix2 r k)) (fun k => sn (ix2 r k)) d := by
  rw [gq_apply]
  refine congrArg (· * _) (sum_mul_congr (fun _ => rfl) fun e => ?_)
  refine (ld_cols _ 0 512 inb_S1024x2336_S1024x512_0_0 (by norm_num) e _).trans ?_
  exact congrArg (fun k => hostW m c (ix2 e k)) (Fin.ext (Nat.zero_add _))

@[inherit_doc store_gq] theorem store_gk (d : Fin 256) : k0_pay14 (F := Ideal) h (View.ld (hostW m c) r0_4) (ix3 0 r d)
    = entryGk m c (fun e => h (ix2 r e)) (fun k => cs (ix2 r k)) (fun k => sn (ix2 r k)) d := by
  rw [gk_apply]
  unfold entryGk prod
  refine sum_mul_congr (fun e => rfl) fun e => ?_
  refine (ld_cols _ 0 512 inb_S1024x2336_S1024x512_0_0 (by norm_num) e _).trans ?_
  exact congrArg (fun k => hostW m c (ix2 e k)) (Fin.ext (Nat.zero_add _))

@[inherit_doc store_gq] theorem store_gv (d : Fin 512) : k0_pay15 (F := Ideal) h (View.ld (hostW m c) r0_6) (ix3 0 r d)
    = entryGv m c (fun e => h (ix2 r e)) (fun k => cs (ix2 r k)) (fun k => sn (ix2 r k)) d := by
  rw [gv_apply]
  unfold entryGv prod
  exact sum_mul_congr (fun e => rfl) fun e => ld_cols _ 512 512 inb_S1024x2336_S1024x512_0_512 (by norm_num) e _

@[inherit_doc store_gq] theorem store_gog (d : Fin 512) : k0_pay15 (F := Ideal) h (View.ld (hostW m c) r0_8) (ix3 0 r d)
    = entryGog m c (fun e => h (ix2 r e)) (fun k => cs (ix2 r k)) (fun k => sn (ix2 r k)) d := by
  rw [gv_apply]
  unfold entryGog prod
  exact sum_mul_congr (fun e => rfl) fun e => ld_cols _ 1024 512 inb_S1024x2336_S1024x512_0_1024 (by norm_num) e _

@[inherit_doc store_gq] theorem store_g (d : Fin 512) :
    k0_pay30 (F := Ideal) (k0_pay18 h (View.ld (hostW m c) r0_12)) (View.ld (hostG m c) r0_17) (View.ld (hostB m c) r0_11)
      (ix2 r d) = entryG m c (fun e => h (ix2 r e)) d := by
  rw [gates_apply, ld_all2, ld_all2]
  refine congrArg (fun s => gate (s + _)) (sum_mul_congr (fun z => (tail_prod _ h r _).trans ?_) fun _ => rfl)
  exact congrArg (prod _ _) (Fin.ext (by show 2048 + (256 + z.val) = 2304 + z.val; omega))

@[inherit_doc store_gq] theorem store_aq (d : Fin 512) :
    k0_pay24 (F := Ideal) (k0_pay21 (k0_pay17 h (View.ld (hostW m c) r0_9) (View.ld (hostBq m c) r0_10)
      (View.ld (hostQn m c) r0_11)) cs sn) (ix3 0 r d)
    = entryAq m c (fun e => h (ix2 r e)) (fun k => cs (ix2 r k)) (fun k => sn (ix2 r k)) d := by
  rw [aq_apply, qrot_apply, ld_all2, ld_all2]
  refine congrArg (fun y => rotate _ _ _ y d * _) (funext fun k => ?_)
  rw [qnorm_apply]
  refine congrArg (fun y => headNorm _ _ y k) (funext fun k => ?_)
  exact sum_mul_congr (fun _ => rfl) fun e => ld_cols _ 1536 512 inb_S1024x2336_S1024x512_0_1536 (by norm_num) e _

@[inherit_doc store_gq] theorem store_ak (d : Fin 128) :
    k0_pay25 (F := Ideal) (k0_pay20 (k0_pay19 h (View.ld (hostW m c) r0_12) (View.ld (hostBk m c) r0_13))
        (View.ld (hostKn m c) r0_14)) (k0_pay22 sn)
      (k0_pay23 (k0_pay19 h (View.ld (hostW m c) r0_12) (View.ld (hostBk m c) r0_13)) (View.ld (hostKn m c) r0_14) cs)
      (iota .tc S256x128 32 [1] iota_S256x128_d1_w32) (ix3 0 r d)
    = entryAk m c (fun e => h (ix2 r e)) (fun k => cs (ix2 r k)) (fun k => sn (ix2 r k)) d := by
  rw [ak_apply, ld_all2, ld_all2]
  refine congrArg (fun y => rotate _ _ _ y d) (funext fun k => ?_)
  rw [knorm_apply]
  refine congrArg (fun y => headNorm _ _ y k) (funext fun k => ?_)
  exact sum_mul_congr (fun _ => rfl) fun e =>
    ld_cols _ 2048 288 inb_S1024x2336_S1024x288_0_2048 (by norm_num) e ⟨k.val, by omega⟩

@[inherit_doc store_gq] theorem store_av (d : Fin 256) :
    k0_pay52 (F := Ideal) (k0_pay18 h (View.ld (hostW m c) r0_12)) (ix3 0 r d)
    = entryAv m c (fun e => h (ix2 r e)) (fun k => cs (ix2 r k)) (fun k => sn (ix2 r k)) d := by
  rw [av_apply]
  refine congrArg (fun v => valueAt v d) (funext fun k => (tail_prod _ h r _).trans ?_)
  exact congrArg (prod _ _) (Fin.ext (by show 2048 + (128 + k.val) = 2176 + k.val; omega))

end Outputs

/-- The stores of a point hold the array's entries of its rows. -/
theorem block_apply {w : Nat} {e : EltTy} (c : Dev nD) (t : Fin cfg0.N)
    (S : FVec Ideal S256x1024 .bf16 → Vec Ideal S256x128 .f32 → Vec Ideal S256x128 .f32 → Vec Ideal ⟨3, ![1, 256, w]⟩ e)
    (E : Entry w e) (hS : ∀ h cs sn r d, S h cs sn (ix3 0 r d)
      = E (fun k => h (ix2 r k)) (fun k => cs (ix2 r k)) (fun k => sn (ix2 r k)) d)
    (hc : ∀ y, ∃ p ∈ pieces S (iblk m c 0 t) (iblk m c 1 t) (iblk m c 2 t) (iblk m c 3 t) (iblk m c 4 t), y ∈ p.1.set)
    (r : Fin 512) (d : Fin w) :
    tiles S (iblk m c 0 t) (iblk m c 1 t) (iblk m c 2 t) (iblk m c 3 t) (iblk m c 4 t) (ix3 0 r d)
      = entries m e c E (ix3 (batch t) (tileRow t r) d) := by
  refine (tiles_apply S _ _ _ _ _ E hS hc r d).trans ?_
  unfold entries row
  rw [show row3 (iblk m c 1 t : Vec Ideal S1x1x6144 .f32) 0 = _ from funext (iblk_m m c t), iblk_n,
    show row3 (iblk m c 0 t : Vec Ideal S1x512x1024 .f32) r = _ from funext (iblk_x m c t r),
    funext (iblk_cos m c t r), funext (iblk_sin m c t r)]
  rfl

/-- The block indices of the output windows, decided over the grid. -/
theorem out_index : ∀ t : Fin cfg0.N,
    win0_12.index t = ![t.val / 8, t.val % 8, 0] ∧ win0_13.index t = ![t.val / 8, t.val % 8, 0]
    ∧ win0_14.index t = ![t.val / 8, t.val % 8, 0] ∧ win0_15.index t = ![t.val / 8, t.val % 8, 0]
    ∧ win0_16.index t = ![t.val / 8, t.val % 8, 0] ∧ win0_17.index t = ![t.val / 8, t.val % 8, 0]
    ∧ win0_18.index t = ![t.val / 8, t.val % 8, 0] ∧ win0_19.index t = ![t.val / 8, t.val % 8, 0]
    ∧ win0_20.index t = ![t.val / 8, t.val % 8, 0] :=
  (by decide +kernel : ∀ t : Fin grid0.N, _)

/-- Every point writes its output blocks. -/
theorem flushes : ∀ t : Fin cfg0.N, (cfg0.win 12).flush t = true ∧ (cfg0.win 13).flush t = true
    ∧ (cfg0.win 14).flush t = true ∧ (cfg0.win 15).flush t = true ∧ (cfg0.win 16).flush t = true
    ∧ (cfg0.win 17).flush t = true ∧ (cfg0.win 18).flush t = true ∧ (cfg0.win 19).flush t = true
    ∧ (cfg0.win 20).flush t = true :=
  (by decide +kernel : ∀ t : Fin grid0.N, _)

/-- The point that writes an entry. -/
def writer {w : Nat} (i : (⟨3, ![8, 4096, w]⟩ : Shape).Idx) : Fin cfg0.N :=
  ⟨8 * (i 0).val + (i 1).val / 512, lt_of_lt_of_eq (by
    have h0 : (i 0).val < 8 := (i 0).isLt
    have h1 : (i 1).val < 4096 := (i 1).isLt
    omega) N_0.symm⟩

/-- An entry lies in the block of its writer. -/
theorem in_block {w : Nat} (i : (⟨3, ![8, 4096, w]⟩ : Shape).Idx) {k : Fin 3 → Nat}
    (hk : k = ![(writer i).val / 8, (writer i).val % 8, 0]) (a : Fin 3) :
    k a * (![1, 512, w] : Fin 3 → Nat) a ≤ (i a).val
      ∧ (i a).val < k a * (![1, 512, w] : Fin 3 → Nat) a + (![1, 512, w] : Fin 3 → Nat) a := by
  have h1 : (i 1).val < 4096 := (i 1).isLt
  have h2 : (i 2).val < w := (i 2).isLt
  have hw : (writer i).val = 8 * (i 0).val + (i 1).val / 512 := rfl
  subst hk
  match a with
  | ⟨0, _⟩ => show (writer i).val / 8 * 1 ≤ (i 0).val ∧ (i 0).val < (writer i).val / 8 * 1 + 1; omega
  | ⟨1, _⟩ => show (writer i).val % 8 * 512 ≤ (i 1).val ∧ (i 1).val < (writer i).val % 8 * 512 + 512; omega
  | ⟨2, _⟩ => show 0 * w ≤ (i 2).val ∧ (i 2).val < 0 * w + w; omega

/-- What holds of each of three axes holds of all. -/
theorem all_axes {p : Fin 3 → Prop} (h0 : p 0) (h1 : p 1) (h2 : p 2) (a : Fin 3) : p a :=
  match a with
  | ⟨0, _⟩ => h0
  | ⟨1, _⟩ => h1
  | ⟨2, _⟩ => h2

/-- A block whose entries are those of an array, read at the array's places. -/
theorem block_eq {w : Nat} {e : EltTy} (t : Fin cfg0.N) {o : Vec Ideal ⟨3, ![1, 512, w]⟩ e}
    {G : Vec Ideal ⟨3, ![8, 4096, w]⟩ e} (h : ∀ r d, o (ix3 0 r d) = G (ix3 (batch t) (tileRow t r) d)) {k : Fin 3 → Nat}
    (hk : k = ![t.val / 8, t.val % 8, 0]) (y : (⟨3, ![1, 512, w]⟩ : Shape).Idx) (i : (⟨3, ![8, 4096, w]⟩ : Shape).Idx)
    (hi : ∀ a : Fin 3, (i a).val = k a * (![1, 512, w] : Fin 3 → Nat) a + 1 * (y a).val) : o y = G i := by
  subst hk
  have y0 : (y 0).val = 0 := by have h : (y 0).val < 1 := (y 0).isLt; omega
  have ey : y = ix3 0 (y 1) (y 2) := (eq_ix3 y).trans (congrArg (fun z => ix3 z (y 1) (y 2)) (Fin.ext y0))
  have ei : i = ix3 (batch t) (tileRow t (y 1)) (y 2) := by
    refine funext fun a => Fin.ext ((hi a).trans ?_)
    match a with
    | ⟨0, _⟩ => show t.val / 8 * 1 + 1 * (y 0).val = t.val / 8; omega
    | ⟨1, _⟩ => show t.val % 8 * 512 + 1 * (y 1).val = 512 * (t.val % 8) + (y 1).val; omega
    | ⟨2, _⟩ => show 0 * w + 1 * (y 2).val = (y 2).val; omega
  rw [ei]
  exact (congrArg o ey).trans (h _ _)

/-- A point's block of the scan's queries. -/
theorem out_gq (c : Dev nD) (t : Fin cfg0.N) (r : Fin 512) (d : Fin 256) :
    out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix3 0 r d)
      = entries m .bf16 c (entryGq m c) (ix3 (batch t) (tileRow t r) d) := by
  rw [gq_tiles, iblk_w]
  exact block_apply m (e := .bf16) c t _ (entryGq m c) (store_gq m c) (fun y => cover0_12 _ _ y) r d

/-- The scan's queries' array after the run. -/
theorem array_gq (c : Dev nD) : (dats m 0 c).arrAt 12 cfg0.N = entries m .bf16 c (entryGq m c) := by
  refine (dats m 0 c).arrAt_eq_of_cover 12 (entries m .bf16 c (entryGq m c)) (fun t _ => ?_) fun i =>
    ⟨writer (w := 256) i, (flushes _).1, ?_⟩
  · rw [flushed12]
    funext y
    exact block_eq (e := .bf16) t (out_gq m c t) (out_index t).1 y _ (all_axes rfl rfl rfl)
  · show i ∈ ((View.whole main_v56_0).slice (win0_12.rect (writer (w := 256) i))).set
    rw [View.set_slice_whole, Rect.mem_set_unit]
    exact in_block (w := 256) i (out_index _).1

/-- A point's block of the scan's keys. -/
theorem out_gk (c : Dev nD) (t : Fin cfg0.N) (r : Fin 512) (d : Fin 256) :
    out0_13 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix3 0 r d)
      = entries m .bf16 c (entryGk m c) (ix3 (batch t) (tileRow t r) d) := by
  rw [gk_tiles, iblk_w]
  exact block_apply m (e := .bf16) c t _ (entryGk m c) (store_gk m c) (fun y => cover0_13 _ _ y) r d

/-- The scan's keys' array after the run. -/
theorem array_gk (c : Dev nD) : (dats m 0 c).arrAt 13 cfg0.N = entries m .bf16 c (entryGk m c) := by
  refine (dats m 0 c).arrAt_eq_of_cover 13 (entries m .bf16 c (entryGk m c)) (fun t _ => ?_) fun i =>
    ⟨writer (w := 256) i, (flushes _).2.1, ?_⟩
  · rw [flushed13]
    funext y
    exact block_eq (e := .bf16) t (out_gk m c t) (out_index t).2.1 y _ (all_axes rfl rfl rfl)
  · show i ∈ ((View.whole main_v56_1).slice (win0_13.rect (writer (w := 256) i))).set
    rw [View.set_slice_whole, Rect.mem_set_unit]
    exact in_block (w := 256) i (out_index _).2.1

/-- A point's block of the scan's values. -/
theorem out_gv (c : Dev nD) (t : Fin cfg0.N) (r : Fin 512) (d : Fin 512) :
    out0_14 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix3 0 r d)
      = entries m .bf16 c (entryGv m c) (ix3 (batch t) (tileRow t r) d) := by
  rw [gv_tiles, iblk_w]
  exact block_apply m (e := .bf16) c t _ (entryGv m c) (store_gv m c) (fun y => cover0_14 _ _ y) r d

/-- The scan's values' array after the run. -/
theorem array_gv (c : Dev nD) : (dats m 0 c).arrAt 14 cfg0.N = entries m .bf16 c (entryGv m c) := by
  refine (dats m 0 c).arrAt_eq_of_cover 14 (entries m .bf16 c (entryGv m c)) (fun t _ => ?_) fun i =>
    ⟨writer (w := 512) i, (flushes _).2.2.1, ?_⟩
  · rw [flushed14]
    funext y
    exact block_eq (e := .bf16) t (out_gv m c t) (out_index t).2.2.1 y _ (all_axes rfl rfl rfl)
  · show i ∈ ((View.whole main_v56_2).slice (win0_14.rect (writer (w := 512) i))).set
    rw [View.set_slice_whole, Rect.mem_set_unit]
    exact in_block (w := 512) i (out_index _).2.2.1

/-- A point's block of the scan's output gates. -/
theorem out_gog (c : Dev nD) (t : Fin cfg0.N) (r : Fin 512) (d : Fin 512) :
    out0_15 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix3 0 r d)
      = entries m .bf16 c (entryGog m c) (ix3 (batch t) (tileRow t r) d) := by
  rw [gog_tiles, iblk_w]
  exact block_apply m (e := .bf16) c t _ (entryGog m c) (store_gog m c) (fun y => cover0_15 _ _ y) r d

/-- The scan's output gates' array after the run. -/
theorem array_gog (c : Dev nD) : (dats m 0 c).arrAt 15 cfg0.N = entries m .bf16 c (entryGog m c) := by
  refine (dats m 0 c).arrAt_eq_of_cover 15 (entries m .bf16 c (entryGog m c)) (fun t _ => ?_) fun i =>
    ⟨writer (w := 512) i, (flushes _).2.2.2.1, ?_⟩
  · rw [flushed15]
    funext y
    exact block_eq (e := .bf16) t (out_gog m c t) (out_index t).2.2.2.1 y _ (all_axes rfl rfl rfl)
  · show i ∈ ((View.whole main_v56_3).slice (win0_15.rect (writer (w := 512) i))).set
    rw [View.set_slice_whole, Rect.mem_set_unit]
    exact in_block (w := 512) i (out_index _).2.2.2.1

/-- A point's block of the scan's forward gates. -/
theorem out_gf (c : Dev nD) (t : Fin cfg0.N) (r : Fin 512) (d : Fin 256) :
    out0_16 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix3 0 r d)
      = entries m .f32 c (entryGf m c) (ix3 (batch t) (tileRow t r) d) := by
  rw [gf_tiles, iblk_w, iblk_g, iblk_b]
  exact block_apply m (e := .f32) c t _ (entryGf m c) (fun h _ _ r d => (gf_apply _ _ _ r d).trans (store_g m c h r _)) (fun y => cover0_16 _ _ y) r d

/-- The scan's forward gates' array after the run. -/
theorem array_gf (c : Dev nD) : (dats m 0 c).arrAt 16 cfg0.N = entries m .f32 c (entryGf m c) := by
  refine (dats m 0 c).arrAt_eq_of_cover 16 (entries m .f32 c (entryGf m c)) (fun t _ => ?_) fun i =>
    ⟨writer (w := 256) i, (flushes _).2.2.2.2.1, ?_⟩
  · rw [flushed16]
    funext y
    exact block_eq (e := .f32) t (out_gf m c t) (out_index t).2.2.2.2.1 y _ (all_axes rfl rfl rfl)
  · show i ∈ ((View.whole main_v56_4).slice (win0_16.rect (writer (w := 256) i))).set
    rw [View.set_slice_whole, Rect.mem_set_unit]
    exact in_block (w := 256) i (out_index _).2.2.2.2.1

/-- A point's block of the scan's backward gates. -/
theorem out_gb (c : Dev nD) (t : Fin cfg0.N) (r : Fin 512) (d : Fin 256) :
    out0_17 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix3 0 r d)
      = entries m .f32 c (entryGb m c) (ix3 (batch t) (tileRow t r) d) := by
  rw [gb_tiles, iblk_w, iblk_g, iblk_b]
  exact block_apply m (e := .f32) c t _ (entryGb m c) (fun h _ _ r d => (gb_apply _ _ _ r d).trans (store_g m c h r _)) (fun y => cover0_17 _ _ y) r d

/-- The scan's backward gates' array after the run. -/
theorem array_gb (c : Dev nD) : (dats m 0 c).arrAt 17 cfg0.N = entries m .f32 c (entryGb m c) := by
  refine (dats m 0 c).arrAt_eq_of_cover 17 (entries m .f32 c (entryGb m c)) (fun t _ => ?_) fun i =>
    ⟨writer (w := 256) i, (flushes _).2.2.2.2.2.1, ?_⟩
  · rw [flushed17]
    funext y
    exact block_eq (e := .f32) t (out_gb m c t) (out_index t).2.2.2.2.2.1 y _ (all_axes rfl rfl rfl)
  · show i ∈ ((View.whole main_v56_5).slice (win0_17.rect (writer (w := 256) i))).set
    rw [View.set_slice_whole, Rect.mem_set_unit]
    exact in_block (w := 256) i (out_index _).2.2.2.2.2.1

/-- A point's block of the attention's queries. -/
theorem out_aq (c : Dev nD) (t : Fin cfg0.N) (r : Fin 512) (d : Fin 512) :
    out0_18 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix3 0 r d)
      = entries m .bf16 c (entryAq m c) (ix3 (batch t) (tileRow t r) d) := by
  rw [aq_tiles, iblk_w, iblk_bq, iblk_qn]
  exact block_apply m (e := .bf16) c t _ (entryAq m c) (store_aq m c) (fun y => cover0_18 _ _ y) r d

/-- The attention's queries' array after the run. -/
theorem array_aq (c : Dev nD) : (dats m 0 c).arrAt 18 cfg0.N = entries m .bf16 c (entryAq m c) := by
  refine (dats m 0 c).arrAt_eq_of_cover 18 (entries m .bf16 c (entryAq m c)) (fun t _ => ?_) fun i =>
    ⟨writer (w := 512) i, (flushes _).2.2.2.2.2.2.1, ?_⟩
  · rw [flushed18]
    funext y
    exact block_eq (e := .bf16) t (out_aq m c t) (out_index t).2.2.2.2.2.2.1 y _ (all_axes rfl rfl rfl)
  · show i ∈ ((View.whole main_v56_6).slice (win0_18.rect (writer (w := 512) i))).set
    rw [View.set_slice_whole, Rect.mem_set_unit]
    exact in_block (w := 512) i (out_index _).2.2.2.2.2.2.1

/-- A point's block of the attention's keys. -/
theorem out_ak (c : Dev nD) (t : Fin cfg0.N) (r : Fin 512) (d : Fin 128) :
    out0_19 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix3 0 r d)
      = entries m .bf16 c (entryAk m c) (ix3 (batch t) (tileRow t r) d) := by
  rw [ak_tiles, iblk_w, iblk_bk, iblk_kn]
  exact block_apply m (e := .bf16) c t _ (entryAk m c) (store_ak m c) (fun y => cover0_19 _ _ y) r d

/-- The attention's keys' array after the run. -/
theorem array_ak (c : Dev nD) : (dats m 0 c).arrAt 19 cfg0.N = entries m .bf16 c (entryAk m c) := by
  refine (dats m 0 c).arrAt_eq_of_cover 19 (entries m .bf16 c (entryAk m c)) (fun t _ => ?_) fun i =>
    ⟨writer (w := 128) i, (flushes _).2.2.2.2.2.2.2.1, ?_⟩
  · rw [flushed19]
    funext y
    exact block_eq (e := .bf16) t (out_ak m c t) (out_index t).2.2.2.2.2.2.2.1 y _ (all_axes rfl rfl rfl)
  · show i ∈ ((View.whole main_v56_7).slice (win0_19.rect (writer (w := 128) i))).set
    rw [View.set_slice_whole, Rect.mem_set_unit]
    exact in_block (w := 128) i (out_index _).2.2.2.2.2.2.2.1

/-- A point's block of the attention's values. -/
theorem out_av (c : Dev nD) (t : Fin cfg0.N) (r : Fin 512) (d : Fin 256) :
    out0_20 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix3 0 r d)
      = entries m .bf16 c (entryAv m c) (ix3 (batch t) (tileRow t r) d) := by
  rw [av_tiles, iblk_w]
  exact block_apply m (e := .bf16) c t _ (entryAv m c) (store_av m c) (fun y => cover0_20 _ _ y) r d

/-- The attention's values' array after the run. -/
theorem array_av (c : Dev nD) : (dats m 0 c).arrAt 20 cfg0.N = entries m .bf16 c (entryAv m c) := by
  refine (dats m 0 c).arrAt_eq_of_cover 20 (entries m .bf16 c (entryAv m c)) (fun t _ => ?_) fun i =>
    ⟨writer (w := 256) i, (flushes _).2.2.2.2.2.2.2.2, ?_⟩
  · rw [flushed20]
    funext y
    exact block_eq (e := .bf16) t (out_av m c t) (out_index t).2.2.2.2.2.2.2.2 y _ (all_axes rfl rfl rfl)
  · show i ∈ ((View.whole main_v56_8).slice (win0_20.rect (writer (w := 256) i))).set
    rw [View.set_slice_whole, Rect.mem_set_unit]
    exact in_block (w := 256) i (out_index _).2.2.2.2.2.2.2.2

end Even

end
-- ==== Proof.EvenMeans.lean ====
module

public import proofs.«01_k».proof.Defs
public import Idealize.ShloMosaic.Lib.Decide
public import Idealize.ShloMosaic.Lib.ReduceAll
public import proofs.«01_k».proof.Proof.EvenBlock

@[expose] public section

/-! What the precondition says of the two arrays that average within a head. -/

set_option maxRecDepth 16384

noncomputable section

namespace Even

open Idealize.ShloMosaic Idealize.ShloMosaic.TcCoe Idealize.ShloMosaic.StableHlo Post

section Facts

open Cert.Pre_head_means

/-- The side conditions of the precondition's operations. -/
instance means_facts : Cert.Pre_head_means.Facts where
  bcast_S8x8_S8x1x8x1_0_2 := by decide
  bcast_S8x1x8x1_S8x64x8x64_0_1_2_3 := by decide
  reducesTo_S8x64x8x64_S_d0_1_2_3 := by decide
  h_S_ := by decide
  bcast_S2x2_S2x1x2x1_0_2 := by decide
  bcast_S2x1x2x1_S2x64x2x64_0_1_2_3 := by decide
  reducesTo_S2x64x2x64_S_d0_1_2_3 := by decide

/-- The numbers the precondition lists, one for two heads: a sixty-fourth for a head and itself. -/
theorem means_listed : ∀ i j : Fin 8, lit0 ⟨i.val * 8 + j.val, by omega⟩ = if i = j then 0x3C800000#32 else 0#32 := by
  decide +kernel

@[inherit_doc means_listed] theorem means_listed' :
    ∀ i j : Fin 2, lit1 ⟨i.val * 2 + j.val, by omega⟩ = if i = j then 0x3C800000#32 else 0#32 := by
  decide +kernel

end Facts

/-- The same numbers, read. -/
theorem means_eq {n : Nat} {f : Fin n → Fin n → BitVec 32} (h : ∀ i j, f i j = if i = j then 0x3C800000#32 else 0#32)
    (i j : Fin n) : Ideal.ofBits .f32 (f i j) = if i = j then Ideal.ofBits .f32 0x3C800000#32 else 0 := by
  rw [h]
  split_ifs
  · rfl
  · simp [Ideal.ofBits, Ideal.ieee]

/-- Numbers that compare equal are equal. -/
theorem eq_of_oeq {x y : EReal} (h : FloatOps.cmpf (F := Ideal) (φ := .f32) .oeq x y = 1#1) : x = y := by
  change BitVec.ofBool (decide (x = y)) = 1#1 at h
  by_contra hn
  rw [decide_eq_false hn] at h
  exact absurd h (by decide)

variable (m : (ℓ : Loc Cert.Kernel5Ideal.nD Cert.Kernel5Ideal.τ Cert.Kernel5Ideal.sig) → Buf (Elt Ideal) ℓ)
  (c : Dev Cert.Kernel5Ideal.nD)

/-- What averages within a query's head. -/
abbrev argBq : Vec Ideal Cert.Kernel5Ideal.S8x64x8x64 .f32 :=
  m ((c : Thread Cert.Kernel5Ideal.nD Cert.Kernel5Ideal.τ).loc Cert.Kernel5Ideal.main_arg10)
/-- What averages within a key's head. -/
abbrev argBk : Vec Ideal Cert.Kernel5Ideal.S2x64x2x64 .f32 :=
  m ((c : Thread Cert.Kernel5Ideal.nD Cert.Kernel5Ideal.τ).loc Cert.Kernel5Ideal.main_arg11)

/-- The precondition's content: a sixty-fourth between a query head's entries, nought between two heads. -/
theorem argBq_apply (h : Cert.Pre_Kernel5Ideal_head_means m) (i k : Fin 8) (j l : Fin 64) :
    argBq m c (ix4 i j k l) = if i = k then Ideal.ofBits .f32 0x3C800000#32 else 0 := by
  have h0 := IntOp.andi_eq_one.1 (congrFun (h c) (Shape.Idx.first means_facts.h_S_))
  refine (eq_of_oeq (Host.reduce_andi_all _ _ _ _ _ h0.1 (ix4 i j k l))).trans ?_
  pointwise
  have e (i j : Fin 8) : Cert.Pre_head_means.lit0 (Cert.Pre_head_means.S8x8.rowMajor (ix2 i j))
      = if i = j then 0x3C800000#32 else 0#32 :=
    (congrArg Cert.Pre_head_means.lit0 (Fin.ext (Shape.rowMajor_val_two _))).trans (means_listed i j)
  exact means_eq e i k

/-- The same of the keys. -/
theorem argBk_apply (h : Cert.Pre_Kernel5Ideal_head_means m) (i k : Fin 2) (j l : Fin 64) :
    argBk m c (ix4 i j k l) = if i = k then Ideal.ofBits .f32 0x3C800000#32 else 0 := by
  have h0 := IntOp.andi_eq_one.1 (congrFun (h c) (Shape.Idx.first means_facts.h_S_))
  refine (eq_of_oeq (Host.reduce_andi_all _ _ _ _ _ h0.2 (ix4 i j k l))).trans ?_
  pointwise
  have e (i j : Fin 2) : Cert.Pre_head_means.lit1 (Cert.Pre_head_means.S2x2.rowMajor (ix2 i j))
      = if i = j then 0x3C800000#32 else 0#32 :=
    (congrArg Cert.Pre_head_means.lit1 (Fin.ext (Shape.rowMajor_val_two _))).trans (means_listed' i j)
  exact means_eq e i k

end Even

end
-- ==== Proof.EvenHost.lean ====
module

public import proofs.«01_k».proof.Proof.EvenLayer
public import proofs.«01_k».proof.Proof.EvenMeans
public import Idealize.ShloMosaic.Lib.Routing.Ops

@[expose] public section

/-! The arrays the host hands the kernel before the first layer's mixers, at an entry, as the arguments' entries. -/

set_option maxRecDepth 16384

noncomputable section

namespace Even

open Cert.Kernel5Ideal Cert.Kernel5Ideal.Gen Cert.Kernel5Ideal.Value Idealize.ShloMosaic Idealize.ShloMosaic.TcCoe
  Idealize.ShloMosaic.StableHlo Post

/-- A head's entry that a lane holds: the even entries lie before the odd ones. -/
def pick (d : Nat) : Nat := 2 * (d % 32) + d / 32 % 2

theorem pick_lt (d : Nat) : pick d < 64 := by
  unfold pick
  omega

/-- The column of the weights that the kernel's column holds. -/
def source (k : Nat) : Nat :=
  if k < 1536 then k else
  if k < 2048 then 1568 + (k / 64 % 2 * 4 + (k - 1536) / 128) * 64 + pick k else
  if k < 2176 then 2080 + k / 64 % 2 * 64 + pick k else
  if k < 2304 then k + 32 else k - 768

theorem source_lt (k : Fin 2336) : source k.val < 2336 := by
  have h := pick_lt k.val
  have hk := k.isLt
  unfold source
  split_ifs <;> omega

theorem pick_mod (d : Nat) : pick (d % 64) = pick d := by
  unfold pick
  omega

/-- The same as a column. -/
def column (k : Fin 2336) : Fin 2336 := ⟨source k.val, source_lt k⟩

/-- The column numbers the host lists. -/
theorem columns_listed : ∀ k : Fin 2336, lit0 k = BitVec.ofNat 32 (source k.val) := by
  decide +kernel

/-- The entries of a gain the host lists for the queries. -/
theorem gains_listed : ∀ k : Fin 64, lit1 k = BitVec.ofNat 32 (pick k.val) ∧ lit2 k = BitVec.ofNat 32 (pick k.val) := by
  decide +kernel

/-- The column numbers, one for each column, as the gather reads them. -/
abbrev columnNumbers : IVec S2336x1 32 := broadcastInDim S2336x1 ![0] bcast_S2336_S2336x1_0
  (select (constantI S2336 1 0#1) (addi (fun i => lit0 (S2336.rowMajor i))
    (broadcastInDim S2336 ![] bcast_S_S2336 (constantI S_ 32 2336#32))) (fun i => lit0 (S2336.rowMajor i)))

/-- The entries' numbers of a gain, as the gather reads them. -/
abbrev gainNumbers (l : Fin 64 → BitVec 32) : IVec S64x1 32 := broadcastInDim S64x1 ![0] bcast_S64_S64x1_0
  (select (constantI S64 1 0#1) (addi (fun i => l (S64.rowMajor i))
    (broadcastInDim S64 ![] bcast_S_S64 (constantI S_ 32 64#32))) (fun i => l (S64.rowMajor i)))

/-- A column number. -/
theorem columnNumbers_apply (k : Fin 2336) : columnNumbers (ix2 k 0) = BitVec.ofNat 32 (column k).val := by
  have e : S2336.rowMajor (ix1 k) = k := Fin.ext (Shape.rowMajor_val_one _)
  exact (congrArg lit0 e).trans (columns_listed k)

/-- The columns a gather reads. -/
theorem gather_columns (x : Vec Ideal S1024x2336 .f32) (idx : IVec S2336x1 32) (e : Fin 1024) (k b : Fin 2336)
    (hb : idx (ix2 k 0) = BitVec.ofNat 32 b.val) :
    Host.gather gather_S1024x2336_S2336x1_S1024x2336_0_1_n_n_1_1_10241 x idx (ix2 e k) = x (ix2 e b) := by
  unfold Host.gather
  refine congrArg x (funext fun a => Fin.ext ?_)
  match a with
  | ⟨0, _⟩ =>
    show GatherDims.start _ (ix2 e k) idx 0 + GatherDims.batchCoord _ (ix2 e k) 0 + GatherDims.offCoord _ (ix2 e k) 0
      = e.val
    rw [GatherDims.batchCoord_eq_zero _ _ _ List.not_mem_nil]
    unfold GatherDims.start
    refine (congrArg (fun v => v + 0 + GatherDims.offCoord _ (ix2 e k) 0)
      (dif_neg (show ¬ (0 : Fin 2) ∈ [(1 : Fin 2)] by decide))).trans ?_
    rw [Nat.zero_add]
    rfl
  | ⟨1, _⟩ =>
    show GatherDims.start _ (ix2 e k) idx 1 + GatherDims.batchCoord _ (ix2 e k) 1 + GatherDims.offCoord _ (ix2 e k) 1
      = b.val
    rw [GatherDims.batchCoord_eq_zero _ _ _ List.not_mem_nil, GatherDims.offCoord_eq_zero _ _ _
      (fun h => ((GatherDims.mem_sKept _ _).mp h).1 (List.mem_singleton.mpr rfl)), Nat.add_zero]
    unfold GatherDims.start
    refine (dif_pos (show (1 : Fin 2) ∈ [(1 : Fin 2)] by decide)).trans ?_
    have hi : GatherDims.siIdx gather_S1024x2336_S2336x1_S1024x2336_0_1_n_n_1_1_10241 (ix2 e k) ⟨0, by decide⟩
        = ix2 k 0 := by
      funext a
      refine Fin.ext ?_
      match a with
      | ⟨0, _⟩ => rfl
      | ⟨1, _⟩ => rfl
    have hn := b.isLt
    refine (congrArg (fun v : BitVec 32 => min v.toInt.toNat (2336 - 1)) ((congrArg idx hi).trans hb)).trans ?_
    rw [Predicate.toInt_ofNat_small _ (by omega)]
    omega

/-- The entries of a gain a gather reads. -/
theorem gather_gains (x : Vec Ideal S64 .f32) (idx : IVec S64x1 32) (k b : Fin 64)
    (hb : idx (ix2 k 0) = BitVec.ofNat 32 b.val) :
    Host.gather gather_S64_S64x1_S64_n_0_n_n_0_1_1 x idx (ix1 k) = x (ix1 b) := by
  unfold Host.gather
  refine congrArg x (funext fun a => Fin.ext ?_)
  match a with
  | ⟨0, _⟩ =>
    show GatherDims.start _ (ix1 k) idx 0 + GatherDims.batchCoord _ (ix1 k) 0 + GatherDims.offCoord _ (ix1 k) 0 = b.val
    rw [GatherDims.batchCoord_eq_zero _ _ _ List.not_mem_nil, GatherDims.offCoord_eq_zero _ _ _
      (fun h => ((GatherDims.mem_sKept _ _).mp h).1 (List.mem_singleton.mpr rfl)), Nat.add_zero]
    unfold GatherDims.start
    refine (dif_pos (show (0 : Fin 1) ∈ [(0 : Fin 1)] by decide)).trans ?_
    have hi : GatherDims.siIdx gather_S64_S64x1_S64_n_0_n_n_0_1_1 (ix1 k) ⟨0, by decide⟩ = ix2 k 0 := by
      funext a
      refine Fin.ext ?_
      match a with
      | ⟨0, _⟩ => rfl
      | ⟨1, _⟩ => rfl
    have hn := b.isLt
    refine (congrArg (fun v : BitVec 32 => min v.toInt.toNat (64 - 1)) ((congrArg idx hi).trans hb)).trans ?_
    rw [Predicate.toInt_ofNat_small _ (by omega)]
    omega

/-- A gain's entries in the lanes' order. -/
theorem gain_apply (l : Fin 64 → BitVec 32) (hl : ∀ k, l k = BitVec.ofNat 32 (pick k.val)) (x : Vec Ideal S1x64 .f32)
    (k : Fin 64) : Host.gather gather_S64_S64x1_S64_n_0_n_n_0_1_1 (shapeCast S64 x shapeCasts_S1x64_S64) (gainNumbers l)
      (ix1 k) = x (ix2 0 ⟨pick k.val, pick_lt _⟩) := by
  have e : S64.rowMajor (ix1 k) = k := Fin.ext (Shape.rowMajor_val_one _)
  refine (gather_gains _ _ k ⟨pick k.val, pick_lt _⟩ ((congrArg l e).trans (hl k))).trans ?_
  pointwise

section Arrays

variable (m : (ℓ : Loc nD τ sig) → Buf (Elt Ideal) ℓ) (c : Dev nD)

/-- The modulation's rows by layer. -/
abbrev argM : Vec Ideal S2x16x6144 .f32 := m ((c : Thread nD τ).loc main_arg1)
/-- The gains of the norm before the mixers. -/
abbrev argN : Vec Ideal S2x1024 .f32 := m ((c : Thread nD τ).loc main_arg2)
/-- The input projection. -/
abbrev argW : Vec Ideal S1x1024x2336 .f32 := m ((c : Thread nD τ).loc main_arg3)
/-- The gates' second projection. -/
abbrev argG : Vec Ideal S1x2x16x256 .f32 := m ((c : Thread nD τ).loc main_arg4)
/-- The gates' offsets. -/
abbrev argB : Vec Ideal S1x2x256 .f32 := m ((c : Thread nD τ).loc main_arg5)
/-- The gain of the queries' norm. -/
abbrev argQ : Vec Ideal S1x64 .f32 := m ((c : Thread nD τ).loc main_arg6)
/-- The gain of the keys' norm. -/
abbrev argK : Vec Ideal S1x64 .f32 := m ((c : Thread nD τ).loc main_arg7)
/-- The cosines. -/
abbrev argC : Vec Ideal S4096x32 .f32 := m ((c : Thread nD τ).loc main_arg8)
/-- The sines. -/
abbrev argS : Vec Ideal S4096x32 .f32 := m ((c : Thread nD τ).loc main_arg9)

/-- The modulation's rows of the first layer. -/
theorem hostM_apply (b : Fin 8) (k : Fin 6144) :
    hostM m c (ix3 ⟨b.val, by omega⟩ 0 k) = argM m c (ix3 0 ⟨b.val, by omega⟩ k) := by
  have e : hostM m c = shapeCast S32x1x6144 (argM m c) shapeCasts_S2x16x6144_S32x1x6144 := by
    unfold hostM V
    after_results <;> rfl
  rw [e]
  pointwise
  exact congrArg₂ (fun i j => argM m c (ix3 i j k)) (Fin.ext (by show b.val / 16 = 0; omega))
    (Fin.ext (by show b.val % 16 = b.val; omega))

/-- The gain of the norm before the first layer's mixers. -/
theorem hostN_apply (d : Fin 1024) : hostN m c (ix2 0 d) = argN m c (ix2 0 d) := by
  have e : hostN m c = shapeCast S1x1024 (shapeCast S1024 (extractStridedSlice S1x1024 ![0, 0] (argN m c)
      slices_S2x1024_S1x1024_0_0) shapeCasts_S1x1024_S1024) shapeCasts_S1024_S1x1024 := by
    unfold hostN V
    after_results <;> rfl
  rw [e]
  pointwise

/-- The cosines, once for each lane. -/
theorem hostCos_apply (t : Fin 4096) (k : Fin 128) :
    hostCos m c (ix2 t k) = argC m c (ix2 t ⟨k.val % 32, Nat.mod_lt _ (by norm_num)⟩) := by
  have e : hostCos m c = shapeCast S4096x128 (broadcastInDim S1x4096x2x64 ![0, 1, 2, 3]
      bcast_S1x4096x1x64_S1x4096x2x64_0_1_2_3 (shapeCast S1x4096x1x64 (concatenate S4096x64 1
        [⟨S4096x32, argC m c⟩, ⟨S4096x32, argC m c⟩] concatenates_S4096x32_S4096x32_S4096x64_d1) shapeCasts_S4096x64_S1x4096x1x64))
      shapeCasts_S1x4096x2x64_S4096x128 := by
    unfold hostCos V
    after_results <;> rfl
  rw [e]
  pointwise
  by_cases h : k.val % 64 < 32
  · exact (dif_pos h).trans (congrArg (fun k => argC m c (ix2 t k)) (Fin.ext (by show k.val % 64 = k.val % 32; omega)))
  · exact (dif_neg h).trans
      (congrArg (fun k => argC m c (ix2 t k)) (Fin.ext (by show k.val % 64 - 32 = k.val % 32; omega)))

/-- The sines, once for each lane, the first half's negated. -/
theorem hostSin_apply (t : Fin 4096) (k : Fin 128) :
    hostSin m c (ix2 t k) = if k.val % 64 < 32 then -argS m c (ix2 t ⟨k.val % 32, Nat.mod_lt _ (by norm_num)⟩)
      else argS m c (ix2 t ⟨k.val % 32, Nat.mod_lt _ (by norm_num)⟩) := by
  have e : hostSin m c = shapeCast S4096x128 (broadcastInDim S1x4096x2x64 ![0, 1, 2, 3]
      bcast_S1x4096x1x64_S1x4096x2x64_0_1_2_3 (shapeCast S1x4096x1x64 (concatenate S4096x64 1
        [⟨S4096x32, Host.negf (F := Ideal) (φ := .f32) (argS m c)⟩, ⟨S4096x32, argS m c⟩]
        concatenates_S4096x32_S4096x32_S4096x64_d1) shapeCasts_S4096x64_S1x4096x1x64))
      shapeCasts_S1x4096x2x64_S4096x128 := by
    unfold hostSin V
    after_results <;> rfl
  rw [e]
  pointwise
  by_cases h : k.val % 64 < 32
  · refine (dif_pos h).trans (Eq.trans ?_ (if_pos h).symm)
    exact congrArg (fun k => -argS m c (ix2 t k)) (Fin.ext (by show k.val % 64 = k.val % 32; omega))
  · refine (dif_neg h).trans (Eq.trans ?_ (if_neg h).symm)
    exact congrArg (fun k => argS m c (ix2 t k)) (Fin.ext (by show k.val % 64 - 32 = k.val % 32; omega))

/-- The input projection's columns in the kernel's order. -/
theorem hostW_apply (e : Fin 1024) (k : Fin 2336) : hostW m c (ix2 e k) = argW m c (ix3 0 e (column k)) := by
  have h : hostW m c = truncf (F := Ideal) .bf16 (Host.gather gather_S1024x2336_S2336x1_S1024x2336_0_1_n_n_1_1_10241
      (shapeCast S1024x2336 (argW m c) shapeCasts_S1x1024x2336_S1024x2336) columnNumbers) bitsLt_bf16_f32 := by
    unfold hostW V
    after_results <;> rfl
  rw [h]
  refine (gather_columns (shapeCast S1024x2336 (argW m c) shapeCasts_S1x1024x2336_S1024x2336) columnNumbers e k (column k) (columnNumbers_apply k)).trans ?_
  pointwise

/-- A direction's second projection of the gates. -/
abbrev half (o : Nat) (h : S2x16x256.Slices ![o, 0, 0] S1x16x256) (x : Vec Ideal S1x2x16x256 .f32) :
    Vec Ideal S16x256 .f32 :=
  shapeCast S16x256 (extractStridedSlice S1x16x256 ![o, 0, 0] (shapeCast S2x16x256 x shapeCasts_S1x2x16x256_S2x16x256) h)
    shapeCasts_S1x16x256_S16x256

/-- The blocks of noughts beside them. -/
abbrev noughts : Vec Ideal S16x256 .f32 :=
  broadcastInDim S16x256 ![] bcast_S_S16x256 (constant (F := Ideal) S_ .f32 0x00000000#32)

/-- The gates' second projections, the forward one's block before and above the backward one's. -/
theorem hostG_apply (z : Fin 32) (d : Fin 512) : hostG m c (ix2 z d)
    = if z.val / 16 = d.val / 256 then argG m c (ix4 0 ⟨d.val / 256, by omega⟩ ⟨z.val % 16, Nat.mod_lt _ (by norm_num)⟩
        ⟨d.val % 256, Nat.mod_lt _ (by norm_num)⟩) else 0 := by
  have e : hostG m c = truncf (F := Ideal) .bf16 (concatenate S32x512 0
      [⟨S16x512, concatenate S16x512 1 [⟨S16x256, half 0 slices_S2x16x256_S1x16x256_0_0_0 (argG m c)⟩, ⟨S16x256, noughts⟩]
        concatenates_S16x256_S16x256_S16x512_d1⟩,
      ⟨S16x512, concatenate S16x512 1 [⟨S16x256, noughts⟩, ⟨S16x256, half 1 slices_S2x16x256_S1x16x256_1_0_0 (argG m c)⟩]
        concatenates_S16x256_S16x256_S16x512_d1⟩] concatenates_S16x512_S16x512_S32x512_d0) bitsLt_bf16_f32 := by
    unfold hostG V
    after_results <;> rfl
  rw [e]
  pointwise
  have hz := z.isLt
  have hd := d.isLt
  by_cases h1 : z.val < 16 <;> by_cases h2 : d.val < 256
  · refine (dif_pos h1).trans ((dif_pos h2).trans (Eq.trans ?_ (if_pos (by omega)).symm))
    refine congrArg (argG m c) (congr (congr (congrArg (ix4 0) (Fin.ext ?_)) (Fin.ext ?_)) (Fin.ext ?_))
    · show 0 = d.val / 256; omega
    · show z.val = z.val % 16; omega
    · show d.val = d.val % 256; omega
  · exact (dif_pos h1).trans ((dif_neg h2).trans (if_neg (by omega)).symm)
  · exact (dif_neg h1).trans ((dif_pos h2).trans (if_neg (by omega)).symm)
  · refine (dif_neg h1).trans ((dif_neg h2).trans (Eq.trans ?_ (if_pos (by omega)).symm))
    refine congrArg (argG m c) (congr (congr (congrArg (ix4 0) (Fin.ext ?_)) (Fin.ext ?_)) (Fin.ext ?_))
    · show 1 = d.val / 256; omega
    · show z.val - 16 = z.val % 16; omega
    · show d.val - 256 = d.val % 256; omega

/-- The gates' offsets, side by side. -/
theorem hostB_apply (d : Fin 512) : hostB m c (ix2 0 d)
    = argB m c (ix3 0 ⟨d.val / 256, by omega⟩ ⟨d.val % 256, Nat.mod_lt _ (by norm_num)⟩) := by
  have e : hostB m c = shapeCast S1x512 (shapeCast S2x256 (argB m c) shapeCasts_S1x2x256_S2x256)
      shapeCasts_S2x256_S1x512 := by
    unfold hostB V
    after_results <;> rfl
  rw [e]
  pointwise

/-- The queries' gain, once for each head. -/
theorem hostQn_apply (d : Fin 512) : hostQn m c (ix2 0 d) = argQ m c (ix2 0 ⟨pick d.val, pick_lt _⟩) := by
  have e : hostQn m c = shapeCast S1x512 (shapeCast S512 (broadcastInDim S8x64 ![0, 1] bcast_S1x64_S8x64_0_1
      (shapeCast S1x64 (Host.gather gather_S64_S64x1_S64_n_0_n_n_0_1_1 (shapeCast S64 (argQ m c) shapeCasts_S1x64_S64)
        (gainNumbers lit1)) shapeCasts_S64_S1x64)) shapeCasts_S8x64_S512) shapeCasts_S512_S1x512 := by
    unfold hostQn V
    after_results <;> rfl
  rw [e]
  pointwise
  refine (gain_apply lit1 (fun k => (gains_listed k).1) (argQ m c) _).trans ?_
  exact congrArg (fun k => argQ m c (ix2 0 k)) (Fin.ext (pick_mod d.val))

/-- The keys' gain, once for each head. -/
theorem hostKn_apply (d : Fin 128) : hostKn m c (ix2 0 d) = argK m c (ix2 0 ⟨pick d.val, pick_lt _⟩) := by
  have e : hostKn m c = shapeCast S1x128 (shapeCast S128 (broadcastInDim S2x64 ![0, 1] bcast_S1x64_S2x64_0_1
      (shapeCast S1x64 (Host.gather gather_S64_S64x1_S64_n_0_n_n_0_1_1 (shapeCast S64 (argK m c) shapeCasts_S1x64_S64)
        (gainNumbers lit2)) shapeCasts_S64_S1x64)) shapeCasts_S2x64_S128) shapeCasts_S128_S1x128 := by
    unfold hostKn V
    after_results <;> rfl
  rw [e]
  pointwise
  refine (gain_apply lit2 (fun k => (gains_listed k).2) (argK m c) _).trans ?_
  exact congrArg (fun k => argK m c (ix2 0 k)) (Fin.ext (pick_mod d.val))

/-- The matrix that averages a query head's entries. -/
theorem hostBq_apply (h : Cert.Pre_Kernel5Ideal_head_means m) (e d : Fin 512) : hostBq m c (ix2 e d)
    = if e.val / 64 = d.val / 64 then Ideal.ofBits .f32 0x3C800000#32 else 0 := by
  have k : hostBq m c = truncf (F := Ideal) .bf16 (shapeCast S512x512 (argBq m c) shapeCasts_S8x64x8x64_S512x512)
      bitsLt_bf16_f32 := by
    unfold hostBq V
    after_results <;> rfl
  rw [k]
  pointwise
  refine (argBq_apply m c h _ _ _ _).trans ?_
  simp only [Fin.mk.injEq]

/-- The matrix that averages a key head's entries. -/
theorem hostBk_apply (h : Cert.Pre_Kernel5Ideal_head_means m) (e d : Fin 128) : hostBk m c (ix2 e d)
    = if e.val / 64 = d.val / 64 then Ideal.ofBits .f32 0x3C800000#32 else 0 := by
  have k : hostBk m c = truncf (F := Ideal) .bf16 (shapeCast S128x128 (argBk m c) shapeCasts_S2x64x2x64_S128x128)
      bitsLt_bf16_f32 := by
    unfold hostBk V
    after_results <;> rfl
  rw [k]
  pointwise
  refine (argBk_apply m c h _ _ _ _).trans ?_
  simp only [Fin.mk.injEq]

end Arrays

end Even

end
-- ==== Proof.EvenRef.lean ====
module

public import proofs.«01_k».proof.Proof.Gen.Reference5Ideal.Run
public import proofs.«01_k».proof.Proof.FirstEquation
public import proofs.«01_k».proof.Proof.Gate

@[expose] public section

/-! The reference's operations before the first layer's mixers, each on whole arrays, and what they are at an entry. -/

set_option maxRecDepth 16384

noncomputable section

namespace Even

open Cert.Reference5Ideal Cert.Reference5Ideal.Gen Idealize.ShloMosaic Idealize.ShloMosaic.TcCoe
  Idealize.ShloMosaic.StableHlo Post

/-- The stream normalised and modulated for the mixers. -/
def refNormed (X : Vec Ideal S8x4096x1024 .f32) (M : Vec Ideal S2x16x6144 .f32) (N : Vec Ideal S2x1024 .f32) :
    Vec Ideal S8x4096x1024 .f32 :=
  hostModulated (extractStridedSlice S8x1x1024 ![0, 0, 0] (First.refMods M) slices_S8x1x6144_S8x1x1024_0_0_0)
    (extractStridedSlice S8x1x1024 ![0, 0, 1024] (First.refMods M) slices_S8x1x6144_S8x1x1024_0_0_1024) X
    (First.refGain N)

/-- The stream through the input projection. -/
def refProduct (X : Vec Ideal S8x4096x1024 .f32) (M : Vec Ideal S2x16x6144 .f32) (N : Vec Ideal S2x1024 .f32)
    (W : Vec Ideal S1x1024x2336 .f32) : Vec Ideal S8x4096x2336 .f32 :=
  Host.dotGeneral (F := Ideal) (φ₁ := .f32) (φ₂ := .f32) dot_S8x4096x1024_S1024x2336_S8x4096x2336_2_0_01_1_n_n none
    (refNormed X M N : FVec Ideal S8x4096x1024 .f32)
    (shapeCast S1024x2336 W shapeCasts_S1x1024x2336_S1024x2336 : FVec Ideal S1024x2336 .f32)

/-- The logarithm of the sigmoid. -/
def refLogSig (s : Vec Ideal S8x4096x256 .f32) : Vec Ideal S8x4096x256 .f32 :=
  let y := Host.negf (F := Ideal) (φ := .f32) s
  let z := broadcastInDim S8x4096x256 ![] bcast_S_S8x4096x256 (constant (F := Ideal) S_ .f32 0x00000000#32)
  Host.negf (F := Ideal) (φ := .f32) (select
    (cmpf (F := Ideal) (φ := .f32) .une (subf (F := Ideal) (φ := .f32) y z) (subf (F := Ideal) (φ := .f32) y z))
    (addf (F := Ideal) (φ := .f32) y z)
    (addf (F := Ideal) (φ := .f32) (maximumf (F := Ideal) (φ := .f32) y z)
      (Host.log1p (Host.exp (Host.negf (Host.absf (subf (F := Ideal) (φ := .f32) y z)))))))

/-- A direction's gates before the logarithm of the sigmoid. -/
def refScore (o k : Nat) (hz : S8x4096x32.Slices ![0, 0, k] S8x4096x16) (hg : S2x16x256.Slices ![o, 0, 0] S1x16x256)
    (hb : S2x256.Slices ![o, 0] S1x256) (P : Vec Ideal S8x4096x2336 .f32) (G : Vec Ideal S1x2x16x256 .f32)
    (B : Vec Ideal S1x2x256 .f32) : Vec Ideal S8x4096x256 .f32 :=
  addf (F := Ideal) (φ := .f32)
    (Host.dotGeneral (F := Ideal) (φ₁ := .f32) (φ₂ := .f32) dot_S8x4096x16_S16x256_S8x4096x256_2_0_01_1_n_n none
      (extractStridedSlice S8x4096x16 ![0, 0, k]
        (extractStridedSlice S8x4096x32 ![0, 0, 1536] P slices_S8x4096x2336_S8x4096x32_0_0_1536) hz
        : FVec Ideal S8x4096x16 .f32)
      (shapeCast S16x256 (extractStridedSlice S1x16x256 ![o, 0, 0]
        (shapeCast S2x16x256 G shapeCasts_S1x2x16x256_S2x16x256) hg) shapeCasts_S1x16x256_S16x256
        : FVec Ideal S16x256 .f32))
    (broadcastInDim S8x4096x256 ![0, 1, 2] bcast_S1x1x256_S8x4096x256_0_1_2
      (broadcastInDim S1x1x256 ![2] bcast_S256_S1x1x256_2
        (shapeCast S256 (extractStridedSlice S1x256 ![o, 0] (shapeCast S2x256 B shapeCasts_S1x2x256_S2x256) hb)
          shapeCasts_S1x256_S256)))

/-- Gates as logarithms in base two over the temperature. -/
def refGate (s : Vec Ideal S8x4096x256 .f32) : Vec Ideal S8x4096x256 .f32 :=
  Host.divf (F := Ideal) (φ := .f32)
    (Host.divf (F := Ideal) (φ := .f32) (refLogSig s)
      (broadcastInDim S8x4096x256 ![] bcast_S_S8x4096x256 (constant S_ .f32 0x41800000#32)))
    (broadcastInDim S8x4096x256 ![] bcast_S_S8x4096x256 (Host.log (constant S_ .f32 0x40000000#32)))

/-- The queries by head. -/
def refQy (P : Vec Ideal S8x4096x2336 .f32) : Vec Ideal S8x4096x2x4x64 .f32 :=
  shapeCast S8x4096x2x4x64 (extractStridedSlice S8x4096x512 ![0, 0, 1568] P slices_S8x4096x2336_S8x4096x512_0_0_1568)
    shapeCasts_S8x4096x512_S8x4096x2x4x64

/-- The queries normalised, their entries in pairs. -/
def refQn (P : Vec Ideal S8x4096x2336 .f32) (g : Vec Ideal S1x64 .f32) : Vec Ideal S8x2x4x4096x32x2 .f32 :=
  shapeCast S8x2x4x4096x32x2 (transpose S8x2x4x4096x64 [0, 2, 3, 1, 4]
    (mulf (F := Ideal) (φ := .f32) (mulf (F := Ideal) (φ := .f32) (refQy P)
      (broadcastInDim S8x4096x2x4x64 ![0, 1, 2, 3, 4] bcast_S8x4096x2x4x1_S8x4096x2x4x64_0_1_2_3_4
        (Host.rsqrt (F := Ideal) (φ := .f32) (addf (F := Ideal) (φ := .f32)
          (Host.divf (F := Ideal) (φ := .f32) (broadcastInDim S8x4096x2x4x1 ![0, 1, 2, 3] bcast_S8x4096x2x4_S8x4096x2x4x1_0_1_2_3
            (Host.reduceAdd (mulf (F := Ideal) (φ := .f32) (refQy P) (refQy P)) (constant S_ .f32 0x00000000#32)
              reducesTo_S8x4096x2x4x64_S8x4096x2x4_d4 h_S_))
            (broadcastInDim S8x4096x2x4x1 ![] bcast_S_S8x4096x2x4x1 (constant S_ .f32 0x42800000#32)))
          (broadcastInDim S8x4096x2x4x1 ![] bcast_S_S8x4096x2x4x1 (constant S_ .f32 0x358637BD#32))))))
      (broadcastInDim S8x4096x2x4x64 ![0, 1, 2, 3, 4] bcast_S1x1x1x1x64_S8x4096x2x4x64_0_1_2_3_4
        (broadcastInDim S1x1x1x1x64 ![4] bcast_S64_S1x1x1x1x64_4 (shapeCast S64 g shapeCasts_S1x64_S64))))
    transposes_S8x4096x2x4x64_S8x2x4x4096x64_0_2_3_1_4) shapeCasts_S8x2x4x4096x64_S8x2x4x4096x32x2

/-- The first or the second entries of the queries' pairs. -/
def refQx (o : Nat) (h : S8x2x4x4096x32x2.Slices ![0, 0, 0, 0, 0, o] S8x2x4x4096x32x1)
    (q : Vec Ideal S8x2x4x4096x32x2 .f32) : Vec Ideal S8x2x4x4096x32 .f32 :=
  shapeCast S8x2x4x4096x32 (extractStridedSlice S8x2x4x4096x32x1 ![0, 0, 0, 0, 0, o] q h)
    shapeCasts_S8x2x4x4096x32x1_S8x2x4x4096x32

/-- A table on every query head. -/
def refQt (a : Vec Ideal S4096x32 .f32) : Vec Ideal S8x2x4x4096x32 .f32 :=
  broadcastInDim S8x2x4x4096x32 ![0, 1, 2, 3, 4] bcast_S1x1x1x4096x32_S8x2x4x4096x32_0_1_2_3_4
    (broadcastInDim S1x1x1x4096x32 ![3, 4] bcast_S4096x32_S1x1x1x4096x32_3_4 a)

/-- The queries with their pairs rotated. -/
def refQr (C S : Vec Ideal S4096x32 .f32) (q : Vec Ideal S8x2x4x4096x32x2 .f32) : Vec Ideal S8x2x4x4096x32x2 .f32 :=
  let x0 := refQx 0 slices_S8x2x4x4096x32x2_S8x2x4x4096x32x1_0_0_0_0_0_0 q
  let x1 := refQx 1 slices_S8x2x4x4096x32x2_S8x2x4x4096x32x1_0_0_0_0_0_1 q
  concatenate S8x2x4x4096x32x2 5
    [⟨S8x2x4x4096x32x1, broadcastInDim S8x2x4x4096x32x1 ![0, 1, 2, 3, 4] bcast_S8x2x4x4096x32_S8x2x4x4096x32x1_0_1_2_3_4
      (subf (F := Ideal) (φ := .f32) (mulf (F := Ideal) (φ := .f32) x0 (refQt C)) (mulf (F := Ideal) (φ := .f32) x1 (refQt S)))⟩,
    ⟨S8x2x4x4096x32x1, broadcastInDim S8x2x4x4096x32x1 ![0, 1, 2, 3, 4] bcast_S8x2x4x4096x32_S8x2x4x4096x32x1_0_1_2_3_4
      (addf (F := Ideal) (φ := .f32) (mulf (F := Ideal) (φ := .f32) x0 (refQt S)) (mulf (F := Ideal) (φ := .f32) x1 (refQt C)))⟩]
    concatenates_S8x2x4x4096x32x1_S8x2x4x4096x32x1_S8x2x4x4096x32x2_d5

/-- Rotated queries scaled and laid out. -/
def refQo (r : Vec Ideal S8x2x4x4096x32x2 .f32) : Vec Ideal S8x4096x512 .bf16 :=
  truncf (F := Ideal) (φ := .f32) .bf16 (shapeCast S8x4096x512 (transpose S8x4096x4x2x2x32 [0, 3, 2, 1, 5, 4]
    (shapeCast S8x2x4x4096x32x2 (Host.divf (F := Ideal) (φ := .f32)
      (mulf (F := Ideal) (φ := .f32) (shapeCast S8x2x4x4096x64 r shapeCasts_S8x2x4x4096x32x2_S8x2x4x4096x64)
        (broadcastInDim S8x2x4x4096x64 ![] bcast_S_S8x2x4x4096x64 (constant S_ .f32 0x3E000000#32)))
      (broadcastInDim S8x2x4x4096x64 ![] bcast_S_S8x2x4x4096x64 (Host.log (constant S_ .f32 0x40000000#32))))
      shapeCasts_S8x2x4x4096x64_S8x2x4x4096x32x2) transposes_S8x2x4x4096x32x2_S8x4096x4x2x2x32_0_3_2_1_5_4)
    shapeCasts_S8x4096x4x2x2x32_S8x4096x512) bitsLt_bf16_f32

/-- The keys by head. -/
def refKy (P : Vec Ideal S8x4096x2336 .f32) : Vec Ideal S8x4096x2x64 .f32 :=
  shapeCast S8x4096x2x64 (extractStridedSlice S8x4096x128 ![0, 0, 2080] P slices_S8x4096x2336_S8x4096x128_0_0_2080)
    shapeCasts_S8x4096x128_S8x4096x2x64

/-- The keys normalised, their entries in pairs. -/
def refKn (P : Vec Ideal S8x4096x2336 .f32) (g : Vec Ideal S1x64 .f32) : Vec Ideal S8x2x4096x32x2 .f32 :=
  shapeCast S8x2x4096x32x2 (transpose S8x2x4096x64 [0, 2, 1, 3]
    (mulf (F := Ideal) (φ := .f32) (mulf (F := Ideal) (φ := .f32) (refKy P)
      (broadcastInDim S8x4096x2x64 ![0, 1, 2, 3] bcast_S8x4096x2x1_S8x4096x2x64_0_1_2_3
        (Host.rsqrt (F := Ideal) (φ := .f32) (addf (F := Ideal) (φ := .f32)
          (Host.divf (F := Ideal) (φ := .f32) (broadcastInDim S8x4096x2x1 ![0, 1, 2] bcast_S8x4096x2_S8x4096x2x1_0_1_2
            (Host.reduceAdd (mulf (F := Ideal) (φ := .f32) (refKy P) (refKy P)) (constant S_ .f32 0x00000000#32)
              reducesTo_S8x4096x2x64_S8x4096x2_d3 h_S_))
            (broadcastInDim S8x4096x2x1 ![] bcast_S_S8x4096x2x1 (constant S_ .f32 0x42800000#32)))
          (broadcastInDim S8x4096x2x1 ![] bcast_S_S8x4096x2x1 (constant S_ .f32 0x358637BD#32))))))
      (broadcastInDim S8x4096x2x64 ![0, 1, 2, 3] bcast_S1x1x1x64_S8x4096x2x64_0_1_2_3
        (broadcastInDim S1x1x1x64 ![3] bcast_S64_S1x1x1x64_3 (shapeCast S64 g shapeCasts_S1x64_S64))))
    transposes_S8x4096x2x64_S8x2x4096x64_0_2_1_3) shapeCasts_S8x2x4096x64_S8x2x4096x32x2

/-- The first or the second entries of the keys' pairs. -/
def refKx (o : Nat) (h : S8x2x4096x32x2.Slices ![0, 0, 0, 0, o] S8x2x4096x32x1)
    (q : Vec Ideal S8x2x4096x32x2 .f32) : Vec Ideal S8x2x4096x32 .f32 :=
  shapeCast S8x2x4096x32 (extractStridedSlice S8x2x4096x32x1 ![0, 0, 0, 0, o] q h)
    shapeCasts_S8x2x4096x32x1_S8x2x4096x32

/-- A table on every key head. -/
def refKt (a : Vec Ideal S4096x32 .f32) : Vec Ideal S8x2x4096x32 .f32 :=
  broadcastInDim S8x2x4096x32 ![0, 1, 2, 3] bcast_S1x1x4096x32_S8x2x4096x32_0_1_2_3
    (broadcastInDim S1x1x4096x32 ![2, 3] bcast_S4096x32_S1x1x4096x32_2_3 a)

/-- The keys with their pairs rotated. -/
def refKr (C S : Vec Ideal S4096x32 .f32) (q : Vec Ideal S8x2x4096x32x2 .f32) : Vec Ideal S8x2x4096x32x2 .f32 :=
  let x0 := refKx 0 slices_S8x2x4096x32x2_S8x2x4096x32x1_0_0_0_0_0 q
  let x1 := refKx 1 slices_S8x2x4096x32x2_S8x2x4096x32x1_0_0_0_0_1 q
  concatenate S8x2x4096x32x2 4
    [⟨S8x2x4096x32x1, broadcastInDim S8x2x4096x32x1 ![0, 1, 2, 3] bcast_S8x2x4096x32_S8x2x4096x32x1_0_1_2_3
      (subf (F := Ideal) (φ := .f32) (mulf (F := Ideal) (φ := .f32) x0 (refKt C)) (mulf (F := Ideal) (φ := .f32) x1 (refKt S)))⟩,
    ⟨S8x2x4096x32x1, broadcastInDim S8x2x4096x32x1 ![0, 1, 2, 3] bcast_S8x2x4096x32_S8x2x4096x32x1_0_1_2_3
      (addf (F := Ideal) (φ := .f32) (mulf (F := Ideal) (φ := .f32) x0 (refKt S)) (mulf (F := Ideal) (φ := .f32) x1 (refKt C)))⟩]
    concatenates_S8x2x4096x32x1_S8x2x4096x32x1_S8x2x4096x32x2_d4

/-- Rotated keys laid out. -/
def refKo (r : Vec Ideal S8x2x4096x32x2 .f32) : Vec Ideal S8x4096x128 .bf16 :=
  truncf (F := Ideal) (φ := .f32) .bf16 (shapeCast S8x4096x128 (transpose S8x4096x2x2x32 [0, 2, 1, 4, 3]
    (shapeCast S8x2x4096x32x2 (shapeCast S8x2x4096x64 r shapeCasts_S8x2x4096x32x2_S8x2x4096x64)
      shapeCasts_S8x2x4096x64_S8x2x4096x32x2) transposes_S8x2x4096x32x2_S8x4096x2x2x32_0_2_1_4_3)
    shapeCasts_S8x4096x2x2x32_S8x4096x128) bitsLt_bf16_f32

/-- A head's values. -/
def refVh (o : Nat) (h : S8x2x4096x64.Slices ![0, o, 0, 0] S8x1x4096x64) (P : Vec Ideal S8x4096x2336 .f32) :
    Vec Ideal S8x4096x64 .f32 :=
  shapeCast S8x4096x64 (extractStridedSlice S8x1x4096x64 ![0, o, 0, 0] (transpose S8x2x4096x64 [0, 2, 1, 3]
    (shapeCast S8x4096x2x64 (extractStridedSlice S8x4096x128 ![0, 0, 2208] P slices_S8x4096x2336_S8x4096x128_0_0_2208)
      shapeCasts_S8x4096x128_S8x4096x2x64) transposes_S8x4096x2x64_S8x2x4096x64_0_2_1_3) h)
    shapeCasts_S8x1x4096x64_S8x4096x64

/-- The values beside ones. -/
def refVo (P : Vec Ideal S8x4096x2336 .f32) : Vec Ideal S8x4096x256 .bf16 :=
  let u := broadcastInDim S8x4096x64 ![] bcast_S_S8x4096x64 (constant (F := Ideal) S_ .f32 0x3F800000#32)
  truncf (F := Ideal) (φ := .f32) .bf16 (concatenate S8x4096x256 2
    [⟨S8x4096x64, refVh 0 slices_S8x2x4096x64_S8x1x4096x64_0_0_0_0 P⟩, ⟨S8x4096x64, u⟩, ⟨S8x4096x64, u⟩,
      ⟨S8x4096x64, refVh 1 slices_S8x2x4096x64_S8x1x4096x64_0_1_0_0 P⟩]
    concatenates_S8x4096x64_S8x4096x64_S8x4096x64_S8x4096x64_S8x4096x256_d2) bitsLt_bf16_f32

/-- The scan's queries. -/
def refGq (P : Vec Ideal S8x4096x2336 .f32) : Vec Ideal S8x4096x256 .bf16 :=
  truncf (F := Ideal) (φ := .f32) .bf16 (mulf (F := Ideal) (φ := .f32)
    (extractStridedSlice S8x4096x256 ![0, 0, 0] P slices_S8x4096x2336_S8x4096x256_0_0_0)
    (broadcastInDim S8x4096x256 ![] bcast_S_S8x4096x256 (constant S_ .f32 0x3E000000#32))) bitsLt_bf16_f32

/-- The scan's keys, values and output gates: columns of the products. -/
def refCols (w o : Nat) (h : S8x4096x2336.Slices ![0, 0, o] ⟨3, ![8, 4096, w]⟩) (P : Vec Ideal S8x4096x2336 .f32) :
    Vec Ideal ⟨3, ![8, 4096, w]⟩ .bf16 :=
  truncf (F := Ideal) (φ := .f32) .bf16 (extractStridedSlice ⟨3, ![8, 4096, w]⟩ ![0, 0, o] P h) bitsLt_bf16_f32

section Results

variable (m : (ℓ : Loc nD τ sig) → Buf (Elt Ideal) ℓ) (c : Dev nD)

/-- The reference's products as its operations compose them. -/
abbrev refP : Vec Ideal S8x4096x2336 .f32 :=
  refProduct (m ((c.tc : Thread nD τ).loc main_arg0)) (m ((c.tc : Thread nD τ).loc main_arg1))
    (m ((c.tc : Thread nD τ).loc main_arg2)) (m ((c.tc : Thread nD τ).loc main_arg3))

/-- The forward gates. -/
def resGf : Vec Ideal S8x4096x256 .f32 :=
  refGate (refScore 0 0 slices_S8x4096x32_S8x4096x16_0_0_0 slices_S2x16x256_S1x16x256_0_0_0 slices_S2x256_S1x256_0_0
    (refP m c) (m ((c.tc : Thread nD τ).loc main_arg4)) (m ((c.tc : Thread nD τ).loc main_arg5)))

/-- The backward gates. -/
def resGb : Vec Ideal S8x4096x256 .f32 :=
  refGate (refScore 1 16 slices_S8x4096x32_S8x4096x16_0_0_16 slices_S2x16x256_S1x16x256_1_0_0 slices_S2x256_S1x256_1_0
    (refP m c) (m ((c.tc : Thread nD τ).loc main_arg4)) (m ((c.tc : Thread nD τ).loc main_arg5)))

/-- The attention's queries. -/
def resAq : Vec Ideal S8x4096x512 .bf16 :=
  refQo (refQr (m ((c.tc : Thread nD τ).loc main_arg8)) (m ((c.tc : Thread nD τ).loc main_arg9))
    (refQn (refP m c) (m ((c.tc : Thread nD τ).loc main_arg6))))

/-- The attention's keys. -/
def resAk : Vec Ideal S8x4096x128 .bf16 :=
  refKo (refKr (m ((c.tc : Thread nD τ).loc main_arg8)) (m ((c.tc : Thread nD τ).loc main_arg9))
    (refKn (refP m c) (m ((c.tc : Thread nD τ).loc main_arg7))))

end Results

/-- An entry of the products. -/
theorem refProduct_apply (X : Vec Ideal S8x4096x1024 .f32) (M : Vec Ideal S2x16x6144 .f32) (N : Vec Ideal S2x1024 .f32)
    (W : Vec Ideal S1x1024x2336 .f32) (b : Fin 8) (t : Fin 4096) (k : Fin 2336) :
    refProduct X M N W (ix3 b t k) = ∑ e, modulated (fun d => M (ix3 0 ⟨b.val, by omega⟩ ⟨d.val, by omega⟩))
      (fun d => M (ix3 0 ⟨b.val, by omega⟩ ⟨1024 + d.val, by omega⟩)) (fun d => N (ix2 0 d)) (fun d => X (ix3 b t d)) e
        * W (ix3 0 e k) := by
  unfold refProduct refNormed
  pointwise
  refine Finset.sum_congr rfl fun e _ => congrArg (· * _) ?_
  rw [hostModulated_apply]
  pointwise
  simp only [First.refMods_apply, First.refGain_apply]

/-- Two. -/
theorem ofBits_two : Ideal.ofBits .f32 0x40000000#32 = ((2 : ℝ) : EReal) := by
  simp [Ideal.ofBits, Ideal.ieee]
  rw [← EReal.coe_mul]
  norm_num

/-- A quotient by a logarithm of two. -/
theorem div_log_two (x : EReal) :
    Ideal.div x (Ideal.log (Ideal.ofBits .f32 0x40000000#32)) = x * (((Real.log 2)⁻¹ : ℝ) : EReal) := by
  have h0 : ((Real.log 2 : ℝ) : EReal) ≠ 0 := EReal.coe_ne_zero.2 (Real.log_pos one_lt_two).ne'
  rw [ofBits_two, Odd.log_coe two_pos, Ideal.div, if_neg h0, EReal.coe_inv]

/-- The logarithm of the sigmoid, at an entry. -/
theorem refLogSig_apply (s : Vec Ideal S8x4096x256 .f32) (b : Fin 8) (t : Fin 4096) (d : Fin 256) :
    refLogSig s (ix3 b t d) = Odd.logSig (s (ix3 b t d)) := by
  unfold refLogSig Odd.logSig Odd.logAddExp
  pointwise
  exact congrArg (-·) (if_neg fun h => h rfl)

/-- A gate. -/
theorem refGate_apply (s : Vec Ideal S8x4096x256 .f32) (b : Fin 8) (t : Fin 4096) (d : Fin 256) :
    refGate s (ix3 b t d) = Ideal.div (Odd.logSig (s (ix3 b t d))) (Ideal.ofBits .f32 0x41800000#32)
      * (((Real.log 2)⁻¹ : ℝ) : EReal) := by
  rw [← div_log_two, ← refLogSig_apply]
  unfold refGate
  pointwise

/-- A direction's gate before the logarithm of the sigmoid. -/
theorem refScore_apply (o k : Nat) (ho : o < 2) (hk : k + 16 ≤ 32) (hz : S8x4096x32.Slices ![0, 0, k] S8x4096x16)
    (hg : S2x16x256.Slices ![o, 0, 0] S1x16x256) (hb : S2x256.Slices ![o, 0] S1x256) (P : Vec Ideal S8x4096x2336 .f32)
    (G : Vec Ideal S1x2x16x256 .f32) (B : Vec Ideal S1x2x256 .f32) (b : Fin 8) (t : Fin 4096) (d : Fin 256) :
    refScore o k hz hg hb P G B (ix3 b t d)
      = (∑ z : Fin 16, P (ix3 b t ⟨1536 + (k + z.val), by omega⟩) * G (ix4 0 ⟨o, ho⟩ z d)) + B (ix3 0 ⟨o, ho⟩ d) := by
  unfold refScore
  pointwise

/-- A head's row over the root of its mean square, with a gain. -/
def headRms (y g : Fin 64 → EReal) (d : Fin 64) : EReal :=
  y d * Ideal.rsqrt (Ideal.div (∑ e, y e * y e) (Ideal.ofBits .f32 0x42800000#32) + Ideal.ofBits .f32 0x358637BD#32) * g d

/-- A pair's first or second entry rotated. -/
def turned (c s x0 x1 : EReal) (h : Nat) : EReal := if h = 0 then x0 * c - x1 * s else x0 * s + x1 * c

/-- A head's queries. -/
theorem refQy_apply (P : Vec Ideal S8x4096x2336 .f32) (b : Fin 8) (t : Fin 4096) (v : Fin 2) (j : Fin 4) (e : Fin 64) :
    refQy P (ix5 b t v j e) = P (ix3 b t ⟨1568 + ((v.val * 4 + j.val) * 64 + e.val), by omega⟩) := by
  unfold refQy
  pointwise
  exact congrArg (fun k => P (ix3 b t k)) (Fin.ext (by simp only; omega))

/-- A normalised query's entry. -/
theorem refQn_apply (P : Vec Ideal S8x4096x2336 .f32) (g : Vec Ideal S1x64 .f32) (b : Fin 8) (t : Fin 4096) (v : Fin 2)
    (j : Fin 4) (i : Fin 32) (h : Fin 2) : refQn P g (ix6 b v j t i h)
      = headRms (fun e => refQy P (ix5 b t v j e)) (fun e => g (ix2 0 e)) ⟨i.val * 2 + h.val, by omega⟩ := by
  unfold refQn headRms
  pointwise

/-- A rotated query's entry. -/
theorem refQr_apply (C S : Vec Ideal S4096x32 .f32) (q : Vec Ideal S8x2x4x4096x32x2 .f32) (b : Fin 8) (t : Fin 4096)
    (v : Fin 2) (j : Fin 4) (i : Fin 32) (h : Fin 2) : refQr C S q (ix6 b v j t i h)
      = turned (C (ix2 t i)) (S (ix2 t i)) (q (ix6 b v j t i 0)) (q (ix6 b v j t i 1)) h.val := by
  unfold refQr refQx refQt turned
  pointwise
  by_cases e : h.val = 0
  · exact (dif_pos (by omega)).trans (if_pos e).symm
  · exact (dif_neg (by omega)).trans (if_neg e).symm

/-- An entry of the queries laid out. -/
theorem refQo_apply (r : Vec Ideal S8x2x4x4096x32x2 .f32) (b : Fin 8) (t : Fin 4096) (d : Fin 512) :
    refQo r (ix3 b t d) = r (ix6 b ⟨d.val / 64 % 2, by omega⟩ ⟨d.val / 128, by omega⟩ t ⟨d.val % 32, by omega⟩
      ⟨d.val / 32 % 2, by omega⟩) * Ideal.ofBits .f32 0x3E000000#32 * (((Real.log 2)⁻¹ : ℝ) : EReal) := by
  rw [← div_log_two]
  unfold refQo
  pointwise
  refine congrArg (fun x => Ideal.div (x * _) _) (congrArg₂ (fun i h => r (ix6 b _ _ t i h)) (Fin.ext ?_) (Fin.ext ?_)) <;>
    simp only <;> omega

/-- A head's keys. -/
theorem refKy_apply (P : Vec Ideal S8x4096x2336 .f32) (b : Fin 8) (t : Fin 4096) (v : Fin 2) (e : Fin 64) :
    refKy P (ix4 b t v e) = P (ix3 b t ⟨2080 + (v.val * 64 + e.val), by omega⟩) := by
  unfold refKy
  pointwise

/-- A normalised key's entry. -/
theorem refKn_apply (P : Vec Ideal S8x4096x2336 .f32) (g : Vec Ideal S1x64 .f32) (b : Fin 8) (t : Fin 4096) (v : Fin 2)
    (i : Fin 32) (h : Fin 2) : refKn P g (ix5 b v t i h)
      = headRms (fun e => refKy P (ix4 b t v e)) (fun e => g (ix2 0 e)) ⟨i.val * 2 + h.val, by omega⟩ := by
  unfold refKn headRms
  pointwise

/-- A rotated key's entry. -/
theorem refKr_apply (C S : Vec Ideal S4096x32 .f32) (q : Vec Ideal S8x2x4096x32x2 .f32) (b : Fin 8) (t : Fin 4096)
    (v : Fin 2) (i : Fin 32) (h : Fin 2) : refKr C S q (ix5 b v t i h)
      = turned (C (ix2 t i)) (S (ix2 t i)) (q (ix5 b v t i 0)) (q (ix5 b v t i 1)) h.val := by
  unfold refKr refKx refKt turned
  pointwise
  by_cases e : h.val = 0
  · exact (dif_pos (by omega)).trans (if_pos e).symm
  · exact (dif_neg (by omega)).trans (if_neg e).symm

/-- An entry of the keys laid out. -/
theorem refKo_apply (r : Vec Ideal S8x2x4096x32x2 .f32) (b : Fin 8) (t : Fin 4096) (d : Fin 128) :
    refKo r (ix3 b t d) = r (ix5 b ⟨d.val / 64, by omega⟩ t ⟨d.val % 32, by omega⟩ ⟨d.val / 32 % 2, by omega⟩) := by
  unfold refKo
  pointwise

/-- An entry of the values beside ones. -/
theorem refVo_apply (P : Vec Ideal S8x4096x2336 .f32) (b : Fin 8) (t : Fin 4096) (d : Fin 256) :
    refVo P (ix3 b t d) = if d.val < 64 ∨ 192 ≤ d.val then P (ix3 b t ⟨2208 + d.val % 128, by omega⟩) else 1 := by
  unfold refVo refVh
  pointwise
  by_cases h : d.val < 64
  · refine (dif_pos h).trans (Eq.trans ?_ (if_pos (Or.inl h)).symm)
    exact congrArg (fun k => P (ix3 b t k)) (Fin.ext (by simp only; omega))
  refine (dif_neg h).trans ?_
  by_cases h1 : d.val - 64 < 64
  · exact (dif_pos h1).trans (if_neg (by omega)).symm
  refine (dif_neg h1).trans ?_
  by_cases h2 : d.val - 64 - 64 < 64
  · exact (dif_pos h2).trans (if_neg (by omega)).symm
  refine (dif_neg h2).trans (Eq.trans ?_ (if_pos (by omega)).symm)
  exact congrArg (fun k => P (ix3 b t k)) (Fin.ext (by simp only; omega))

end Even

end
-- ==== Proof.EvenEquation.lean ====
module

public import proofs.«01_k».proof.Proof.EvenHost
public import proofs.«01_k».proof.Proof.EvenRef

@[expose] public section

/-! The kernel before the first layer's mixers leaves what its reference leaves. -/

set_option maxRecDepth 16384

noncomputable section

namespace Even

open Cert.Kernel5Ideal Cert.Kernel5Ideal.Gen Cert.Kernel5Ideal.Value Idealize.ShloMosaic Idealize.ShloMosaic.TcCoe
  Idealize.ShloMosaic.StableHlo Post

/-- Sixteen. -/
theorem ofBits_sixteen : Ideal.ofBits .f32 0x41800000#32 = ((16 : ℝ) : EReal) := by
  simp [Ideal.ofBits, Ideal.ieee]
  rw [← EReal.coe_mul]
  norm_num

/-- Sixty-four. -/
theorem ofBits_sixtyfour : Ideal.ofBits .f32 0x42800000#32 = ((64 : ℝ) : EReal) := by
  simp [Ideal.ofBits, Ideal.ieee]
  rw [← EReal.coe_mul]
  norm_num

/-- A sixty-fourth. -/
theorem ofBits_mean : Ideal.ofBits .f32 0x3C800000#32 = ((64⁻¹ : ℝ) : EReal) := by
  simp [Ideal.ofBits, Ideal.ieee]
  rw [← EReal.coe_mul]
  norm_num

/-- An eighth. -/
theorem ofBits_eighth : Ideal.ofBits .f32 0x3E000000#32 = ((8⁻¹ : ℝ) : EReal) := by
  simp [Ideal.ofBits, Ideal.ieee]
  rw [← EReal.coe_mul]
  norm_num

/-- A quotient by a real number other than nought. -/
theorem div_real (x : EReal) {r : ℝ} (h : r ≠ 0) : Ideal.div x (r : EReal) = x * ((r⁻¹ : ℝ) : EReal) := by
  rw [Ideal.div, if_neg (EReal.coe_ne_zero.2 h), EReal.coe_inv]

/-- The kernel's logarithm of the sigmoid is the reference's. -/
theorem logSig_eq (s : EReal) : min s 0 - Ideal.log1p (Ideal.exp (0 - max s (-s))) = Odd.logSig s := by
  have h0 : Ideal.log1p (Ideal.exp ⊥) = 0 := by
    show Ideal.log1p 0 = 0
    rw [← EReal.coe_zero, Odd.log1p_coe (by norm_num)]
    norm_num
  induction s with
  | bot =>
    rw [Odd.logSig_bot, EReal.neg_bot, max_eq_right bot_le, min_eq_left bot_le, zero_sub, EReal.neg_top, h0, sub_zero]
  | top =>
    rw [Odd.logSig_top, EReal.neg_top, max_eq_left bot_le, min_eq_right le_top, zero_sub, zero_sub, EReal.neg_top, h0,
      neg_zero]
  | coe r =>
    rw [Odd.logSig_coe, ← EReal.coe_neg, Odd.max_coe, zero_sub, ← EReal.coe_neg, Odd.exp_coe,
      Odd.log1p_coe (by positivity), ← EReal.coe_zero, ← EReal.coe_strictMono.monotone.map_min, ← EReal.coe_sub]
    refine congrArg _ ?_
    rcases le_total 0 r with h | h
    · rw [min_eq_right h, max_eq_left (by linarith), zero_sub]
    · rw [min_eq_left h, max_eq_right (by linarith), neg_neg]
      have e : 1 + Real.exp (-r) = Real.exp (-r) * (1 + Real.exp r) := by
        rw [mul_add, ← Real.exp_add, neg_add_cancel, Real.exp_zero, mul_one, add_comm]
      rw [e, Real.log_mul (Real.exp_pos _).ne' (by positivity), Real.log_exp]
      ring

/-- The kernel's gate is the reference's. -/
theorem gate_eq (s : EReal) : gate s
    = Ideal.div (Odd.logSig s) (Ideal.ofBits .f32 0x41800000#32) * (((Real.log 2)⁻¹ : ℝ) : EReal) := by
  unfold gate
  rw [logSig_eq, ofBits_sixteen, div_real _ (by norm_num), mul_assoc, ← EReal.coe_mul, mul_inv]

/-- The queries' scale. -/
theorem scale_eq (x : EReal) : x * (((8 * Real.log 2)⁻¹ : ℝ) : EReal)
    = x * Ideal.ofBits .f32 0x3E000000#32 * (((Real.log 2)⁻¹ : ℝ) : EReal) := by
  rw [ofBits_eighth, mul_assoc, ← EReal.coe_mul, mul_inv]

/-- A sum times a real number that is not negative. -/
theorem sum_mul_real {ι : Type*} (s : Finset ι) (f : ι → EReal) {r : ℝ} (h : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.2 h) (EReal.coe_ne_top r)]

/-- A lane holds an even entry in the first half of its head and an odd one in the second. -/
theorem pick_parts (d : Nat) : pick d / 2 = d % 32 ∧ pick d % 2 = d / 32 % 2 ∧ d / 32 / 2 = d / 64 := by
  refine ⟨?_, ?_, Nat.div_div_eq_div_mul _ _ _⟩ <;> unfold pick <;> omega

/-- The partner of a lane in the first half of its head. -/
theorem other_first {n : Nat} (hn : 64 ∣ n) (d : Fin n) (h : d.val % 64 < 32) : (other hn d).val = d.val + 32 := by
  have hd := d.isLt
  rw [other, if_pos h]
  refine Nat.mod_eq_of_lt ?_
  obtain ⟨q, hq⟩ := hn
  omega

/-- The partner of a lane in the second half of its head. -/
theorem other_second {n : Nat} (hn : 64 ∣ n) (d : Fin n) (h : ¬ d.val % 64 < 32) : (other hn d).val = d.val - 32 := by
  rw [other, if_neg h]

/-- The lane of a lane's head that holds an entry. -/
def held {n : Nat} (hn : 64 ∣ n) (d : Fin n) (x : Fin 64) : Fin n :=
  ⟨d.val / 64 * 64 + (x.val % 2 * 32 + x.val / 2), by have h := d.isLt; omega⟩

/-- The entry that lane holds. -/
theorem pick_held : ∀ x : Fin 64, pick (x.val % 2 * 32 + x.val / 2) = x.val := by
  decide

/-- A head's weighted squares are its mean square. -/
theorem headNorm_eq {n : Nat} (hn : 64 ∣ n) {bd : Fin n → Fin n → EReal} {g y : Fin n → EReal} {Y G : Fin 64 → EReal}
    (d : Fin n) (hb : ∀ e, bd e d = if e.val / 64 = d.val / 64 then Ideal.ofBits .f32 0x3C800000#32 else 0)
    (hg : g d = G ⟨pick d.val, pick_lt _⟩)
    (hy : ∀ e : Fin n, e.val / 64 = d.val / 64 → y e = Y ⟨pick e.val, pick_lt _⟩) :
    headNorm bd g y d = headRms Y G ⟨pick d.val, pick_lt _⟩ := by
  have hs : (∑ e, y e * y e * bd e d) = Ideal.div (∑ e, Y e * Y e) (Ideal.ofBits .f32 0x42800000#32) := by
    rw [ofBits_sixtyfour, div_real _ (by norm_num), sum_mul_real _ _ (by norm_num)]
    symm
    refine Finset.sum_of_injOn (held hn d) (fun a _ b _ h => ?_) (fun _ _ => Finset.mem_coe.2 (Finset.mem_univ _))
      (fun e _ he => ?_) fun x _ => ?_
    · have := congrArg Fin.val h
      simp only [held] at this
      exact Fin.ext (by omega)
    · rw [hb, if_neg, mul_zero]
      intro h
      refine he ⟨⟨pick e.val, pick_lt _⟩, Finset.mem_coe.2 (Finset.mem_univ _), Fin.ext ?_⟩
      obtain ⟨h1, h2, h3⟩ := pick_parts e.val
      simp only [held, h1, h2]
      omega
    · have h : (held hn d x).val / 64 = d.val / 64 := by
        simp only [held]
        omega
      have hx : (⟨pick (held hn d x).val, pick_lt _⟩ : Fin 64) = x := Fin.ext (by
        have hl := x.isLt
        have hm : (held hn d x).val % 64 = x.val % 2 * 32 + x.val / 2 := by
          simp only [held]
          omega
        show pick (held hn d x).val = x.val
        rw [← pick_mod, hm]
        exact pick_held x)
      rw [hb, if_pos h, hy _ h, hx, ofBits_mean]
  unfold headNorm headRms
  rw [hs, hg, hy d rfl]

/-- A rotated lane is its pair's rotated entry. -/
theorem rotate_eq {n : Nat} (hn : 64 ∣ n) {cs sn : Fin 128 → EReal} {C S : Fin 32 → EReal}
    (hc : ∀ k, cs k = C ⟨k.val % 32, Nat.mod_lt _ (by norm_num)⟩)
    (hs : ∀ k : Fin 128, sn k = if k.val % 64 < 32 then -S ⟨k.val % 32, Nat.mod_lt _ (by norm_num)⟩
      else S ⟨k.val % 32, Nat.mod_lt _ (by norm_num)⟩) {z : Fin n → EReal} {H : Fin 64 → EReal} (d : Fin n)
    (hz : ∀ e : Fin n, e.val / 64 = d.val / 64 → z e = H ⟨pick e.val, pick_lt _⟩) :
    rotate hn cs sn z d = turned (C ⟨d.val % 32, Nat.mod_lt _ (by norm_num)⟩) (S ⟨d.val % 32, Nat.mod_lt _ (by norm_num)⟩)
      (H ⟨d.val % 32 * 2 + (0 : Fin 2).val, by have := (0 : Fin 2).isLt; omega⟩)
      (H ⟨d.val % 32 * 2 + (1 : Fin 2).val, by have := (1 : Fin 2).isLt; omega⟩) (d.val / 32 % 2) := by
  have hd := d.isLt
  have hl : (⟨(lane d).val % 32, Nat.mod_lt _ (by norm_num)⟩ : Fin 32) = ⟨d.val % 32, Nat.mod_lt _ (by norm_num)⟩ :=
    Fin.ext (by simp only [lane]; omega)
  have ho : (other hn d).val / 64 = d.val / 64 := by
    by_cases h : d.val % 64 < 32
    · rw [other_first hn d h]
      omega
    · rw [other_second hn d h]
      omega
  unfold rotate turned
  rw [hc, hs, hl, hz d rfl, hz _ ho]
  by_cases h : d.val % 64 < 32
  · have e0 : (⟨pick d.val, pick_lt _⟩ : Fin 64) = ⟨d.val % 32 * 2 + (0 : Fin 2).val, by
        have := (0 : Fin 2).isLt; omega⟩ := Fin.ext (by
      show pick d.val = d.val % 32 * 2 + 0
      unfold pick
      omega)
    have e1 : (⟨pick (other hn d).val, pick_lt _⟩ : Fin 64) = ⟨d.val % 32 * 2 + (1 : Fin 2).val, by
        have := (1 : Fin 2).isLt; omega⟩ := Fin.ext (by
      show pick (other hn d).val = d.val % 32 * 2 + 1
      rw [other_first hn d h]
      unfold pick
      omega)
    rw [e0, e1, if_pos (by simp only [lane]; omega), if_pos (by omega), mul_neg, ← sub_eq_add_neg]
  · have e0 : (⟨pick d.val, pick_lt _⟩ : Fin 64) = ⟨d.val % 32 * 2 + (1 : Fin 2).val, by
        have := (1 : Fin 2).isLt; omega⟩ := Fin.ext (by
      show pick d.val = d.val % 32 * 2 + 1
      unfold pick
      omega)
    have e1 : (⟨pick (other hn d).val, pick_lt _⟩ : Fin 64) = ⟨d.val % 32 * 2 + (0 : Fin 2).val, by
        have := (0 : Fin 2).isLt; omega⟩ := Fin.ext (by
      show pick (other hn d).val = d.val % 32 * 2 + 0
      rw [other_second hn d h]
      unfold pick
      omega)
    rw [e0, e1, if_neg (by simp only [lane]; omega), if_neg (by omega), add_comm]

variable (m : (ℓ : Loc nD τ sig) → Buf (Elt Ideal) ℓ) (c : Dev nD)

/-- The reference's products of the kernel's arguments. -/
abbrev kerP : Vec Ideal Cert.Reference5Ideal.S8x4096x2336 .f32 :=
  refProduct (argX m c) (argM m c) (argN m c) (argW m c)

/-- The kernel's rows of the arguments. -/
theorem row_eq (b : Fin 8) (t : Fin 4096) :
    row m c b t = Post.modulated (fun d => argM m c (ix3 0 ⟨b.val, by omega⟩ ⟨d.val, by omega⟩))
      (fun d => argM m c (ix3 0 ⟨b.val, by omega⟩ ⟨1024 + d.val, by omega⟩)) (fun d => argN m c (ix2 0 d))
      (fun d => argX m c (ix3 b t d)) := by
  have e (o : Nat) (ho : 1024 * o + 1024 ≤ 6144) (q : Nat) (hq : 1024 * o = q) :
      part (fun k => hostM m c (ix3 ⟨b.val, by omega⟩ 0 k)) o ho
        = fun d => argM m c (ix3 0 ⟨b.val, by omega⟩ ⟨q + d.val, by omega⟩) := by
    subst hq
    funext d
    unfold part
    exact hostM_apply m c b _
  have e0 : (fun d : Fin 1024 => argM m c (ix3 0 ⟨b.val, by omega⟩ ⟨0 + d.val, by omega⟩))
      = fun d => argM m c (ix3 0 ⟨b.val, by omega⟩ ⟨d.val, by omega⟩) :=
    funext fun d => congrArg (fun k => argM m c (ix3 0 _ k)) (Fin.ext (Nat.zero_add _))
  have e2 : (fun d => hostN m c (ix2 0 d)) = fun d => argN m c (ix2 0 d) := funext (hostN_apply m c)
  unfold row normed
  rw [e 0 _ 0 rfl, e 1 _ 1024 rfl, e0, e2]

/-- The kernel's products are the reference's, at the columns the weights were permuted from. -/
theorem prod_eq (b : Fin 8) (t : Fin 4096) (k j : Fin 2336) (h : source k.val = j.val) :
    prod (hostW m c) (row m c b t) k = kerP m c (ix3 b t j) := by
  have hj : column k = j := Fin.ext h
  unfold kerP
  rw [row_eq, refProduct_apply]
  unfold prod
  refine Finset.sum_congr rfl fun e _ => congrArg _ ?_
  rw [hostW_apply, hj]

/-- An array whose entries are the kernel's. -/
theorem eq_entries {w : Nat} {e : EltTy} {E : Entry w e} {R : Vec Ideal ⟨3, ![8, 4096, w]⟩ e}
    (h : ∀ (b : Fin 8) (t : Fin 4096) (d : Fin w), R (ix3 b t d)
      = E (row m c b t) (fun k => hostCos m c (ix2 t k)) (fun k => hostSin m c (ix2 t k)) d) : R = entries m e c E := by
  funext i
  obtain ⟨b, t, d, rfl⟩ : ∃ (b : Fin 8) (t : Fin 4096) (d : Fin w), i = ix3 b t d := ⟨i 0, i 1, i 2, eq_ix3 i⟩
  exact h b t d

/-- The scan's queries. -/
theorem refGq_eq : refGq (kerP m c) = entries m .bf16 c (entryGq m c) := by
  refine eq_entries m c (e := .bf16) fun b t d => ?_
  unfold entryGq
  rw [prod_eq m c b t _ ⟨d.val, by omega⟩ (by unfold source; simp only; split_ifs <;> omega)]
  unfold refGq
  pointwise

/-- Columns of the products. -/
theorem refCols_apply (w o : Nat) (ho : o + w ≤ 2336) (h : Cert.Reference5Ideal.S8x4096x2336.Slices ![0, 0, o] ⟨3, ![8, 4096, w]⟩)
    (P : Vec Ideal Cert.Reference5Ideal.S8x4096x2336 .f32) (b : Fin 8) (t : Fin 4096) (d : Fin w) :
    refCols w o h P (ix3 b t d) = P (ix3 b t ⟨o + d.val, by omega⟩) := by
  unfold refCols
  pointwise

/-- The scan's keys. -/
theorem refGk_eq (h) : refCols 256 256 h (kerP m c) = entries m .bf16 c (entryGk m c) :=
  eq_entries m c (e := .bf16) fun b t d => (refCols_apply 256 256 (by norm_num) h _ b t d).trans
    (prod_eq m c b t _ _ (by unfold source; simp only; split_ifs <;> omega)).symm

/-- The scan's values. -/
theorem refGv_eq (h) : refCols 512 512 h (kerP m c) = entries m .bf16 c (entryGv m c) :=
  eq_entries m c (e := .bf16) fun b t d => (refCols_apply 512 512 (by norm_num) h _ b t d).trans
    (prod_eq m c b t _ _ (by unfold source; simp only; split_ifs <;> omega)).symm

/-- The scan's output gates. -/
theorem refGog_eq (h) : refCols 512 1024 h (kerP m c) = entries m .bf16 c (entryGog m c) :=
  eq_entries m c (e := .bf16) fun b t d => (refCols_apply 512 1024 (by norm_num) h _ b t d).trans
    (prod_eq m c b t _ _ (by unfold source; simp only; split_ifs <;> omega)).symm

/-- A direction's gates. -/
theorem refGate_eq (o k : Nat) (ho : o < 2) (hk : k = 16 * o) (hz hg hb) (b : Fin 8) (t : Fin 4096) (d : Fin 256) :
    refGate (refScore o k hz hg hb (kerP m c) (argG m c) (argB m c)) (ix3 b t d)
      = entryG m c (row m c b t) ⟨256 * o + d.val, by omega⟩ := by
  rw [refGate_apply, refScore_apply o k ho (by omega)]
  unfold entryG
  rw [gate_eq, hostB_apply]
  have e1 : (⟨(256 * o + d.val) / 256, by omega⟩ : Fin 2) = ⟨o, ho⟩ := Fin.ext (by simp only; omega)
  have e2 : (⟨(256 * o + d.val) % 256, Nat.mod_lt _ (by norm_num)⟩ : Fin 256) = d := Fin.ext (by simp only; omega)
  have hs : (∑ z : Fin 32, prod (hostW m c) (row m c b t) ⟨2304 + z.val, by omega⟩ * hostG m c (ix2 z ⟨256 * o + d.val, by omega⟩))
      = ∑ z : Fin 16, kerP m c (ix3 b t ⟨1536 + (k + z.val), by omega⟩) * argG m c (ix4 0 ⟨o, ho⟩ z d) := by
    symm
    refine Finset.sum_of_injOn (fun z : Fin 16 => (⟨k + z.val, by omega⟩ : Fin 32)) (fun a _ b _ h => ?_)
      (fun _ _ => Finset.mem_coe.2 (Finset.mem_univ _)) (fun z _ hz => ?_) fun z _ => ?_
    · have := congrArg Fin.val h
      simp only at this
      exact Fin.ext (by omega)
    · rw [hostG_apply, if_neg, mul_zero]
      intro h
      simp only at h
      refine hz ⟨⟨z.val % 16, Nat.mod_lt _ (by norm_num)⟩, Finset.mem_coe.2 (Finset.mem_univ _), Fin.ext ?_⟩
      simp only
      omega
    · rw [hostG_apply, if_pos (by simp only; omega), prod_eq m c b t _ ⟨1536 + (k + z.val), by omega⟩
        (by unfold source; simp only; split_ifs <;> omega)]
      refine congrArg _ ?_
      rw [e1, e2]
      exact congrArg (fun z => argG m c (ix4 0 _ z d)) (Fin.ext (by simp only; omega))
  rw [hs]
  refine congrArg (fun x => Ideal.div (Odd.logSig (_ + x)) _ * _) ?_
  rw [← e1]
  exact congrArg (fun d => argB m c (ix3 0 _ d)) e2.symm

/-- The scan's forward gates. -/
theorem refGf_eq (hz hg hb) : refGate (refScore 0 0 hz hg hb (kerP m c) (argG m c) (argB m c))
    = entries m .f32 c (entryGf m c) :=
  eq_entries m c (e := .f32) fun b t d => (refGate_eq m c 0 0 (by norm_num) rfl hz hg hb b t d).trans
    (congrArg (entryG m c _) (Fin.ext (by simp only; omega)))

/-- The scan's backward gates. -/
theorem refGb_eq (hz hg hb) : refGate (refScore 1 16 hz hg hb (kerP m c) (argG m c) (argB m c))
    = entries m .f32 c (entryGb m c) :=
  eq_entries m c (e := .f32) fun b t d => (refGate_eq m c 1 16 (by norm_num) rfl hz hg hb b t d).trans
    (congrArg (entryG m c _) (Fin.ext (by simp only)))

/-- The attention's queries. -/
theorem refAq_eq (hp : Cert.Pre_Kernel5Ideal_head_means m) :
    refQo (refQr (argC m c) (argS m c) (refQn (kerP m c) (argQ m c)))
    = entries m .bf16 c (entryAq m c) := by
  refine eq_entries m c (e := .bf16) fun b t d => ?_
  rw [refQo_apply, refQr_apply, refQn_apply, refQn_apply]
  unfold entryAq
  rw [scale_eq]
  refine congrArg (· * _ * _) (Eq.symm ?_)
  refine rotate_eq (C := fun k => argC m c (ix2 t k)) (S := fun k => argS m c (ix2 t k)) _ (hostCos_apply m c t)
    (hostSin_apply m c t) d fun e he => ?_
  refine headNorm_eq (by norm_num) e (fun x => hostBq_apply m c hp x e) (hostQn_apply m c e) fun x hx => ?_
  rw [refQy_apply]
  refine prod_eq m c b t _ _ ?_
  unfold source
  simp only [pick]
  have := x.isLt
  split_ifs <;> omega

/-- The attention's keys. -/
theorem refAk_eq (hp : Cert.Pre_Kernel5Ideal_head_means m) :
    refKo (refKr (argC m c) (argS m c) (refKn (kerP m c) (argK m c)))
    = entries m .bf16 c (entryAk m c) := by
  refine eq_entries m c (e := .bf16) fun b t d => ?_
  rw [refKo_apply, refKr_apply, refKn_apply, refKn_apply]
  unfold entryAk
  refine Eq.symm ?_
  refine rotate_eq (C := fun k => argC m c (ix2 t k)) (S := fun k => argS m c (ix2 t k)) _ (hostCos_apply m c t)
    (hostSin_apply m c t) d fun e he => ?_
  refine headNorm_eq (by norm_num) e (fun x => hostBk_apply m c hp x e) (hostKn_apply m c e) fun x hx => ?_
  rw [refKy_apply]
  refine prod_eq m c b t _ _ ?_
  unfold source
  simp only [pick]
  have := x.isLt
  split_ifs <;> omega

/-- The attention's values beside ones. -/
theorem refAv_eq : refVo (kerP m c) = entries m .bf16 c (entryAv m c) := by
  refine eq_entries m c (e := .bf16) fun b t d => ?_
  rw [refVo_apply]
  unfold entryAv valueAt
  have k : prod (hostW m c) (row m c b t) ⟨2176 + d.val % 128, by omega⟩ = kerP m c (ix3 b t ⟨2208 + d.val % 128, by omega⟩) :=
    prod_eq m c b t _ _ (by unfold source; simp only; split_ifs <;> omega)
  by_cases h : d.val < 64
  · rw [if_pos (Or.inl h), if_pos h]
    exact k.symm
  by_cases h1 : d.val < 192
  · rw [if_neg (by omega), if_neg h, if_pos h1]
  · rw [if_pos (by omega), if_neg h, if_neg h1]
    exact k.symm

end Even

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_finite_scores
public import proofs.«01_k».proof.Proof.Gen.Pre_finite_bounds
public import proofs.«01_k».proof.Proof.Gen.ReferenceIdeal.Run
public import proofs.«01_k».proof.Proof.Equation
public import proofs.«01_k».proof.Proof.Gen.Kernel2.Frame
public import proofs.«01_k».proof.Proof.Gen.Kernel2Ideal.Value
public import proofs.«01_k».proof.Proof.Gen.Reference2Ideal.Run
public import proofs.«01_k».proof.Proof.LastEquation
public import proofs.«01_k».proof.Proof.Gen.Kernel3.Frame
public import proofs.«01_k».proof.Proof.Gen.Kernel3Ideal.Value
public import proofs.«01_k».proof.Proof.Gen.Reference3Ideal.Run
public import proofs.«01_k».proof.Proof.FirstEquation
public import proofs.«01_k».proof.Proof.Gen.Kernel4.Frame
public import proofs.«01_k».proof.Proof.Gen.Kernel4Ideal.Value
public import proofs.«01_k».proof.Proof.Gen.Reference4Ideal.Run
public import proofs.«01_k».proof.Proof.OddEquation
public import proofs.«01_k».proof.Proof.Gen.Kernel5.Frame
public import proofs.«01_k».proof.Proof.Gen.Kernel5Ideal.Value
public import proofs.«01_k».proof.Proof.Gen.Reference5Ideal.Run
public import proofs.«01_k».proof.Proof.EvenEquation
public import Idealize.ShloMosaic.Adequacy
public import Idealize.ShloMosaic.Init
public import Idealize.ShloMosaic.Lib.Quiescent

@[expose] public section

/-! The certificate's claim, from the frames of the programs and the equation of their results. -/

noncomputable section

namespace Cert.Proof

open Idealize.ShloMosaic Idealize.SL.Sem

/-- The attention's reference runs to the end, keeps its arguments and leaves every counter at zero. -/
theorem quiescent_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named scale is the constant the kernel holds in its place. -/
theorem preserves_scale : preserves_Kernel_KernelIdeal :=
  IdealRules.named_const.statement Cert.KernelIdeal.κ "scale" .f32 0x3E38AA3B#32
    (((8 * (Real.log 2))⁻¹ : ℝ) : EReal) rfl

/-- The attention's kernel and its reference leave the same result for finite queries and keys. -/
theorem algebraic_attention : algebraic_KernelIdeal_ReferenceIdeal_pre_finite_scores := by
  intro m ρ m' ρ' hpre hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  rw [(h c).1, (hagree c).1, (hagree c).2.1, (hagree c).2.2]
  exact (Attention.result_eq m c (hpre c)).symm

/-- The last layer's reference runs to the end, keeps its arguments and leaves every counter at zero. -/
theorem quiescent_reference2 : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel after the last mixer and its reference leave the same result. -/
theorem algebraic_last : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩)
    (Cert.Reference2Ideal.Value.run (F := Ideal) m' ρ')
  obtain ⟨h0, h1, h2, h3, h4, h5, h6, h7, h8, h9⟩ := hagree c
  refine ((h c).1.trans (Post.Last.res_eq m' c)).trans ?_
  rw [h0, h1, h2, h3, h4, h5, h6, h7, h8, h9, Post.Last.array_eq]
  exact (Post.Last.result_eq m c).symm

/-- The first layer's reference runs to the end, keeps its arguments and leaves every counter at zero. -/
theorem quiescent_reference3 : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel after the first mixers and its reference leave the same result. -/
theorem algebraic_first : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩)
    (Cert.Reference3Ideal.Value.run (F := Ideal) m' ρ')
  obtain ⟨h0, h1, h2, h3, h4, h5, h6, h7, h8, h9⟩ := hagree c
  refine ((h c).1.trans (Post.First.res_eq m' c)).trans ?_
  rw [h0, h1, h2, h3, h4, h5, h6, h7, h8, h9, Post.First.array_eq]
  exact (Post.First.result_eq m c).symm

/-- The reference before the last mixer runs to the end, keeps its arguments and leaves every counter at zero. -/
theorem quiescent_reference4 : quiescent_Reference4Ideal := fun m ρ _ =>
  (θ_run Cert.Reference4Ideal.defs _ _).mono
    (fun r h => ⟨fun c => (h c).2.2.2.2.2.2.2, sem_eq_zero_of_no_sems (by decide) r.2⟩)
    (Cert.Reference4Ideal.Value.run (F := Ideal) m ρ)

/-- The named reciprocal of the logarithm of two is the constant the kernel holds in its place. -/
theorem preserves_per_log2 : preserves_Kernel4_Kernel4Ideal :=
  IdealRules.named_const.statement Cert.Kernel4Ideal.κ "per_log2" .f32 0x3FB8AA3B#32
    (((Real.log 2)⁻¹ : ℝ) : EReal) rfl

/-- The kernel before the last mixer and its reference leave the same results. -/
theorem algebraic_odd : algebraic_Kernel4Ideal_Reference4Ideal_pre_finite_bounds := by
  intro m ρ m' ρ' hpre hagree
  refine ⟨_, _, _, _, _, _, _, Cert.Kernel4Ideal.Value.run_blocks (F := Ideal) m ρ, ?_⟩
  refine (θ_run Cert.Reference4Ideal.defs _ _).mono (fun _ h c => ?_)
    (Cert.Reference4Ideal.Value.run (F := Ideal) m' ρ')
  obtain ⟨q, kf, kb, gf, gb, v, og, args⟩ := h c
  obtain ⟨rq, rkf, rkb, rgf, rgb⟩ := Odd.res_eq m' c
  obtain ⟨h0, h1, h2, h3, h4⟩ := hagree c
  have hP : Odd.refP m' c = Odd.kerP m c := by
    unfold Odd.refP Odd.kerP
    rw [h0, h1, h2, h3]
  have hf : Odd.refBf m' c = Odd.refBound 0 _ (Odd.argB m c) := congrArg (Odd.refBound 0 _) h4
  have hb : Odd.refBb m' c = Odd.refBound 1 _ (Odd.argB m c) := congrArg (Odd.refBound 1 _) h4
  rw [hP] at rq
  rw [hP, hf] at rkf rgf
  rw [hP, hb] at rkb rgb
  refine ⟨(q.trans rq).trans ((Odd.refQ_eq m c).trans (Odd.array_q m c).symm),
    (kf.trans rkf).trans ((Odd.refK_eq m c hpre 1024 _ _ 0 _).trans (Odd.array_kf m c).symm),
    (kb.trans rkb).trans ((Odd.refK_eq m c hpre 2048 _ _ 1 _).trans (Odd.array_kb m c).symm),
    (gf.trans rgf).trans ((Odd.refG_eq m c hpre 1024 _ _ 0 _).trans (Odd.array_gf m c).symm),
    (gb.trans rgb).trans ((Odd.refG_eq m c hpre 2048 _ _ 1 _).trans (Odd.array_gb m c).symm),
    (v.trans (congrArg (Odd.refV 3072 _) hP)).trans ((Odd.refV_eq m c 3072 _ _).trans (Odd.array_v m c).symm),
    (og.trans (congrArg (Odd.refV 4096 _) hP)).trans ((Odd.refV_eq m c 4096 _ _).trans (Odd.array_og m c).symm), args⟩

/-- The reference before the first mixers runs to the end, keeps its arguments and leaves every counter at zero. -/
theorem quiescent_reference5 : quiescent_Reference5Ideal := fun m ρ _ =>
  (θ_run Cert.Reference5Ideal.defs _ _).mono
    (fun r h => ⟨fun c => (h c).2.2.2.2.2.2.2.2.2, sem_eq_zero_of_no_sems (by decide) r.2⟩)
    (Cert.Reference5Ideal.Value.run (F := Ideal) m ρ)

/-- The named scale and reciprocal of the temperature are the constants the kernel holds in their places. -/
theorem preserves_scale_per_tau : preserves_Kernel5_Kernel5Ideal :=
  ⟨IdealRules.named_const.statement Cert.Kernel5Ideal.κ "scale" .f32 0x3E38AA3B#32
    (((8 * (Real.log 2))⁻¹ : ℝ) : EReal) rfl,
  IdealRules.named_const.statement Cert.Kernel5Ideal.κ "per_tau" .f32 0x3DB8AA3B#32
    (((16 * (Real.log 2))⁻¹ : ℝ) : EReal) rfl⟩

set_option maxHeartbeats 4000000 in  -- nine results, each read to its entries
/-- The kernel before the first mixers and its reference leave the same results. -/
theorem algebraic_even : algebraic_Kernel5Ideal_Reference5Ideal_pre_head_means := by
  intro m ρ m' ρ' hpre hagree
  refine ⟨_, _, _, _, _, _, _, _, _, Cert.Kernel5Ideal.Value.run_blocks (F := Ideal) m ρ, ?_⟩
  refine (θ_run Cert.Reference5Ideal.defs _ _).mono (fun _ h c => ?_)
    (Cert.Reference5Ideal.Value.run (F := Ideal) m' ρ')
  obtain ⟨gq, gk, gv, gog, gf, gb, aq, ak, av, args⟩ := h c
  obtain ⟨h0, h1, h2, h3, h4, h5, h6, h7, h8, h9, _, _⟩ := hagree c
  have hP : Even.refP m' c = Even.kerP m c := by
    unfold Even.refP Even.kerP
    rw [h0, h1, h2, h3]
  refine ⟨Eq.trans (b := Even.refGq (Even.refP m' c)) gq ?_, Eq.trans (b := Even.refCols 256 256 _ (Even.refP m' c)) gk ?_,
    Eq.trans (b := Even.refCols 512 512 _ (Even.refP m' c)) gv ?_,
    Eq.trans (b := Even.refCols 512 1024 _ (Even.refP m' c)) gog ?_,
    Eq.trans (b := Even.resGf m' c) gf ?_,
    Eq.trans (b := Even.resGb m' c) gb ?_,
    Eq.trans (b := Even.resAq m' c) aq ?_,
    Eq.trans (b := Even.resAk m' c) ak ?_,
    Eq.trans (b := Even.refVo (Even.refP m' c)) av ?_, args⟩
  · rw [hP, Even.array_gq, Even.refGq_eq]
  · rw [hP, Even.array_gk, Even.refGk_eq]
  · rw [hP, Even.array_gv, Even.refGv_eq]
  · rw [hP, Even.array_gog, Even.refGog_eq]
  · unfold Even.resGf
    rw [hP, h4, h5, Even.array_gf, Even.refGf_eq]
  · unfold Even.resGb
    rw [hP, h4, h5, Even.array_gb, Even.refGb_eq]
  · unfold Even.resAq
    rw [hP, h6, h8, h9, Even.array_aq, Even.refAq_eq m c hpre]
  · unfold Even.resAk
    rw [hP, h7, h8, h9, Even.array_ak, Even.refAk_eq m c hpre]
  · rw [hP, Even.array_av, Even.refAv_eq]

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite_scores.Gen.facts, Cert.Pre_finite_bounds.Gen.facts, Even.means_facts,
  fun m ρ _ => Cert.Kernel.Gen.frame m ρ, fun m ρ _ => Cert.KernelIdeal.Gen.frame m ρ,
  fun m ρ _ => Cert.KernelIdeal.Gen.frame m ρ, quiescent_reference, fun m ρ _ => quiescent_reference m ρ trivial,
  fun m ρ _ => Cert.Kernel2.Gen.frame m ρ, fun m ρ _ => Cert.Kernel2Ideal.Gen.frame m ρ, quiescent_reference2,
  fun m ρ _ => Cert.Kernel3.Gen.frame m ρ, fun m ρ _ => Cert.Kernel3Ideal.Gen.frame m ρ, quiescent_reference3,
  fun m ρ _ => Cert.Kernel4.Gen.frame m ρ, fun m ρ _ => Cert.Kernel4Ideal.Gen.frame m ρ,
  fun m ρ _ => Cert.Kernel4Ideal.Gen.frame m ρ, quiescent_reference4, fun m ρ _ => quiescent_reference4 m ρ trivial,
  fun m ρ _ => Cert.Kernel5.Gen.frame m ρ, fun m ρ _ => Cert.Kernel5Ideal.Gen.frame m ρ,
  fun m ρ _ => Cert.Kernel5Ideal.Gen.frame m ρ, quiescent_reference5, fun m ρ _ => quiescent_reference5 m ρ trivial,
  preserves_scale, algebraic_attention, trivial, algebraic_last, trivial, algebraic_first,
  preserves_per_log2, algebraic_odd, preserves_scale_per_tau, algebraic_even⟩

end Cert.Proof

end
